-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x8192 : Shape := ⟨3, ![2, 512, 8192]⟩
abbrev S2x2x512x512 : Shape := ⟨4, ![2, 2, 512, 512]⟩
abbrev S2x512x1024 : Shape := ⟨3, ![2, 512, 1024]⟩
abbrev S8x8x128 : Shape := ⟨3, ![8, 8, 128]⟩
abbrev S2x2x4 : Shape := ⟨3, ![2, 2, 4]⟩
abbrev S8 : Shape := ⟨1, ![8]⟩
abbrev S2x2 : Shape := ⟨2, ![2, 2]⟩
abbrev S4 : Shape := ⟨1, ![4]⟩
abbrev S_ : Shape := ⟨0, ![]⟩
abbrev S1x1 : Shape := ⟨2, ![1, 1]⟩
abbrev S1x1x512x512 : Shape := ⟨4, ![1, 1, 512, 512]⟩
abbrev S512x512 : Shape := ⟨2, ![512, 512]⟩
abbrev S512x1024 : Shape := ⟨2, ![512, 1024]⟩
abbrev S1x512x1024 : Shape := ⟨3, ![1, 512, 1024]⟩
abbrev S1x1x1 : Shape := ⟨3, ![1, 1, 1]⟩
abbrev S1 : Shape := ⟨1, ![1]⟩
abbrev S1x8x128 : Shape := ⟨3, ![1, 8, 128]⟩
abbrev S1x8x8x128 : Shape := ⟨4, ![1, 8, 8, 128]⟩
abbrev S1x1x1x1 : Shape := ⟨4, ![1, 1, 1, 1]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S512x8192, .f32⟩
  | .local _ .vmem, ⟨1, _⟩ => ⟨S2x512x8192, .bf16⟩
  | .local _ .vmem, ⟨2, _⟩ => ⟨S512x8192, .f32⟩
  | .local _ .vmem, ⟨3, _⟩ => ⟨S2x2x512x512, .f32⟩
  | .local _ .vmem, ⟨4, _⟩ => ⟨S2x512x1024, .f32⟩
  | .local _ .vmem, ⟨5, _⟩ => ⟨S8x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 17 57 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_sem0_0 : DmaSem sig := 0
abbrev barrier0 : Sem sig := 16

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v13 : BitVec 32 := Scalar.addi v2 c16_i32
  let c1_i32_10 : BitVec 32 := 1#32
  let v14 : BitVec 32 := Scalar.subi v13 c1_i32_10
  let v15 : BitVec 32 := Scalar.subi v14 c0_i32_11
  let c8_i32_12 : BitVec 32 := 8#32
  let v16 : BitVec 32 := Scalar.remsi v15 c8_i32_12
  let c512_i32 : BitVec 32 := 512#32
  let v20 : BitVec 32 := Scalar.muli v16 c512_i32
  let c0_i32_22 : BitVec 32 := 0#32
  ![v20.toNat, 0]
def k0_off2 (d0 : Dev nD) (c0_i32_14 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v17 : BitVec 32 := Scalar.addi v2 c1_i32_13
  let v18 : BitVec 32 := Scalar.addi v17 c0_i32_14
  let c8_i32_15 : BitVec 32 := 8#32
  let v19 : BitVec 32 := Scalar.remsi v18 c8_i32_15
  let c512_i32_23 : BitVec 32 := 512#32
  let v26 : BitVec 32 := Scalar.muli v19 c512_i32_23
  let c0_i32_30 : BitVec 32 := 0#32
  ![v26.toNat, 0]
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_75 : BitVec 32 := 1#32
  let v64 : BitVec 32 := Scalar.muli v7 c1_i32_75
  let v65 : BitVec 32 := Scalar.addi c0_i32_76 v64
  v65.toNat
def k0_dev4 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_95 : BitVec 32 := 1#32
  let v80 : BitVec 32 := Scalar.muli v5 c1_i32_95
  let v81 : BitVec 32 := Scalar.addi c0_i32_96 v80
  v81.toNat
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_117 : BitVec 32 := 1#32
  let v99 : BitVec 32 := Scalar.muli v7 c1_i32_117
  let v100 : BitVec 32 := Scalar.addi c0_i32_118 v99
  v100.toNat
def k0_dev6 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_139 : BitVec 32 := 1#32
  let v118 : BitVec 32 := Scalar.muli v5 c1_i32_139
  let v119 : BitVec 32 := Scalar.addi c0_i32_140 v118
  v119.toNat
def k0_dev7 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_161 : BitVec 32 := 1#32
  let v137 : BitVec 32 := Scalar.muli v7 c1_i32_161
  let v138 : BitVec 32 := Scalar.addi c0_i32_162 v137
  v138.toNat
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_183 : BitVec 32 := 1#32
  let v156 : BitVec 32 := Scalar.muli v5 c1_i32_183
  let v157 : BitVec 32 := Scalar.addi c0_i32_184 v156
  v157.toNat
def k0_dev9 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_204 : BitVec 32 := 1#32
  let v175 : BitVec 32 := Scalar.muli v7 c1_i32_204
  let v176 : BitVec 32 := Scalar.addi c0_i32_205 v175
  v176.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_226 : BitVec 32 := 1#32
  let v194 : BitVec 32 := Scalar.muli v5 c1_i32_226
  let v195 : BitVec 32 := Scalar.addi c0_i32_227 v194
  v195.toNat
def k0_dev11 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_328 : BitVec 32 := 1#32
  let v275 : BitVec 32 := Scalar.muli v5 c1_i32_328
  let v276 : BitVec 32 := Scalar.addi c0_i32_329 v275
  v276.toNat
def k0_dev12 (d0 : Dev nD) : Nat :=
  let c0_i32_344 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_343 : BitVec 32 := 1#32
  let v279 : BitVec 32 := Scalar.muli v7 c1_i32_343
  let v280 : BitVec 32 := Scalar.addi c0_i32_344 v279
  v280.toNat
def k0_dev13 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_389 : BitVec 32 := 1#32
  let v315 : BitVec 32 := Scalar.muli v7 c1_i32_389
  let v316 : BitVec 32 := Scalar.addi c0_i32_390 v315
  v316.toNat
def k0_dev14 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_404 : BitVec 32 := 1#32
  let v319 : BitVec 32 := Scalar.muli v5 c1_i32_404
  let v320 : BitVec 32 := Scalar.addi c0_i32_405 v319
  v320.toNat
def k0_dev15 (d0 : Dev nD) : Nat :=
  let c0_i32_455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_454 : BitVec 32 := 1#32
  let v358 : BitVec 32 := Scalar.muli v5 c1_i32_454
  let v359 : BitVec 32 := Scalar.addi c0_i32_455 v358
  v359.toNat
def k0_dev16 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_469 : BitVec 32 := 1#32
  let v362 : BitVec 32 := Scalar.muli v7 c1_i32_469
  let v363 : BitVec 32 := Scalar.addi c0_i32_470 v362
  v363.toNat
def k0_dev17 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_519 : BitVec 32 := 1#32
  let v401 : BitVec 32 := Scalar.muli v7 c1_i32_519
  let v402 : BitVec 32 := Scalar.addi c0_i32_520 v401
  v402.toNat
def k0_dev18 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_534 : BitVec 32 := 1#32
  let v405 : BitVec 32 := Scalar.muli v5 c1_i32_534
  let v406 : BitVec 32 := Scalar.addi c0_i32_535 v405
  v406.toNat
def k0_dev19 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_584 : BitVec 32 := 1#32
  let v444 : BitVec 32 := Scalar.muli v5 c1_i32_584
  let v445 : BitVec 32 := Scalar.addi c0_i32_585 v444
  v445.toNat
def k0_dev20 (d0 : Dev nD) : Nat :=
  let c0_i32_600 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_599 : BitVec 32 := 1#32
  let v448 : BitVec 32 := Scalar.muli v7 c1_i32_599
  let v449 : BitVec 32 := Scalar.addi c0_i32_600 v448
  v449.toNat
def k0_dev21 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_649 : BitVec 32 := 1#32
  let v487 : BitVec 32 := Scalar.muli v7 c1_i32_649
  let v488 : BitVec 32 := Scalar.addi c0_i32_650 v487
  v488.toNat
def k0_dev22 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_664 : BitVec 32 := 1#32
  let v491 : BitVec 32 := Scalar.muli v5 c1_i32_664
  let v492 : BitVec 32 := Scalar.addi c0_i32_665 v491
  v492.toNat
def k0_dev23 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_714 : BitVec 32 := 1#32
  let v530 : BitVec 32 := Scalar.muli v5 c1_i32_714
  let v531 : BitVec 32 := Scalar.addi c0_i32_715 v530
  v531.toNat
def k0_dev24 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_729 : BitVec 32 := 1#32
  let v534 : BitVec 32 := Scalar.muli v7 c1_i32_729
  let v535 : BitVec 32 := Scalar.addi c0_i32_730 v534
  v535.toNat
def k0_dev25 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_779 : BitVec 32 := 1#32
  let v573 : BitVec 32 := Scalar.muli v7 c1_i32_779
  let v574 : BitVec 32 := Scalar.addi c0_i32_780 v573
  v574.toNat
def k0_dev26 (d0 : Dev nD) : Nat :=
  let c0_i32_795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_794 : BitVec 32 := 1#32
  let v577 : BitVec 32 := Scalar.muli v5 c1_i32_794
  let v578 : BitVec 32 := Scalar.addi c0_i32_795 v577
  v578.toNat
def k0_dev27 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_897 : BitVec 32 := 1#32
  let v658 : BitVec 32 := Scalar.muli v5 c1_i32_897
  let v659 : BitVec 32 := Scalar.addi c0_i32_898 v658
  v659.toNat
def k0_dev28 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_912 : BitVec 32 := 1#32
  let v662 : BitVec 32 := Scalar.muli v7 c1_i32_912
  let v663 : BitVec 32 := Scalar.addi c0_i32_913 v662
  v663.toNat
def k0_dev29 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_958 : BitVec 32 := 1#32
  let v698 : BitVec 32 := Scalar.muli v7 c1_i32_958
  let v699 : BitVec 32 := Scalar.addi c0_i32_959 v698
  v699.toNat
def k0_dev30 (d0 : Dev nD) : Nat :=
  let c0_i32_974 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_973 : BitVec 32 := 1#32
  let v702 : BitVec 32 := Scalar.muli v5 c1_i32_973
  let v703 : BitVec 32 := Scalar.addi c0_i32_974 v702
  v703.toNat
def k0_dev31 (d0 : Dev nD) : Nat :=
  let c0_i32_1024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1023 : BitVec 32 := 1#32
  let v741 : BitVec 32 := Scalar.muli v5 c1_i32_1023
  let v742 : BitVec 32 := Scalar.addi c0_i32_1024 v741
  v742.toNat
def k0_dev32 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1038 : BitVec 32 := 1#32
  let v745 : BitVec 32 := Scalar.muli v7 c1_i32_1038
  let v746 : BitVec 32 := Scalar.addi c0_i32_1039 v745
  v746.toNat
def k0_dev33 (d0 : Dev nD) : Nat :=
  let c0_i32_1089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1088 : BitVec 32 := 1#32
  let v784 : BitVec 32 := Scalar.muli v7 c1_i32_1088
  let v785 : BitVec 32 := Scalar.addi c0_i32_1089 v784
  v785.toNat
def k0_dev34 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1103 : BitVec 32 := 1#32
  let v788 : BitVec 32 := Scalar.muli v5 c1_i32_1103
  let v789 : BitVec 32 := Scalar.addi c0_i32_1104 v788
  v789.toNat
def k0_dev35 (d0 : Dev nD) : Nat :=
  let c0_i32_1154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1153 : BitVec 32 := 1#32
  let v827 : BitVec 32 := Scalar.muli v5 c1_i32_1153
  let v828 : BitVec 32 := Scalar.addi c0_i32_1154 v827
  v828.toNat
def k0_dev36 (d0 : Dev nD) : Nat :=
  let c0_i32_1169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1168 : BitVec 32 := 1#32
  let v831 : BitVec 32 := Scalar.muli v7 c1_i32_1168
  let v832 : BitVec 32 := Scalar.addi c0_i32_1169 v831
  v832.toNat
def k0_dev37 (d0 : Dev nD) : Nat :=
  let c0_i32_1219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1218 : BitVec 32 := 1#32
  let v870 : BitVec 32 := Scalar.muli v7 c1_i32_1218
  let v871 : BitVec 32 := Scalar.addi c0_i32_1219 v870
  v871.toNat
def k0_dev38 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1233 : BitVec 32 := 1#32
  let v874 : BitVec 32 := Scalar.muli v5 c1_i32_1233
  let v875 : BitVec 32 := Scalar.addi c0_i32_1234 v874
  v875.toNat
def k0_dev39 (d0 : Dev nD) : Nat :=
  let c0_i32_1284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1283 : BitVec 32 := 1#32
  let v913 : BitVec 32 := Scalar.muli v5 c1_i32_1283
  let v914 : BitVec 32 := Scalar.addi c0_i32_1284 v913
  v914.toNat
def k0_dev40 (d0 : Dev nD) : Nat :=
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1298 : BitVec 32 := 1#32
  let v917 : BitVec 32 := Scalar.muli v7 c1_i32_1298
  let v918 : BitVec 32 := Scalar.addi c0_i32_1299 v917
  v918.toNat
def k0_dev41 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1348 : BitVec 32 := 1#32
  let v956 : BitVec 32 := Scalar.muli v7 c1_i32_1348
  let v957 : BitVec 32 := Scalar.addi c0_i32_1349 v956
  v957.toNat
def k0_dev42 (d0 : Dev nD) : Nat :=
  let c0_i32_1364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1363 : BitVec 32 := 1#32
  let v960 : BitVec 32 := Scalar.muli v5 c1_i32_1363
  let v961 : BitVec 32 := Scalar.addi c0_i32_1364 v960
  v961.toNat
def k0_dev43 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1466 : BitVec 32 := 1#32
  let v1041 : BitVec 32 := Scalar.muli v5 c1_i32_1466
  let v1042 : BitVec 32 := Scalar.addi c0_i32_1467 v1041
  v1042.toNat
def k0_dev44 (d0 : Dev nD) : Nat :=
  let c0_i32_1482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1481 : BitVec 32 := 1#32
  let v1045 : BitVec 32 := Scalar.muli v7 c1_i32_1481
  let v1046 : BitVec 32 := Scalar.addi c0_i32_1482 v1045
  v1046.toNat
def k0_dev45 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1527 : BitVec 32 := 1#32
  let v1081 : BitVec 32 := Scalar.muli v7 c1_i32_1527
  let v1082 : BitVec 32 := Scalar.addi c0_i32_1528 v1081
  v1082.toNat
def k0_dev46 (d0 : Dev nD) : Nat :=
  let c0_i32_1543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1542 : BitVec 32 := 1#32
  let v1085 : BitVec 32 := Scalar.muli v5 c1_i32_1542
  let v1086 : BitVec 32 := Scalar.addi c0_i32_1543 v1085
  v1086.toNat
def k0_dev47 (d0 : Dev nD) : Nat :=
  let c0_i32_1593 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1592 : BitVec 32 := 1#32
  let v1124 : BitVec 32 := Scalar.muli v5 c1_i32_1592
  let v1125 : BitVec 32 := Scalar.addi c0_i32_1593 v1124
  v1125.toNat
def k0_dev48 (d0 : Dev nD) : Nat :=
  let c0_i32_1608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1607 : BitVec 32 := 1#32
  let v1128 : BitVec 32 := Scalar.muli v7 c1_i32_1607
  let v1129 : BitVec 32 := Scalar.addi c0_i32_1608 v1128
  v1129.toNat
def k0_dev49 (d0 : Dev nD) : Nat :=
  let c0_i32_1658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1657 : BitVec 32 := 1#32
  let v1167 : BitVec 32 := Scalar.muli v7 c1_i32_1657
  let v1168 : BitVec 32 := Scalar.addi c0_i32_1658 v1167
  v1168.toNat
def k0_dev50 (d0 : Dev nD) : Nat :=
  let c0_i32_1673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1672 : BitVec 32 := 1#32
  let v1171 : BitVec 32 := Scalar.muli v5 c1_i32_1672
  let v1172 : BitVec 32 := Scalar.addi c0_i32_1673 v1171
  v1172.toNat
def k0_dev51 (d0 : Dev nD) : Nat :=
  let c0_i32_1723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1722 : BitVec 32 := 1#32
  let v1210 : BitVec 32 := Scalar.muli v5 c1_i32_1722
  let v1211 : BitVec 32 := Scalar.addi c0_i32_1723 v1210
  v1211.toNat
def k0_dev52 (d0 : Dev nD) : Nat :=
  let c0_i32_1738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1737 : BitVec 32 := 1#32
  let v1214 : BitVec 32 := Scalar.muli v7 c1_i32_1737
  let v1215 : BitVec 32 := Scalar.addi c0_i32_1738 v1214
  v1215.toNat
def k0_dev53 (d0 : Dev nD) : Nat :=
  let c0_i32_1788 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1787 : BitVec 32 := 1#32
  let v1253 : BitVec 32 := Scalar.muli v7 c1_i32_1787
  let v1254 : BitVec 32 := Scalar.addi c0_i32_1788 v1253
  v1254.toNat
def k0_dev54 (d0 : Dev nD) : Nat :=
  let c0_i32_1803 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1802 : BitVec 32 := 1#32
  let v1257 : BitVec 32 := Scalar.muli v5 c1_i32_1802
  let v1258 : BitVec 32 := Scalar.addi c0_i32_1803 v1257
  v1258.toNat
def k0_dev55 (d0 : Dev nD) : Nat :=
  let c0_i32_1853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1852 : BitVec 32 := 1#32
  let v1296 : BitVec 32 := Scalar.muli v5 c1_i32_1852
  let v1297 : BitVec 32 := Scalar.addi c0_i32_1853 v1296
  v1297.toNat
def k0_dev56 (d0 : Dev nD) : Nat :=
  let c0_i32_1868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1867 : BitVec 32 := 1#32
  let v1300 : BitVec 32 := Scalar.muli v7 c1_i32_1867
  let v1301 : BitVec 32 := Scalar.addi c0_i32_1868 v1300
  v1301.toNat
def k0_dev57 (d0 : Dev nD) : Nat :=
  let c0_i32_1918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1917 : BitVec 32 := 1#32
  let v1339 : BitVec 32 := Scalar.muli v7 c1_i32_1917
  let v1340 : BitVec 32 := Scalar.addi c0_i32_1918 v1339
  v1340.toNat
def k0_dev58 (d0 : Dev nD) : Nat :=
  let c0_i32_1933 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1932 : BitVec 32 := 1#32
  let v1343 : BitVec 32 := Scalar.muli v5 c1_i32_1932
  let v1344 : BitVec 32 := Scalar.addi c0_i32_1933 v1343
  v1344.toNat
def k0_dev59 (d0 : Dev nD) : Nat :=
  let c0_i32_2035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2034 : BitVec 32 := 1#32
  let v1424 : BitVec 32 := Scalar.muli v5 c1_i32_2034
  let v1425 : BitVec 32 := Scalar.addi c0_i32_2035 v1424
  v1425.toNat
def k0_dev60 (d0 : Dev nD) : Nat :=
  let c0_i32_2050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2049 : BitVec 32 := 1#32
  let v1428 : BitVec 32 := Scalar.muli v7 c1_i32_2049
  let v1429 : BitVec 32 := Scalar.addi c0_i32_2050 v1428
  v1429.toNat
def k0_dev61 (d0 : Dev nD) : Nat :=
  let c0_i32_2096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2095 : BitVec 32 := 1#32
  let v1464 : BitVec 32 := Scalar.muli v7 c1_i32_2095
  let v1465 : BitVec 32 := Scalar.addi c0_i32_2096 v1464
  v1465.toNat
def k0_dev62 (d0 : Dev nD) : Nat :=
  let c0_i32_2111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2110 : BitVec 32 := 1#32
  let v1468 : BitVec 32 := Scalar.muli v5 c1_i32_2110
  let v1469 : BitVec 32 := Scalar.addi c0_i32_2111 v1468
  v1469.toNat
def k0_dev63 (d0 : Dev nD) : Nat :=
  let c0_i32_2161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2160 : BitVec 32 := 1#32
  let v1507 : BitVec 32 := Scalar.muli v5 c1_i32_2160
  let v1508 : BitVec 32 := Scalar.addi c0_i32_2161 v1507
  v1508.toNat
def k0_dev64 (d0 : Dev nD) : Nat :=
  let c0_i32_2176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2175 : BitVec 32 := 1#32
  let v1511 : BitVec 32 := Scalar.muli v7 c1_i32_2175
  let v1512 : BitVec 32 := Scalar.addi c0_i32_2176 v1511
  v1512.toNat
def k0_dev65 (d0 : Dev nD) : Nat :=
  let c0_i32_2226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2225 : BitVec 32 := 1#32
  let v1550 : BitVec 32 := Scalar.muli v7 c1_i32_2225
  let v1551 : BitVec 32 := Scalar.addi c0_i32_2226 v1550
  v1551.toNat
def k0_dev66 (d0 : Dev nD) : Nat :=
  let c0_i32_2241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2240 : BitVec 32 := 1#32
  let v1554 : BitVec 32 := Scalar.muli v5 c1_i32_2240
  let v1555 : BitVec 32 := Scalar.addi c0_i32_2241 v1554
  v1555.toNat
def k0_dev67 (d0 : Dev nD) : Nat :=
  let c0_i32_2291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2290 : BitVec 32 := 1#32
  let v1593 : BitVec 32 := Scalar.muli v5 c1_i32_2290
  let v1594 : BitVec 32 := Scalar.addi c0_i32_2291 v1593
  v1594.toNat
def k0_dev68 (d0 : Dev nD) : Nat :=
  let c0_i32_2306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2305 : BitVec 32 := 1#32
  let v1597 : BitVec 32 := Scalar.muli v7 c1_i32_2305
  let v1598 : BitVec 32 := Scalar.addi c0_i32_2306 v1597
  v1598.toNat
def k0_dev69 (d0 : Dev nD) : Nat :=
  let c0_i32_2356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2355 : BitVec 32 := 1#32
  let v1636 : BitVec 32 := Scalar.muli v7 c1_i32_2355
  let v1637 : BitVec 32 := Scalar.addi c0_i32_2356 v1636
  v1637.toNat
def k0_dev70 (d0 : Dev nD) : Nat :=
  let c0_i32_2371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2370 : BitVec 32 := 1#32
  let v1640 : BitVec 32 := Scalar.muli v5 c1_i32_2370
  let v1641 : BitVec 32 := Scalar.addi c0_i32_2371 v1640
  v1641.toNat
def k0_dev71 (d0 : Dev nD) : Nat :=
  let c0_i32_2421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2420 : BitVec 32 := 1#32
  let v1679 : BitVec 32 := Scalar.muli v5 c1_i32_2420
  let v1680 : BitVec 32 := Scalar.addi c0_i32_2421 v1679
  v1680.toNat
def k0_dev72 (d0 : Dev nD) : Nat :=
  let c0_i32_2436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2435 : BitVec 32 := 1#32
  let v1683 : BitVec 32 := Scalar.muli v7 c1_i32_2435
  let v1684 : BitVec 32 := Scalar.addi c0_i32_2436 v1683
  v1684.toNat
def k0_dev73 (d0 : Dev nD) : Nat :=
  let c0_i32_2486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2485 : BitVec 32 := 1#32
  let v1722 : BitVec 32 := Scalar.muli v7 c1_i32_2485
  let v1723 : BitVec 32 := Scalar.addi c0_i32_2486 v1722
  v1723.toNat
def k0_dev74 (d0 : Dev nD) : Nat :=
  let c0_i32_2501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2500 : BitVec 32 := 1#32
  let v1726 : BitVec 32 := Scalar.muli v5 c1_i32_2500
  let v1727 : BitVec 32 := Scalar.addi c0_i32_2501 v1726
  v1727.toNat
def k0_dev75 (d0 : Dev nD) : Nat :=
  let c0_i32_2603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2602 : BitVec 32 := 1#32
  let v1807 : BitVec 32 := Scalar.muli v5 c1_i32_2602
  let v1808 : BitVec 32 := Scalar.addi c0_i32_2603 v1807
  v1808.toNat
def k0_dev76 (d0 : Dev nD) : Nat :=
  let c0_i32_2618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2617 : BitVec 32 := 1#32
  let v1811 : BitVec 32 := Scalar.muli v7 c1_i32_2617
  let v1812 : BitVec 32 := Scalar.addi c0_i32_2618 v1811
  v1812.toNat
def k0_dev77 (d0 : Dev nD) : Nat :=
  let c0_i32_2664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2663 : BitVec 32 := 1#32
  let v1847 : BitVec 32 := Scalar.muli v7 c1_i32_2663
  let v1848 : BitVec 32 := Scalar.addi c0_i32_2664 v1847
  v1848.toNat
def k0_dev78 (d0 : Dev nD) : Nat :=
  let c0_i32_2679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2678 : BitVec 32 := 1#32
  let v1851 : BitVec 32 := Scalar.muli v5 c1_i32_2678
  let v1852 : BitVec 32 := Scalar.addi c0_i32_2679 v1851
  v1852.toNat
def k0_dev79 (d0 : Dev nD) : Nat :=
  let c0_i32_2729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2728 : BitVec 32 := 1#32
  let v1890 : BitVec 32 := Scalar.muli v5 c1_i32_2728
  let v1891 : BitVec 32 := Scalar.addi c0_i32_2729 v1890
  v1891.toNat
def k0_dev80 (d0 : Dev nD) : Nat :=
  let c0_i32_2744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2743 : BitVec 32 := 1#32
  let v1894 : BitVec 32 := Scalar.muli v7 c1_i32_2743
  let v1895 : BitVec 32 := Scalar.addi c0_i32_2744 v1894
  v1895.toNat
def k0_dev81 (d0 : Dev nD) : Nat :=
  let c0_i32_2794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2793 : BitVec 32 := 1#32
  let v1933 : BitVec 32 := Scalar.muli v7 c1_i32_2793
  let v1934 : BitVec 32 := Scalar.addi c0_i32_2794 v1933
  v1934.toNat
def k0_dev82 (d0 : Dev nD) : Nat :=
  let c0_i32_2809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2808 : BitVec 32 := 1#32
  let v1937 : BitVec 32 := Scalar.muli v5 c1_i32_2808
  let v1938 : BitVec 32 := Scalar.addi c0_i32_2809 v1937
  v1938.toNat
def k0_dev83 (d0 : Dev nD) : Nat :=
  let c0_i32_2859 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2858 : BitVec 32 := 1#32
  let v1976 : BitVec 32 := Scalar.muli v5 c1_i32_2858
  let v1977 : BitVec 32 := Scalar.addi c0_i32_2859 v1976
  v1977.toNat
def k0_dev84 (d0 : Dev nD) : Nat :=
  let c0_i32_2874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2873 : BitVec 32 := 1#32
  let v1980 : BitVec 32 := Scalar.muli v7 c1_i32_2873
  let v1981 : BitVec 32 := Scalar.addi c0_i32_2874 v1980
  v1981.toNat
def k0_dev85 (d0 : Dev nD) : Nat :=
  let c0_i32_2924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2923 : BitVec 32 := 1#32
  let v2019 : BitVec 32 := Scalar.muli v7 c1_i32_2923
  let v2020 : BitVec 32 := Scalar.addi c0_i32_2924 v2019
  v2020.toNat
def k0_dev86 (d0 : Dev nD) : Nat :=
  let c0_i32_2939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2938 : BitVec 32 := 1#32
  let v2023 : BitVec 32 := Scalar.muli v5 c1_i32_2938
  let v2024 : BitVec 32 := Scalar.addi c0_i32_2939 v2023
  v2024.toNat
def k0_dev87 (d0 : Dev nD) : Nat :=
  let c0_i32_2989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2988 : BitVec 32 := 1#32
  let v2062 : BitVec 32 := Scalar.muli v5 c1_i32_2988
  let v2063 : BitVec 32 := Scalar.addi c0_i32_2989 v2062
  v2063.toNat
def k0_dev88 (d0 : Dev nD) : Nat :=
  let c0_i32_3004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3003 : BitVec 32 := 1#32
  let v2066 : BitVec 32 := Scalar.muli v7 c1_i32_3003
  let v2067 : BitVec 32 := Scalar.addi c0_i32_3004 v2066
  v2067.toNat
def k0_dev89 (d0 : Dev nD) : Nat :=
  let c0_i32_3054 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3053 : BitVec 32 := 1#32
  let v2105 : BitVec 32 := Scalar.muli v7 c1_i32_3053
  let v2106 : BitVec 32 := Scalar.addi c0_i32_3054 v2105
  v2106.toNat
def k0_dev90 (d0 : Dev nD) : Nat :=
  let c0_i32_3069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3068 : BitVec 32 := 1#32
  let v2109 : BitVec 32 := Scalar.muli v5 c1_i32_3068
  let v2110 : BitVec 32 := Scalar.addi c0_i32_3069 v2109
  v2110.toNat
def k0_dev91 (d0 : Dev nD) : Nat :=
  let c0_i32_3171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3170 : BitVec 32 := 1#32
  let v2190 : BitVec 32 := Scalar.muli v5 c1_i32_3170
  let v2191 : BitVec 32 := Scalar.addi c0_i32_3171 v2190
  v2191.toNat
def k0_dev92 (d0 : Dev nD) : Nat :=
  let c0_i32_3186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3185 : BitVec 32 := 1#32
  let v2194 : BitVec 32 := Scalar.muli v7 c1_i32_3185
  let v2195 : BitVec 32 := Scalar.addi c0_i32_3186 v2194
  v2195.toNat
def k0_dev93 (d0 : Dev nD) : Nat :=
  let c0_i32_3232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3231 : BitVec 32 := 1#32
  let v2230 : BitVec 32 := Scalar.muli v7 c1_i32_3231
  let v2231 : BitVec 32 := Scalar.addi c0_i32_3232 v2230
  v2231.toNat
def k0_dev94 (d0 : Dev nD) : Nat :=
  let c0_i32_3247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3246 : BitVec 32 := 1#32
  let v2234 : BitVec 32 := Scalar.muli v5 c1_i32_3246
  let v2235 : BitVec 32 := Scalar.addi c0_i32_3247 v2234
  v2235.toNat
def k0_dev95 (d0 : Dev nD) : Nat :=
  let c0_i32_3297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3296 : BitVec 32 := 1#32
  let v2273 : BitVec 32 := Scalar.muli v5 c1_i32_3296
  let v2274 : BitVec 32 := Scalar.addi c0_i32_3297 v2273
  v2274.toNat
def k0_dev96 (d0 : Dev nD) : Nat :=
  let c0_i32_3312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3311 : BitVec 32 := 1#32
  let v2277 : BitVec 32 := Scalar.muli v7 c1_i32_3311
  let v2278 : BitVec 32 := Scalar.addi c0_i32_3312 v2277
  v2278.toNat
def k0_dev97 (d0 : Dev nD) : Nat :=
  let c0_i32_3362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3361 : BitVec 32 := 1#32
  let v2316 : BitVec 32 := Scalar.muli v7 c1_i32_3361
  let v2317 : BitVec 32 := Scalar.addi c0_i32_3362 v2316
  v2317.toNat
def k0_dev98 (d0 : Dev nD) : Nat :=
  let c0_i32_3377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3376 : BitVec 32 := 1#32
  let v2320 : BitVec 32 := Scalar.muli v5 c1_i32_3376
  let v2321 : BitVec 32 := Scalar.addi c0_i32_3377 v2320
  v2321.toNat
def k0_dev99 (d0 : Dev nD) : Nat :=
  let c0_i32_3427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3426 : BitVec 32 := 1#32
  let v2359 : BitVec 32 := Scalar.muli v5 c1_i32_3426
  let v2360 : BitVec 32 := Scalar.addi c0_i32_3427 v2359
  v2360.toNat
def k0_dev100 (d0 : Dev nD) : Nat :=
  let c0_i32_3442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3441 : BitVec 32 := 1#32
  let v2363 : BitVec 32 := Scalar.muli v7 c1_i32_3441
  let v2364 : BitVec 32 := Scalar.addi c0_i32_3442 v2363
  v2364.toNat
def k0_dev101 (d0 : Dev nD) : Nat :=
  let c0_i32_3492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3491 : BitVec 32 := 1#32
  let v2402 : BitVec 32 := Scalar.muli v7 c1_i32_3491
  let v2403 : BitVec 32 := Scalar.addi c0_i32_3492 v2402
  v2403.toNat
def k0_dev102 (d0 : Dev nD) : Nat :=
  let c0_i32_3507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3506 : BitVec 32 := 1#32
  let v2406 : BitVec 32 := Scalar.muli v5 c1_i32_3506
  let v2407 : BitVec 32 := Scalar.addi c0_i32_3507 v2406
  v2407.toNat
def k0_dev103 (d0 : Dev nD) : Nat :=
  let c0_i32_3557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3556 : BitVec 32 := 1#32
  let v2445 : BitVec 32 := Scalar.muli v5 c1_i32_3556
  let v2446 : BitVec 32 := Scalar.addi c0_i32_3557 v2445
  v2446.toNat
def k0_dev104 (d0 : Dev nD) : Nat :=
  let c0_i32_3572 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3571 : BitVec 32 := 1#32
  let v2449 : BitVec 32 := Scalar.muli v7 c1_i32_3571
  let v2450 : BitVec 32 := Scalar.addi c0_i32_3572 v2449
  v2450.toNat
def k0_dev105 (d0 : Dev nD) : Nat :=
  let c0_i32_3622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3621 : BitVec 32 := 1#32
  let v2488 : BitVec 32 := Scalar.muli v7 c1_i32_3621
  let v2489 : BitVec 32 := Scalar.addi c0_i32_3622 v2488
  v2489.toNat
def k0_dev106 (d0 : Dev nD) : Nat :=
  let c0_i32_3637 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3636 : BitVec 32 := 1#32
  let v2492 : BitVec 32 := Scalar.muli v5 c1_i32_3636
  let v2493 : BitVec 32 := Scalar.addi c0_i32_3637 v2492
  v2493.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_3642 : BitVec 32 := 512#32
  let v2502 : BitVec 32 := Scalar.muli v2 c512_i32_3642
  let c0_i32_3649 : BitVec 32 := 0#32
  ![v2502.toNat, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2737 : Index := Scalar.indexCast v2
  let c0_3894 : Index := 0#32
  let c0_3895 : Index := 0#32
  ![v2737.toNat, 0, 0]
def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3901 : BitVec 32 := 0#32
  let c0_i32_3902 : BitVec 32 := 0#32
  ![v2.toNat, 0, 0]
def k0_dev107 (d0 : Dev nD) : Nat :=
  let c0_i32_3900 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3896 : BitVec 32 := 1#32
  let v2741 : BitVec 32 := Scalar.addi v2 c1_i32_3896
  let c8_i32_3897 : BitVec 32 := 8#32
  let v2742 : BitVec 32 := Scalar.remsi v2741 c8_i32_3897
  let c1_i32_3899 : BitVec 32 := 1#32
  let v2743 : BitVec 32 := Scalar.muli v2742 c1_i32_3899
  let v2744 : BitVec 32 := Scalar.addi c0_i32_3900 v2743
  v2744.toNat
def k0_dev108 (d0 : Dev nD) : Nat :=
  let c0_i32_3909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3905 : BitVec 32 := 2#32
  let v2751 : BitVec 32 := Scalar.addi v2 c2_i32_3905
  let c8_i32_3906 : BitVec 32 := 8#32
  let v2752 : BitVec 32 := Scalar.remsi v2751 c8_i32_3906
  let c1_i32_3908 : BitVec 32 := 1#32
  let v2753 : BitVec 32 := Scalar.muli v2752 c1_i32_3908
  let v2754 : BitVec 32 := Scalar.addi c0_i32_3909 v2753
  v2754.toNat
def k0_dev109 (d0 : Dev nD) : Nat :=
  let c0_i32_3918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3914 : BitVec 32 := 3#32
  let v2761 : BitVec 32 := Scalar.addi v2 c3_i32_3914
  let c8_i32_3915 : BitVec 32 := 8#32
  let v2762 : BitVec 32 := Scalar.remsi v2761 c8_i32_3915
  let c1_i32_3917 : BitVec 32 := 1#32
  let v2763 : BitVec 32 := Scalar.muli v2762 c1_i32_3917
  let v2764 : BitVec 32 := Scalar.addi c0_i32_3918 v2763
  v2764.toNat
def k0_dev110 (d0 : Dev nD) : Nat :=
  let c0_i32_3927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3923 : BitVec 32 := 4#32
  let v2771 : BitVec 32 := Scalar.addi v2 c4_i32_3923
  let c8_i32_3924 : BitVec 32 := 8#32
  let v2772 : BitVec 32 := Scalar.remsi v2771 c8_i32_3924
  let c1_i32_3926 : BitVec 32 := 1#32
  let v2773 : BitVec 32 := Scalar.muli v2772 c1_i32_3926
  let v2774 : BitVec 32 := Scalar.addi c0_i32_3927 v2773
  v2774.toNat
def k0_dev111 (d0 : Dev nD) : Nat :=
  let c0_i32_3936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3932 : BitVec 32 := 5#32
  let v2781 : BitVec 32 := Scalar.addi v2 c5_i32_3932
  let c8_i32_3933 : BitVec 32 := 8#32
  let v2782 : BitVec 32 := Scalar.remsi v2781 c8_i32_3933
  let c1_i32_3935 : BitVec 32 := 1#32
  let v2783 : BitVec 32 := Scalar.muli v2782 c1_i32_3935
  let v2784 : BitVec 32 := Scalar.addi c0_i32_3936 v2783
  v2784.toNat
def k0_dev112 (d0 : Dev nD) : Nat :=
  let c0_i32_3945 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3941 : BitVec 32 := 6#32
  let v2791 : BitVec 32 := Scalar.addi v2 c6_i32_3941
  let c8_i32_3942 : BitVec 32 := 8#32
  let v2792 : BitVec 32 := Scalar.remsi v2791 c8_i32_3942
  let c1_i32_3944 : BitVec 32 := 1#32
  let v2793 : BitVec 32 := Scalar.muli v2792 c1_i32_3944
  let v2794 : BitVec 32 := Scalar.addi c0_i32_3945 v2793
  v2794.toNat
def k0_dev113 (d0 : Dev nD) : Nat :=
  let c0_i32_3953 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v2801 : BitVec 32 := Scalar.addi v2 c7_i32
  let c8_i32_3950 : BitVec 32 := 8#32
  let v2802 : BitVec 32 := Scalar.remsi v2801 c8_i32_3950
  let c1_i32_3952 : BitVec 32 := 1#32
  let v2803 : BitVec 32 := Scalar.muli v2802 c1_i32_3952
  let v2804 : BitVec 32 := Scalar.addi c0_i32_3953 v2803
  v2804.toNat
def k0_off7 (d0 : Dev nD) (c1_i32_4063 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_4062 : BitVec 32 := 8#32
  let v2859 : BitVec 32 := Scalar.addi v2 c8_i32_4062
  let v2860 : BitVec 32 := Scalar.subi v2859 c1_i32_4063
  let c8_i32_4064 : BitVec 32 := 8#32
  let v2861 : BitVec 32 := Scalar.remsi v2860 c8_i32_4064
  ![v2861.toNat]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Prog.lean ====
/-
The kernel body as a program of a few parametric pieces: one ring stage for every step, half and chunk, the two
fetches of the next blocks of `x`, the last accumulation, the exchange of the local maxima and the quantisation by
tiles. The printed body is this program by definitional unfolding (`body_eq`), so everything proved of a piece for
symbolic step, half and chunk holds of the printed kernel.
-/
module

public import proofs.«01_k».proof.Proof.Gen.KernelIdeal
public import proofs.«01_k».proof.Proof.Gen.KernelIdeal.Points

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- The kernel's programs. -/
abbrev KP (F : FTy → Type) : Type 1 := Prog (TpuEff nD τ sig (Elt F) Λ₀ .tc) PUnit

/-! ## Memrefs and semaphores -/

abbrev xA : Memref sig .tc .hbm S4096x512 .f32 := Memref.whole main_arg0
abbrev wM : Memref sig .tc .vmem S512x8192 .f32 := Memref.whole cc0_stg0_0
abbrev oA : Memref sig .tc .hbm S512x8192 .f32 := Memref.whole main_v1
abbrev cM : Memref sig .tc .vmem S2x512x8192 .bf16 := Memref.whole cc0_scratch0
abbrev fM : Memref sig .tc .vmem S512x8192 .f32 := Memref.whole cc0_scratch1
abbrev bM : Memref sig .tc .vmem S2x2x512x512 .f32 := Memref.whole cc0_scratch2
abbrev pM : Memref sig .tc .vmem S2x512x1024 .f32 := Memref.whole cc0_scratch3
abbrev aM : Memref sig .tc .vmem S8x8x128 .f32 := Memref.whole cc0_scratch4

/-- The slot a step uses: the step's parity. -/
abbrev sl (s : ℕ) : Fin 2 := ⟨s % 2, Nat.mod_lt _ (by decide)⟩

/-- The communication buffer's rectangle of slot `p`, half `h`, chunk `c`. -/
theorem cR_inb (p h : Fin 2) (c : Fin 4) : ∀ a, (![p.val, 0, 4096 * h.val + 1024 * c.val] : Fin 3 → ℕ) a + S1x512x1024.size a ≤ S2x512x8192.size a := by
  revert p h c; decide
abbrev cR (p h : Fin 2) (c : Fin 4) : Rect S2x512x8192 :=
  Rect.unit (s := S2x512x8192) ![p.val, 0, 4096 * h.val + 1024 * c.val] S1x512x1024.size (cR_inb p h c)
theorem cR_words (p h : Fin 2) (c : Fin 4) : (cR p h c).WholeWords (EltTy.packing .bf16) := by revert p h c; decide
theorem cR_packed (p h : Fin 2) (c : Fin 4) : (cR p h c).PackedRows (EltTy.packing .bf16) := by revert p h c; decide
abbrev cV (p h : Fin 2) (c : Fin 4) : Memref sig .tc .vmem S512x1024 .bf16 :=
  (cM.slice (cR p h c) (fun _ => rfl)).squeeze S512x1024 squeezes_S1x512x1024_S512x1024
theorem cV_exact (p h : Fin 2) (c : Fin 4) : (cV p h c).view.WordExact :=
  ((Memref.isWhole_whole cc0_scratch0).wordExact_slice rfl _ (cR_words p h c)).reshape _ _

theorem s3_inb (p h : Fin 2) (c : Fin 4) : ∀ a, (![p.val, h.val, c.val] : Fin 3 → ℕ) a + S1x1x1.size a ≤ S2x2x4.size a := by
  revert p h c; decide
abbrev s3R (p h : Fin 2) (c : Fin 4) : Rect S2x2x4 := Rect.unit (s := S2x2x4) ![p.val, h.val, c.val] S1x1x1.size (s3_inb p h c)
abbrev sendS (p h : Fin 2) (c : Fin 4) : DmaSem sig := ((cc0_scratch5.slice (s3R p h c)).squeeze S_ squeezes_S1x1x1_S_).sem
abbrev recvS (p h : Fin 2) (c : Fin 4) : DmaSem sig := ((cc0_scratch6.slice (s3R p h c)).squeeze S_ squeezes_S1x1x1_S_).sem
abbrev credS (p h : Fin 2) (c : Fin 4) : Sem sig := ((cc0_scratch7.slice (s3R p h c)).squeeze S_ squeezes_S1x1x1_S_).sem
abbrev barS : Sem sig := (SemArray.scalar (sig.barrier 0 rfl) : Sems sig S_).sem

/-- The staged blocks of `x`, of parity `p` and half `h`. -/
theorem bR_inb (p h : Fin 2) : ∀ a, (![p.val, h.val, 0, 0] : Fin 4 → ℕ) a + S1x1x512x512.size a ≤ S2x2x512x512.size a := by
  revert p h; decide
abbrev bR (p h : Fin 2) : Rect S2x2x512x512 := Rect.unit (s := S2x2x512x512) ![p.val, h.val, 0, 0] S1x1x512x512.size (bR_inb p h)
abbrev bV (p h : Fin 2) : Memref sig .tc .vmem S512x512 .f32 :=
  (bM.slice (bR p h) (fun _ => rfl)).squeeze S512x512 squeezes_S1x1x512x512_S512x512
theorem s2_inb (p h : Fin 2) : ∀ a, (![p.val, h.val] : Fin 2 → ℕ) a + S1x1.size a ≤ S2x2.size a := by revert p h; decide
abbrev xS (p h : Fin 2) : DmaSem sig :=
  ((cc0_scratch10.slice (Rect.unit (s := S2x2) ![p.val, h.val] S1x1.size (s2_inb p h))).squeeze S_ squeezes_S1x1_S_).sem

/-- The columns of `w` (and of the result) of half `h`, chunk `c`. -/
theorem wR_inb (h : Fin 2) (c : Fin 4) : ∀ a, (![0, 4096 * h.val + 1024 * c.val] : Fin 2 → ℕ) a + S512x1024.size a ≤ S512x8192.size a := by
  revert h c; decide
abbrev wR (h : Fin 2) (c : Fin 4) : Rect S512x8192 := Rect.unit (s := S512x8192) ![0, 4096 * h.val + 1024 * c.val] S512x1024.size (wR_inb h c)

theorem pR_inb (h : Fin 2) : ∀ a, (![h.val, 0, 0] : Fin 3 → ℕ) a + S1x512x1024.size a ≤ S2x512x1024.size a := by revert h; decide
abbrev pR (h : Fin 2) : Rect S2x512x1024 := Rect.unit (s := S2x512x1024) ![h.val, 0, 0] S1x512x1024.size (pR_inb h)

/-- The tiles of the result, 2048 columns each. -/
theorem tR_inb (t : Fin 4) : ∀ a, (![0, 2048 * t.val] : Fin 2 → ℕ) a + S512x2048.size a ≤ S512x8192.size a := by revert t; decide
abbrev tR (t : Fin 4) : Rect S512x8192 := Rect.unit (s := S512x8192) ![0, 2048 * t.val] S512x2048.size (tR_inb t)
theorem s4_inb (t : Fin 4) : ∀ a, (![t.val] : Fin 1 → ℕ) a + S1.size a ≤ S4.size a := by revert t; decide
abbrev oS (t : Fin 4) : DmaSem sig := ((cc0_scratch11.slice (Rect.unit (s := S4) ![t.val] S1.size (s4_inb t))).squeeze S_ squeezes_S1_S_).sem
abbrev oV (t : Fin 4) : Memref sig .tc .hbm S512x2048 .f32 := oA.slice (tR t) (fun _ => rfl)
abbrev fV (t : Fin 4) : Memref sig .tc .vmem S512x2048 .f32 := fM.slice (tR t) (fun _ => rfl)

theorem s8_inb (o : Fin 8) : ∀ a, (![o.val] : Fin 1 → ℕ) a + S1.size a ≤ S8.size a := by revert o; decide
/-- The send semaphore of the maxima's copy at distance `o`. -/
abbrev axS (o : Fin 8) : DmaSem sig := ((cc0_scratch8.slice (Rect.unit (s := S8) ![o.val] S1.size (s8_inb o))).squeeze S_ squeezes_S1_S_).sem
/-- The receive semaphores, addressed by an offset. -/
abbrev axR (f : Fin 1 → ℕ) (hf : ∀ a, f a + S1.size a ≤ S8.size a) : DmaSem sig :=
  ((cc0_scratch9.slice (Rect.unit (s := S8) f S1.size hf)).squeeze S_ squeezes_S1_S_).sem
abbrev aR (f : Fin 3 → ℕ) (hf : ∀ a, f a + S1x8x128.size a ≤ S8x8x128.size a) : Rect S8x8x128 :=
  Rect.unit (s := S8x8x128) f S1x8x128.size hf
abbrev aV (f : Fin 3 → ℕ) (hf : ∀ a, f a + S1x8x128.size a ≤ S8x8x128.size a) : Memref sig .tc .vmem S1x8x128 .f32 :=
  aM.slice (aR f hf) (fun _ => rfl)

/-! ## Neighbours, as the kernel computes them -/

/-- The device the half `h` sends to. -/
def dn (h : Fin 2) (d : Dev nD) : Dev nD := match h with
  | 0 => ⟨k0_dev3 d, k0_dev3_lt d⟩
  | 1 => ⟨k0_dev4 d, k0_dev4_lt d⟩
/-- The device the half `h` receives from. -/
def up (h : Fin 2) (d : Dev nD) : Dev nD := match h with
  | 0 => ⟨k0_dev4 d, k0_dev4_lt d⟩
  | 1 => ⟨k0_dev3 d, k0_dev3_lt d⟩

/-! ## The pure values -/

/-- A block of `x` times a chunk of `w`. -/
def dotV (x : Vec F S1x1x512x512 .f32) (w : Vec F S512x1024 .f32) : FVec F S512x1024 .f32 :=
  matmul dot_S512x512_S512x1024_S512x1024_1_0_0_1_n_n none (shapeCast S512x512 x shapeCasts_S1x1x512x512_S512x512)
    (shapeCast S512x1024 w shapeCasts_S512x1024_S512x1024) (constant S512x1024 .f32 0x00000000#32)
/-- The product, as it is staged. -/
def stV (x : Vec F S1x1x512x512 .f32) (w : Vec F S512x1024 .f32) : FVec F S1x512x1024 .f32 :=
  shapeCast S1x512x1024 (dotV x w) shapeCasts_S512x1024_S1x512x1024
def unst (v : Vec F S1x512x1024 .f32) : FVec F S512x1024 .f32 := shapeCast S512x1024 v shapeCasts_S1x512x1024_S512x1024
/-- What is sent at step 0: the partial product rounded. -/
def rndV (p : FVec F S512x1024 .f32) : FVec F S1x512x1024 .bf16 :=
  shapeCast S1x512x1024 (truncf .bf16 p bitsLt_bf16_f32) shapeCasts_S512x1024_S1x512x1024
/-- What was received plus a partial product. -/
def sumV (p : FVec F S512x1024 .f32) (old : Vec F S1x512x1024 .bf16) : FVec F S512x1024 .f32 :=
  addf (extf .f32 (shapeCast S512x1024 old shapeCasts_S1x512x1024_S512x1024) bitsLt_bf16_f32) p
/-- The largest absolute value of a chunk, folded into a maximum. -/
def maxV (m : F .f32) (r : FVec F S512x1024 .f32) : F .f32 :=
  Scalar.maximumf m (extractAt ![0, 0, 0] (shapeCast S1x1x1 (multiReduction .maximumf [1, 2] S1
    (shapeCast S1x512x1024 (absf r) shapeCasts_S512x1024_S1x512x1024) 0xFF800000#32 reduces_S1x512x1024_S1 (.inl rfl) rfl)
    shapeCasts_S1_S1x1x1) inpos_S1x1x1_p0_0_0)
def resV (r : FVec F S512x1024 .f32) : FVec F S512x1024 .f32 := shapeCast S512x1024 r shapeCasts_S512x1024_S512x1024
def zeroV : F .f32 := Scalar.ofBits .f32 0x00000000#32
def fullV (m : F .f32) : FVec F S1x8x128 .f32 := shapeCast S1x8x128 (broadcast S1x8x128 m) shapeCasts_S1x8x128_S1x8x128
/-- The largest of all devices' maxima. -/
def gmaxV (v : Vec F S8x8x128 .f32) : F .f32 :=
  extractAt ![0, 0, 0, 0] (shapeCast S1x1x1x1 (multiReduction .maximumf [1, 2, 3] S1
    (shapeCast S1x8x8x128 v shapeCasts_S8x8x128_S1x8x8x128) 0xFF800000#32 reduces_S1x8x8x128_S1 (.inl rfl) rfl)
    shapeCasts_S1_S1x1x1x1) inpos_S1x1x1x1_p0_0_0_0
/-- A tile quantised to 255 levels and scaled back, for the maximum `g`. -/
def quantV (g : F .f32) (v : Vec F S512x2048 .f32) : FVec F S512x2048 .f32 :=
  shapeCast S512x2048 (mulf (minimumf (broadcast S512x2048 (Scalar.ofBits .f32 0x42FE0000#32))
    (maximumf (broadcast S512x2048 (Scalar.ofBits .f32 0xC2FE0000#32))
      (roundeven (mulf v (broadcast S512x2048 (Scalar.divf (Scalar.ofBits .f32 0x42FE0000#32) g))))))
    (broadcast S512x2048 (Scalar.divf g (Scalar.ofBits .f32 0x42FE0000#32)))) shapeCasts_S512x2048_S512x2048
def castB (v : Vec F S1x1x512x512 .f32) : FVec F S1x1x512x512 .f32 :=
  shapeCast S1x1x512x512 (shapeCast S512x512 v shapeCasts_S1x1x512x512_S512x512) shapeCasts_S512x512_S1x1x512x512

/-! ## The pieces -/

/-- Start fetching a block of `x`. -/
def fetchP (p h : Fin 2) (f : Fin 2 → ℕ) (hf : ∀ a, f a + S512x512.size a ≤ S4096x512.size a) (k : KP F) : KP F :=
  Prog.op (.enqueueDma (xA.slice (Rect.unit (s := S4096x512) f S512x512.size hf) (fun _ => rfl)) (.here (bV p h)) (.dma (xS p h))
    (View.wordExact_bits rfl) ((View.wordExact_bits rfl).reshape _ _) ⟨Or.inl rfl, trivial⟩) fun _ => k
/-- Wait for it. -/
def fetchedP (p h : Fin 2) (f : Fin 2 → ℕ) (hf : ∀ a, f a + S512x512.size a ≤ S4096x512.size a) (k : KP F) : KP F :=
  Prog.op (.waitDma2 (xS p h) (xA.slice (Rect.unit (s := S4096x512) f S512x512.size hf) (fun _ => rfl)) (bV p h)
    (View.wordExact_bits rfl) ((View.wordExact_bits rfl).reshape _ _)) fun _ => k

def loadC (p h : Fin 2) (c : Fin 4) (k : Vec F S1x512x1024 .bf16 → KP F) : KP F :=
  Prog.op (.load cM (cR p h c).toLoadRect (View.loadsAt_vmem h_S1x512x1024)) k
def storeC (p h : Fin 2) (c : Fin 4) (v : Vec F S1x512x1024 .bf16) (k : KP F) : KP F :=
  Prog.op (.store cM (cR p h c) v Finset.univ
    (View.stores_vmem h_S1x512x1024 ((Memref.isWhole_whole cc0_scratch0).storeExact_slice rfl _ (cR_packed p h c)) (fun _ => rfl)) (.inl rfl)) fun _ => k
def loadB (p h : Fin 2) (k : Vec F S1x1x512x512 .f32 → KP F) : KP F :=
  Prog.op (.load bM (bR p h).toLoadRect (View.loadsAt_vmem h_S1x1x512x512)) k
def loadW (h : Fin 2) (c : Fin 4) (k : Vec F S512x1024 .f32 → KP F) : KP F :=
  Prog.op (.load wM (wR h c).toLoadRect (View.loadsAt_vmem h_S512x1024)) k
def loadP (h : Fin 2) (k : Vec F S1x512x1024 .f32 → KP F) : KP F :=
  Prog.op (.load pM (pR h).toLoadRect (View.loadsAt_vmem h_S1x512x1024)) k

/-- Stage the product of the half's block and its chunk 0. -/
def pstageP (p h : Fin 2) (k : KP F) : KP F :=
  loadB p h fun x => loadW h 0 fun w => loadP h fun _ =>
  Prog.op (.store pM (pR h) (stV x w) Finset.univ (View.stores_vmem_bits_univ h_S1x512x1024 rfl) (.inl rfl)) fun _ => k

/-- The partial product of a chunk: staged for chunk 0, computed for the others. -/
def partP (p h : Fin 2) (c : Fin 4) (k : FVec F S512x1024 .f32 → KP F) : KP F := match c.val with
  | 0 => loadP h fun v => k (unst v)
  | _ + 1 => loadB p h fun x => loadW h c fun w => k (dotV x w)

def sendP (d : Dev nD) (s : ℕ) (h : Fin 2) (c : Fin 4) (k : KP F) : KP F :=
  Prog.op (.enqueueDma (cV (sl s) h c) (.remote (Dev.tc (dn h d)) (cV (sl (s + 1)) h c) (.dma (sendS (sl s) h c))) (.dma (recvS (sl (s + 1)) h c))
    (cV_exact _ _ _) (cV_exact _ _ _) ⟨⟨rfl, Or.inl rfl⟩, trivial⟩) fun _ => k

/-- Wait for what the upstream neighbour sent at step `s - 1`. -/
def recvP (s : ℕ) (h : Fin 2) (c : Fin 4) (k : KP F) : KP F :=
  Prog.op (.waitDma2 (recvS (sl s) h c) (cV (sl (s + 1)) h c) (cV (sl s) h c) (cV_exact _ _ _) (cV_exact _ _ _)) fun _ => k
/-- Wait for the own copy of step `s - 1` to finish. -/
def sentP (s : ℕ) (h : Fin 2) (c : Fin 4) (k : KP F) : KP F :=
  Prog.op (.waitDma2 (sendS (sl (s + 1)) h c) (cV (sl s) h c) (cV (sl (s + 1)) h c) (cV_exact _ _ _) (cV_exact _ _ _)) fun _ => k

/-- A stage of the ring at step 0. -/
def stage0 (d : Dev nD) (h : Fin 2) (c : Fin 4) (k : KP F) : KP F :=
  partP (sl 0) h c fun p => loadC (sl 0) h c fun _ => storeC (sl 0) h c (rndV p) <| sendP d 0 h c k
/-- A stage of the ring at a later step. -/
def stage (d : Dev nD) (s : ℕ) (h : Fin 2) (c : Fin 4) (k : KP F) : KP F :=
  recvP s h c <| sentP s h c <| partP (sl s) h c fun p => loadC (sl s) h c fun v => loadC (sl s) h c fun _ =>
  storeC (sl s) h c (rndV (sumV p v)) <|
  Prog.op (.semSignal (up h d, .tc) (credS (sl (s + 1)) h c) ((1 : ℕ) : ℤ)) fun _ =>
  Prog.op (.semWait (credS (sl (s + 1)) h c) ((1 : ℕ) : ℤ)) fun _ => sendP d s h c k

/-- All chunks of both halves. -/
def allP (f : Fin 2 → Fin 4 → KP F → KP F) (k : KP F) : KP F :=
  f 0 0 <| f 1 0 <| f 0 1 <| f 1 1 <| f 0 2 <| f 1 2 <| f 0 3 <| f 1 3 k

/-- Fetch step `s`'s blocks of `x` and stage its chunk-0 products. -/
def nextP (d : Dev nD) (s : Fin 7) (k : KP F) : KP F :=
  fetchP (sl s) 0 (k0_off1 d (BitVec.ofNat 32 s.val)) (k0_off1_inb d s) <|
  fetchP (sl s) 1 (k0_off2 d (BitVec.ofNat 32 s.val)) (k0_off2_inb d s) <|
  fetchedP (sl s) 0 (k0_off1 d (BitVec.ofNat 32 s.val)) (k0_off1_inb d s) <|
  fetchedP (sl s) 1 (k0_off2 d (BitVec.ofNat 32 s.val)) (k0_off2_inb d s) <|
  pstageP (sl s) 0 <| pstageP (sl s) 1 k

/-- The own block of `x`, for both halves, and its staged products. -/
def lastP (d : Dev nD) (k : KP F) : KP F :=
  fetchP 1 0 (k0_off3 d) (k0_off3_inb d) <| fetchedP 1 0 (k0_off3 d) (k0_off3_inb d) <|
  loadB 1 0 fun x => loadB 1 1 fun _ =>
  Prog.op (.store bM (bR 1 1) (castB x) Finset.univ (View.stores_vmem_bits_univ h_S1x1x512x512 rfl) (.inl rfl)) fun _ =>
  pstageP 1 0 <| pstageP 1 1 k

/-- The last accumulation of a chunk: the result's chunk, and the running maximum. -/
def accP (h : Fin 2) (c : Fin 4) (m : F .f32) (k : F .f32 → KP F) : KP F :=
  recvP 1 h c <| partP 1 h c fun p => loadC 1 h c fun v =>
  Prog.op (.load fM (wR h c).toLoadRect (View.loadsAt_vmem h_S512x1024)) fun _ =>
  Prog.op (.store fM (wR h c) (resV (sumV p v)) Finset.univ (View.stores_vmem_bits_univ h_S512x1024 rfl) (.inl rfl)) fun _ =>
  k (maxV m (sumV p v))

def accAll (k : F .f32 → KP F) : KP F :=
  accP 0 0 zeroV fun m => accP 1 0 m fun m => accP 0 1 m fun m => accP 1 1 m fun m =>
  accP 0 2 m fun m => accP 1 2 m fun m => accP 0 3 m fun m => accP 1 3 m k

/-- Write the own maximum to the own row. -/
def rowP (d : Dev nD) (m : F .f32) (k : KP F) : KP F :=
  Prog.op (.load aM (aR (k0_off4 d) (k0_off4_inb d)).toLoadRect (View.loadsAt_vmem h_S1x8x128)) fun _ =>
  Prog.op (.store aM (aR (k0_off4 d) (k0_off4_inb d)) (fullV m) Finset.univ (View.stores_vmem_bits_univ h_S1x8x128 rfl) (.inl rfl)) fun _ => k

/-- The device at distance `o`, as the kernel computes it. -/
def far (o : Fin 8) (d : Dev nD) : Dev nD := match o with
  | 0 => d
  | 1 => ⟨k0_dev107 d, k0_dev107_lt d⟩
  | 2 => ⟨k0_dev108 d, k0_dev108_lt d⟩
  | 3 => ⟨k0_dev109 d, k0_dev109_lt d⟩
  | 4 => ⟨k0_dev110 d, k0_dev110_lt d⟩
  | 5 => ⟨k0_dev111 d, k0_dev111_lt d⟩
  | 6 => ⟨k0_dev112 d, k0_dev112_lt d⟩
  | 7 => ⟨k0_dev113 d, k0_dev113_lt d⟩

/-- Send the own row to the device at distance `o`. -/
def axSendP (d : Dev nD) (o : Fin 8) (k : KP F) : KP F :=
  Prog.op (.enqueueDma (aV (k0_off6 d) (k0_off6_inb d)) (.remote (Dev.tc (far o d)) (aV (k0_off6 d) (k0_off6_inb d)) (.dma (axS o)))
    (.dma (axR (k0_off5 d) (k0_off5_inb d))) (View.wordExact_bits rfl) (View.wordExact_bits rfl) ⟨⟨rfl, Or.inl rfl⟩, trivial⟩) fun _ => k
/-- Wait for the row of the device at distance `-(r + 1)`. -/
def axRecvP (d : Dev nD) (r : Fin 7) (k : KP F) : KP F :=
  Prog.op (.waitDma2 (axR (k0_off7 d (BitVec.ofNat 32 (1 + r.val))) (k0_off7_inb d r)) (aV (k0_off6 d) (k0_off6_inb d)) (aV (k0_off6 d) (k0_off6_inb d))
    (View.wordExact_bits rfl) (View.wordExact_bits rfl)) fun _ => k
def axSentP (d : Dev nD) (o : Fin 8) (k : KP F) : KP F :=
  Prog.op (.waitDma2 (axS o) (aV (k0_off6 d) (k0_off6_inb d)) (aV (k0_off6 d) (k0_off6_inb d))
    (View.wordExact_bits rfl) (View.wordExact_bits rfl)) fun _ => k

/-- The quantisation of a tile, and the start of its copy out. -/
def tileP (g : F .f32) (t : Fin 4) (k : KP F) : KP F :=
  Prog.op (.load fM (tR t).toLoadRect (View.loadsAt_vmem h_S512x2048)) fun v =>
  Prog.op (.load fM (tR t).toLoadRect (View.loadsAt_vmem h_S512x2048)) fun _ =>
  Prog.op (.store fM (tR t) (quantV g v) Finset.univ (View.stores_vmem_bits_univ h_S512x2048 rfl) (.inl rfl)) fun _ =>
  Prog.op (.enqueueDma (fV t) (.here (oV t)) (.dma (oS t)) (View.wordExact_bits rfl) (View.wordExact_bits rfl) ⟨Or.inl rfl, trivial⟩) fun _ => k
def outP (t : Fin 4) (k : KP F) : KP F :=
  Prog.op (.waitDma2 (oS t) (fV t) (oV t) (View.wordExact_bits rfl) (View.wordExact_bits rfl)) fun _ => k

def over7 {α : Type 1} (f : Fin 7 → α → α) (k : α) : α := f 0 <| f 1 <| f 2 <| f 3 <| f 4 <| f 5 <| f 6 k

def finP (d : Dev nD) (m : F .f32) : KP F :=
  rowP d m <| over7 (fun r => axSendP d r.succ) <| allP (sentP 1) <| over7 (axRecvP d) <| over7 (fun r => axSentP d r.succ) <|
  Prog.op (.load aM (Rect.unit (s := S8x8x128) ![0, 0, 0] S8x8x128.size inb_S8x8x128_S8x8x128_0_0_0).toLoadRect (View.loadsAt_vmem h_S8x8x128)) fun v =>
  tileP (gmaxV v) 0 <| tileP (gmaxV v) 1 <| tileP (gmaxV v) 2 <| tileP (gmaxV v) 3 <| outP 0 <| outP 1 <| outP 2 <| outP 3 <| Prog.ret ⟨⟩

def progD (d : Dev nD) : KP F :=
  Prog.op (.semSignal (⟨k0_dev1 d, k0_dev1_lt d⟩, .tc) barS ((1 : ℕ) : ℤ)) fun _ =>
  Prog.op (.semSignal (⟨k0_dev2 d, k0_dev2_lt d⟩, .tc) barS ((1 : ℕ) : ℤ)) fun _ =>
  Prog.op (.semWait barS ((2 : ℕ) : ℤ)) fun _ =>
  nextP d 0 <| allP (stage0 d) <|
  nextP d 1 <| allP (stage d 1) <| nextP d 2 <| allP (stage d 2) <| nextP d 3 <| allP (stage d 3) <|
  nextP d 4 <| allP (stage d 4) <| nextP d 5 <| allP (stage d 5) <| nextP d 6 <| allP (stage d 6) <|
  lastP d <| accAll <| finP d

def prog : KP F := Prog.op .deviceId progD

set_option maxRecDepth 1000000 in
set_option maxHeartbeats 0 in
theorem body_eq (t : Fin cfg0.N) : bodyAt0 (F := F) t = prog := rfl

end Cert.RingProof

end
-- ==== Proof.Sched.lean ====
/-
The protocol of the ring as a schedule of rounds: which semaphore is used for what, in which round, by whom, and what
comes with it. A communication slot is handed on in a circle: the copy that fills it hands it to the device it lands
on, the end of the device's own copy out of the other slot gives that slot back, and the device passes it to its
upstream neighbour with a credit.
-/
module

public import proofs.«01_k».proof.Proof.Prog
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.Transfers
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UQ : Type := URounds (GSem nD τ sig) (Fin 2)
abbrev UU : Type := UR sig nD τ × UQ

local notation "𝕄" => MT nD τ sig ℕ (Elt F) ℕ UU ℕ

abbrev EP : Emb (UR sig nD τ) (MT nD τ sig ℕ (Elt F) ℕ UU ℕ) := embL
abbrev ER : Emb UQ (MT nD τ sig ℕ (Elt F) ℕ UU ℕ) := embR

variable (m : (ℓ : Loc nD τ sig) → Buf (Elt F) ℓ) (ρ : Dev nD → PrngReg)

def s₀ : MemSt nD τ sig (Elt F) := ⟨m, fun _ => 0, ρ⟩

abbrev 𝒱₀ : Variants := Variants.none

/-! ## Devices -/

/-- The device `j` places to the left. -/
def bk (d : Dev nD) (j : ℕ) : Dev nD := ⟨(d.val + 7 * j) % 8, Nat.mod_lt _ (by decide)⟩

theorem dn_val (h : Fin 2) (d : Dev nD) : (dn h d).val = if h = 0 then (d.val + 1) % 8 else (d.val + 7) % 8 := by
  revert h d; decide +kernel
theorem up_val (h : Fin 2) (d : Dev nD) : (up h d).val = if h = 0 then (d.val + 7) % 8 else (d.val + 1) % 8 := by
  revert h d; decide +kernel
theorem up_dn (h : Fin 2) (d : Dev nD) : up h (dn h d) = d := by revert h d; decide +kernel
theorem dn_up (h : Fin 2) (d : Dev nD) : dn h (up h d) = d := by revert h d; decide +kernel
theorem far_val (o : Fin 8) (d : Dev nD) : (far o d).val = (d.val + o.val) % 8 := by revert o d; decide +kernel
theorem dev1_eq (d : Dev nD) : (⟨k0_dev1 d, k0_dev1_lt d⟩ : Dev nD) = up 0 d := by revert d; decide +kernel
theorem dev2_eq (d : Dev nD) : (⟨k0_dev2 d, k0_dev2_lt d⟩ : Dev nD) = up 1 d := by revert d; decide +kernel
theorem dn1_bk (d : Dev nD) (j : ℕ) : bk (dn 1 d) j = bk d (j + 1) := by
  apply Fin.ext
  have := dn_val 1 d
  simp only [bk, this]
  simp
  omega
theorem dn1_eq (d : Dev nD) : dn 1 d = bk d 1 := by
  have h := dn1_bk d 0
  rw [← h]; apply Fin.ext; have := (dn 1 d).isLt; simp only [bk, Nat.mul_zero, Nat.add_zero]
  exact (Nat.mod_eq_of_lt this).symm
theorem bk_zero (d : Dev nD) : bk d 0 = d := by
  apply Fin.ext; simp only [bk, Nat.mul_zero, Nat.add_zero]; exact Nat.mod_eq_of_lt d.isLt

/-! ## The semaphores, by use -/

/-- The kernel's own semaphores, by use. -/
inductive OKey where
  /-- completion of the copy out of slot `p` -/
  | snd (p h : Fin 2) (c : Fin 4)
  /-- arrival in slot `p` -/
  | rcv (p h : Fin 2) (c : Fin 4)
  /-- the credit for the downstream neighbour's slot `p` -/
  | crd (p h : Fin 2) (c : Fin 4)
  /-- a block of `x` staged -/
  | xs (p h : Fin 2)
  /-- a tile of the result written -/
  | os (t : Fin 4)
  /-- completion of the copy of the own maximum to distance `o` -/
  | axs (o : Fin 8)
  /-- arrival of device `e`'s maximum -/
  | axr (e : Fin 8)
  deriving DecidableEq

def okeyEquiv : OKey ≃ (Fin 2 × Fin 2 × Fin 4) ⊕ (Fin 2 × Fin 2 × Fin 4) ⊕ (Fin 2 × Fin 2 × Fin 4) ⊕ (Fin 2 × Fin 2) ⊕ Fin 4 ⊕ Fin 8 ⊕ Fin 8 where
  toFun
    | .snd p h c => .inl (p, h, c)
    | .rcv p h c => .inr (.inl (p, h, c))
    | .crd p h c => .inr (.inr (.inl (p, h, c)))
    | .xs p h => .inr (.inr (.inr (.inl (p, h))))
    | .os t => .inr (.inr (.inr (.inr (.inl t))))
    | .axs o => .inr (.inr (.inr (.inr (.inr (.inl o)))))
    | .axr o => .inr (.inr (.inr (.inr (.inr (.inr o)))))
  invFun
    | .inl (p, h, c) => .snd p h c
    | .inr (.inl (p, h, c)) => .rcv p h c
    | .inr (.inr (.inl (p, h, c))) => .crd p h c
    | .inr (.inr (.inr (.inl (p, h)))) => .xs p h
    | .inr (.inr (.inr (.inr (.inl t)))) => .os t
    | .inr (.inr (.inr (.inr (.inr (.inl o))))) => .axs o
    | .inr (.inr (.inr (.inr (.inr (.inr o))))) => .axr o
  left_inv k := by cases k <;> rfl
  right_inv k := by
    rcases k with ⟨p, h, c⟩ | ⟨p, h, c⟩ | ⟨p, h, c⟩ | ⟨p, h⟩ | t | o | o <;> rfl
instance : Fintype OKey := Fintype.ofEquiv _ okeyEquiv.symm

/-- The own semaphores. -/
def osem : OKey → SemLoc sig
  | .snd p h c => .dma (sendS p h c)
  | .rcv p h c => .dma (recvS p h c)
  | .crd p h c => .reg (credS p h c)
  | .xs p h => .dma (xS p h)
  | .os t => .dma (oS t)
  | .axs o => .dma (axS o)
  | .axr e => .dma (axR ![e.val] (s8_inb e))
/-- All semaphores: the own ones and the runtime's barrier semaphore. -/
def semOf : Option OKey → SemLoc sig
  | none => .reg barS
  | some k => osem k

abbrev Key : Type := Option OKey

theorem semOf_inj : Function.Injective semOf := by decide +kernel

/-- The cell of device `d` for the use `k`. -/
abbrev kcell (d : Dev nD) (k : Key) : GSem nD τ sig := ((d.tc : Thread nD τ), semOf k)

theorem kcell_inj {d d' : Dev nD} {k k' : Key} (h : kcell d k = kcell d' k') : d = d' ∧ k = k' :=
  ⟨Fin.ext (congrArg (fun g : GSem nD τ sig => g.1.1.val) h), semOf_inj (congrArg Prod.snd h)⟩

open Classical in
/-- The use a semaphore has. -/
def useOf (sm : SemLoc sig) : Option Key := if h : ∃ k, semOf k = sm then some h.choose else none
theorem useOf_semOf (k : Key) : useOf (semOf k) = some k := by
  unfold useOf
  have h : ∃ k', semOf k' = semOf k := ⟨k, rfl⟩
  rw [dif_pos h]
  exact congrArg some (semOf_inj h.choose_spec)

/-! ## Ownership through a view -/

/-- Device `d` holds the elements under the view `V`, at share `q`, reading `v`. -/
def vO {sp : Space} {s : Shape} {e : EltTy} (d : Dev nD) (V : View sig .tc sp s e) (q : PosShare TreeShare) (v : s.Idx → Elt F e) : sProp 𝕄 :=
  V.loc (d : Thread nD τ) ↦[V.set]{q} (V.write (Elt F) (m (V.loc (d : Thread nD τ))) v Finset.univ)
/-- The same at some contents, whole. -/
def anyO {sp : Space} {s : Shape} {e : EltTy} (d : Dev nD) (V : View sig .tc sp s e) : sProp 𝕄 :=
  iprop(∃ v, vO m d V fullShare v)

instance vO_storable {sp : Space} {s : Shape} {e : EltTy} (d : Dev nD) (V : View sig .tc sp s e) (q : PosShare TreeShare) (v : s.Idx → Elt F e) :
    BI.Storable (upEmb : UEmb _ 𝕄) (vO m d V q v) := by unfold vO; infer_instance
instance anyO_storable {sp : Space} {s : Shape} {e : EltTy} (d : Dev nD) (V : View sig .tc sp s e) :
    BI.Storable (upEmb : UEmb _ 𝕄) (anyO m d V) := by unfold anyO; infer_instance

omit [FloatOps F] in
/-- Contents that read `v` under the view are the canonical ones. -/
theorem pts_vO {sp : Space} {s : Shape} {e : EltTy} (d : Dev nD) (V : View sig .tc sp s e) (q : PosShare TreeShare)
    (f : Buf (Elt F) (V.loc (d : Thread nD τ))) (v : s.Idx → Elt F e) (hv : V.read (Elt F) f = v) :
    (V.loc (d : Thread nD τ) ↦[V.set]{q} f : sProp 𝕄) = vO m d V q v := by
  subst hv
  unfold vO
  refine pointsTo_congr fun i hi => ?_
  obtain ⟨x, -, rfl⟩ := Finset.mem_map.mp hi
  have h1 := congrFun (View.read_write_univ (Val := Elt F) (v := V) (m (V.loc (d : Thread nD τ))) (V.read (Elt F) f)) x
  rw [View.read_apply, View.read_apply] at h1
  exact (cast_inj _).mp h1.symm

omit [FloatOps F] in
theorem vO_read {sp : Space} {s : Shape} {e : EltTy} (V : View sig .tc sp s e) (d : Dev nD) (v : s.Idx → Elt F e) :
    V.read (Elt F) (V.write (Elt F) (m (V.loc (d : Thread nD τ))) v Finset.univ) = v := View.read_write_univ _ _

end Cert.RingProof

end
-- ==== Proof.Vals.lean ====
/-
The views the kernel uses, the values it computes, and what comes with each use of a semaphore.
-/
module

public import proofs.«01_k».proof.Proof.Sched

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The views -/

abbrev cA (p h : Fin 2) (c : Fin 4) : View sig .tc .vmem S1x512x1024 .bf16 := cM.access (cR p h c)
abbrev bA (p h : Fin 2) : View sig .tc .vmem S1x1x512x512 .f32 := bM.access (bR p h)
abbrev pA (h : Fin 2) : View sig .tc .vmem S1x512x1024 .f32 := pM.access (pR h)
abbrev wA (h : Fin 2) (c : Fin 4) : View sig .tc .vmem S512x1024 .f32 := wM.access (wR h c)
abbrev fA (h : Fin 2) (c : Fin 4) : View sig .tc .vmem S512x1024 .f32 := fM.access (wR h c)
theorem row_inb (r : Fin 8) : ∀ a, (![r.val, 0, 0] : Fin 3 → ℕ) a + S1x8x128.size a ≤ S8x8x128.size a := by revert r; decide
abbrev aA (r : Fin 8) : View sig .tc .vmem S1x8x128 .f32 := aM.access (aR ![r.val, 0, 0] (row_inb r))

/-- The row block of `x` device `d` uses at step `s` for half `h`. -/
def blkN (d : Dev nD) (s : ℕ) (h : Fin 2) : ℕ := if h = 0 then (d.val + 15 - s) % 8 else (d.val + 1 + s) % 8
theorem blkN_lt (d : Dev nD) (s : ℕ) (h : Fin 2) : blkN d s h < 8 := by unfold blkN; split <;> exact Nat.mod_lt _ (by decide)
theorem xO_inb (d : Dev nD) (s : ℕ) (h : Fin 2) : ∀ a, (![512 * blkN d s h, 0] : Fin 2 → ℕ) a + S512x512.size a ≤ S4096x512.size a := by
  have := blkN_lt d s h
  intro a; fin_cases a
  · show 512 * blkN d s h + 512 ≤ 4096; omega
  · show 0 + 512 ≤ 512; omega
abbrev xSrc (d : Dev nD) (s : ℕ) (h : Fin 2) : Memref sig .tc .hbm S512x512 .f32 :=
  xA.slice (Rect.unit (s := S4096x512) ![512 * blkN d s h, 0] S512x512.size (xO_inb d s h)) (fun _ => rfl)

/-! ## The values -/

/-- Device `d`'s block of `x`, and of `w` as it is staged. -/
def Xd (d : Dev nD) : Buf (Elt F) (xA.view.loc (d : Thread nD τ)) := m (xA.view.loc (d : Thread nD τ))
def Wd (d : Dev nD) : Buf (Elt F) (wM.view.loc (d : Thread nD τ)) :=
  (win0_0.blk (0 : Fin 1)).view.read (Elt F) (m ((d : Thread nD τ).loc main_arg1))

/-- The block of `x` staged at step `s` for half `h`. -/
def xbV (d : Dev nD) (s : ℕ) (h : Fin 2) : Vec F S1x1x512x512 .f32 :=
  fun i => (xSrc d s h).view.read (Elt F) (Xd m d) ((Shape.reshapeEquiv squeezes_S1x1x512x512_S512x512.numel_eq).symm i)
def wV (d : Dev nD) (h : Fin 2) (c : Fin 4) : Vec F S512x1024 .f32 := (wA h c).read (Elt F) (Wd m d)
def partV (d : Dev nD) (s : ℕ) (h : Fin 2) (c : Fin 4) : FVec F S512x1024 .f32 := dotV (xbV m d s h) (wV m d h c)
/-- What device `d` sends at step `s`. -/
def vS : ℕ → Dev nD → Fin 2 → Fin 4 → Vec F S1x512x1024 .bf16
  | 0, d, h, c => rndV (partV m d 0 h c)
  | s + 1, d, h, c => rndV (sumV (partV m d (s + 1) h c) (vS s (up h d) h c))
/-- The chunk of the sum device `d` ends with. -/
def resR (d : Dev nD) (h : Fin 2) (c : Fin 4) : FVec F S512x1024 .f32 := sumV (partV m d 7 h c) (vS m 6 (up h d) h c)
/-- The half and the chunk numbered `i` in the order the kernel takes them. -/
abbrev hOf (i : ℕ) : Fin 2 := ⟨i % 2, Nat.mod_lt _ (by decide)⟩
abbrev cOf (i : ℕ) : Fin 4 := ⟨i / 2 % 4, Nat.mod_lt _ (by decide)⟩
/-- The maximum after `n` chunks. -/
def amx (d : Dev nD) : ℕ → F .f32
  | 0 => zeroV
  | n + 1 => maxV (amx d n) (resR m d (hOf n) (cOf n))
/-- The sums of all chunks, as one array. -/
def Yd (d : Dev nD) : Vec F S512x8192 .f32 := fun i =>
  resR m d ⟨(i 1).val / 4096 % 2, Nat.mod_lt _ (by decide)⟩ ⟨(i 1).val / 1024 % 4, Nat.mod_lt _ (by decide)⟩
    (Fin.cons (i 0) (Fin.cons ⟨(i 1).val % 1024, Nat.mod_lt _ (by decide)⟩ fun k => k.elim0))
/-- The table of all devices' maxima. -/
def aAll : Vec F S8x8x128 .f32 := fun i => amx m (⟨(i 0).val % 8, Nat.mod_lt _ (by decide)⟩ : Dev nD) 8
/-- The result's tile `t`. -/
def outT (d : Dev nD) (t : Fin 4) : Vec F S512x2048 .f32 := quantV (gmaxV (aAll m)) ((fV t).view.read (Elt F) (Yd m d))

/-! ## What comes with each use -/

/-- A row of the table of maxima of device `E`: the `j`-th after its own. -/
def rowOf (E : Dev nD) (j : ℕ) : Fin 8 := ⟨(E.val + j) % 8, Nat.mod_lt _ (by decide)⟩
/-- Device `E`'s rows from the `t`-th on after its own. -/
def Rows (E : Dev nD) (t : ℕ) : sProp 𝕄 := bigSep (Finset.Ico t 8) fun j => anyO m E (aA (rowOf E j))
/-- What the credit of step `s` carries besides, for one chunk of the half going left: the rows still to be handed to the right. -/
def Xtra (e : Dev nD) (s : ℕ) (h : Fin 2) (c : Fin 4) : sProp 𝕄 :=
  if h = 1 ∧ c = 0 then Rows m (bk e (s + 1)) (s + 1) else iprop(emp)

/-- With a neighbour's first signal: its slot 1 of the half that goes there. -/
def barPay (d : Dev nD) (j : Fin 2) : sProp 𝕄 :=
  iprop((bigSep Finset.univ fun c : Fin 4 => anyO m (dn j d) (cA 1 j c)) ∗ (if j = 1 then Rows m (bk d 1) 1 else iprop(emp)))
/-- With the arrival of what was sent at step `s`: the slot, and how far the sender's credits have come. -/
def rcvPay (d : Dev nD) (s : ℕ) (h : Fin 2) (c : Fin 4) : sProp 𝕄 :=
  iprop(vO m d (cA (sl (s + 1)) h c) fullShare (vS m s (up h d) h c) ∗ reached ER (kcell (up h d) (some (.crd (sl s) h c))) (s / 2))
/-- With the credit of step `s`: the downstream neighbour's slot, empty. -/
def crdPay (e : Dev nD) (s : ℕ) (h : Fin 2) (c : Fin 4) : sProp 𝕄 :=
  iprop(anyO m (dn h e) (cA (sl (s + 1)) h c) ∗ reached ER (kcell (dn h e) (some (.rcv (sl (s + 1)) h c))) (s / 2) ∗ Xtra m e s h c)
def halfOf (h : Fin 2) : PosShare TreeShare := if h = 0 then fullShare.left else fullShare.right
def xsPay (d : Dev nD) (s : ℕ) (h : Fin 2) : sProp 𝕄 :=
  iprop(vO m d (bA (sl s) h) fullShare (xbV m d s h)
    ∗ ((xSrc d s h).view.loc (d : Thread nD τ) ↦[(xSrc d s h).view.set]{halfOf h} Xd m d))
def osPay (d : Dev nD) (t : Fin 4) : sProp 𝕄 :=
  iprop(vO m d (oV t).view fullShare (outT m d t) ∗ vO m d (fV t).view fullShare (outT m d t))
def axsPay (d : Dev nD) (o : Fin 8) : sProp 𝕄 := vO m d (aA d) (Transfers.shareTokN fullShare o.val) (fullV (amx m d 8))
def axrPay (d : Dev nD) (e : Fin 8) : sProp 𝕄 := vO m d (aA e) fullShare (fullV (amx m e 8))

end Cert.RingProof

end
-- ==== Proof.Rounds.lean ====
/-
The schedule of rounds: in which round which use pays what.
-/
module

public import proofs.«01_k».proof.Proof.Vals

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The rounds of each use. -/
def rdS : OKey → ℕ → ℕ
  | .snd p h c, r => 2 * r + p.val
  | .rcv p h c, r => 2 * r + 1 - p.val
  | .crd p h c, r => 2 * r + 1 + p.val
  | .xs p h, r => 2 * r + p.val
  | _, r => r
def live (d : Dev nD) : OKey → ℕ → Prop
  | .snd p h c, r => 2 * r + p.val ≤ 6
  | .rcv p h c, r => 2 * r + 1 - p.val ≤ 6
  | .crd p h c, r => 2 * r + 1 + p.val ≤ 6
  | .xs p h, r => 2 * r + p.val + h.val ≤ 7
  | .os t, r => r = 0
  | .axs o, r => r = 0 ∧ o.val ≠ 0
  | .axr e, r => r = 0 ∧ e.val ≠ d.val
instance (d : Dev nD) (k : OKey) (r : ℕ) : Decidable (live d k r) := by cases k <;> unfold live <;> infer_instance
def duts (d : Dev nD) : Key → ℕ → Finset (Fin 2)
  | none, r => if r = 0 then Finset.univ else ∅
  | some k, r => if live d k r then {0} else ∅

def NC : ℕ := (cV 0 0 0).view.dmaCredit
def NX : ℕ := (bV 0 0).view.dmaCredit
def NO : ℕ := (oV 0).view.dmaCredit
def NA : ℕ := (aA 0).dmaCredit
def amt : Key → ℕ
  | none => 1
  | some (.snd _ _ _) => NC
  | some (.rcv _ _ _) => NC
  | some (.crd _ _ _) => 1
  | some (.xs _ _) => NX
  | some (.os _) => NO
  | some (.axs _) => NA
  | some (.axr _) => NA
theorem amt_pos (k : Key) : 0 < amt k := by
  rcases k with _ | k
  · exact Nat.one_pos
  · cases k with
    | snd p h c => exact View.dmaCredit_pos (cV 0 0 0).view (by decide)
    | rcv p h c => exact View.dmaCredit_pos (cV 0 0 0).view (by decide)
    | crd p h c => exact Nat.one_pos
    | xs p h => exact View.dmaCredit_pos (bV 0 0).view (by decide)
    | os t => exact View.dmaCredit_pos (oV 0).view (by decide)
    | axs o => exact View.dmaCredit_pos (aA 0) (by decide)
    | axr o => exact View.dmaCredit_pos (aA 0) (by decide)

def pay (d : Dev nD) : Key → ℕ → Fin 2 → sProp 𝕄
  | none, _, j => barPay m d j
  | some (.snd p h c), _, _ => anyO m d (cA p h c)
  | some (.rcv p h c), r, _ => rcvPay m d (2 * r + 1 - p.val) h c
  | some (.crd p h c), r, _ => crdPay m d (2 * r + 1 + p.val) h c
  | some (.xs p h), r, _ => xsPay m d (2 * r + p.val) h
  | some (.os t), _, _ => osPay m d t
  | some (.axs o), _, _ => axsPay m d o
  | some (.axr e), _, _ => axrPay m d e

instance Rows_storable (E : Dev nD) (t : ℕ) : BI.Storable (upEmb : UEmb _ 𝕄) (Rows m E t) := by unfold Rows; infer_instance
instance Xtra_storable (e : Dev nD) (s : ℕ) (h : Fin 2) (c : Fin 4) : BI.Storable (upEmb : UEmb _ 𝕄) (Xtra m e s h c) := by
  unfold Xtra; split <;> infer_instance
instance pay_storable (d : Dev nD) (k : Key) (r : ℕ) (j : Fin 2) : BI.Storable (upEmb : UEmb _ 𝕄) (pay m d k r j) := by
  rcases k with _ | k
  · show BI.Storable upEmb (barPay m d j); unfold barPay
    by_cases h : j = 1
    · rw [if_pos h]; infer_instance
    · rw [if_neg h]; infer_instance
  · cases k with
    | snd p h c => show BI.Storable upEmb (anyO m d _); infer_instance
    | rcv p h c => show BI.Storable upEmb (rcvPay m d _ h c); unfold rcvPay; infer_instance
    | crd p h c => show BI.Storable upEmb (crdPay m d _ h c); unfold crdPay; infer_instance
    | xs p h => show BI.Storable upEmb (xsPay m d _ h); unfold xsPay; infer_instance
    | os t => show BI.Storable upEmb (osPay m d t); unfold osPay; infer_instance
    | axs o => show BI.Storable upEmb (axsPay m d o); unfold axsPay; infer_instance
    | axr e => show BI.Storable upEmb (axrPay m d e); unfold axrPay; infer_instance

/-- The schedule. -/
def Rd : Rounds.Schedule (GSem nD τ sig) (Fin 2) 𝕄 where
  duties g r := (useOf g.2).elim ∅ fun k => duts g.1.1 k r
  unitless _ := False
  amount g _ _ := (useOf g.2).elim 1 amt
  payload g r j := (useOf g.2).elim iprop(emp) fun k => pay m g.1.1 k r j
  amount_pos g _ _ _ := by
    cases useOf g.2 with
    | none => exact Nat.one_pos
    | some k => exact amt_pos k

instance Rd_payload_storable (g : GSem nD τ sig) (r : ℕ) (j : Fin 2) : BI.Storable (upEmb : UEmb _ 𝕄) ((Rd (F := F) m).payload g r j) := by
  show BI.Storable upEmb ((useOf g.2).elim iprop(emp) fun k => pay m g.1.1 k r j)
  cases useOf g.2 with
  | none => show BI.Storable upEmb iprop(emp); infer_instance
  | some k => show BI.Storable upEmb (pay m g.1.1 k r j); infer_instance

theorem duties_eq (d : Dev nD) (k : Key) (r : ℕ) : (Rd (F := F) m).duties (kcell d k) r = duts d k r := by
  show (useOf (semOf k)).elim ∅ _ = _
  rw [useOf_semOf]; rfl
theorem amount_eq (d : Dev nD) (k : Key) (r : ℕ) (j : Fin 2) : (Rd (F := F) m).amount (kcell d k) r j = amt k := by
  show (useOf (semOf k)).elim 1 _ = _
  rw [useOf_semOf]; rfl
theorem payload_eq (d : Dev nD) (k : Key) (r : ℕ) (j : Fin 2) : (Rd (F := F) m).payload (kcell d k) r j = pay m d k r j := by
  show (useOf (semOf k)).elim iprop(emp) _ = _
  rw [useOf_semOf]; rfl
theorem duties_live {d : Dev nD} {k : OKey} {r : ℕ} (h : live d k r) : (Rd (F := F) m).duties (kcell d (some k)) r = {0} := by
  rw [duties_eq]; exact if_pos h
theorem expect_live {d : Dev nD} {k : OKey} {r : ℕ} (h : live d k r) : (Rd (F := F) m).expect (kcell d (some k)) r = amt (some k) := by
  unfold Schedule.expect Schedule.amountOf; rw [duties_live m h, Finset.sum_singleton, amount_eq]
theorem duts_bar (d : Dev nD) : duts d none 0 = Finset.univ := by simp only [duts, if_true]
theorem expect_bar (d : Dev nD) : (Rd (F := F) m).expect (kcell d none) 0 = 2 := by
  unfold Schedule.expect Schedule.amountOf
  rw [duties_eq, duts_bar, Finset.sum_congr rfl fun j _ => amount_eq m d none 0 j]
  rfl
theorem rest_live {d : Dev nD} {k : OKey} {r : ℕ} (h : live d k r) :
    bigSep ((Rd (F := F) m).duties (kcell d (some k)) r \ ∅) (fun j => (Rd (F := F) m).payload (kcell d (some k)) r j) = pay m d (some k) r 0 := by
  rw [Finset.sdiff_empty, duties_live m h, bigSep_singleton, payload_eq]

/-- When each use is over. -/
def finR (d : Dev nD) : Key → ℕ
  | none => 1
  | some (.snd p h c) => 4 - p.val
  | some (.rcv p h c) => 3 + p.val
  | some (.crd p h c) => 3
  | some (.xs p h) => (9 - p.val - h.val) / 2
  | some (.os _) => 1
  | some (.axs o) => if o.val = 0 then 0 else 1
  | some (.axr e) => if e.val = d.val then 0 else 1
theorem duties_fin (d : Dev nD) (k : Key) (r : ℕ) (hr : finR d k ≤ r) : (Rd (F := F) m).duties (kcell d k) r = ∅ := by
  rw [duties_eq]
  rcases k with _ | k
  · exact if_neg (by have : 1 ≤ r := hr; omega)
  · refine if_neg ?_
    cases k with
    | snd p h c => have := p.isLt; simp only [finR] at hr; simp only [live]; omega
    | rcv p h c => have := p.isLt; simp only [finR] at hr; simp only [live]; omega
    | crd p h c => have := p.isLt; simp only [finR] at hr; simp only [live]; omega
    | xs p h => have := p.isLt; have := h.isLt; simp only [finR] at hr; simp only [live]; omega
    | os t => simp only [finR] at hr; simp only [live]; omega
    | axs o => simp only [finR] at hr; simp only [live]; split at hr <;> omega
    | axr o => simp only [finR] at hr; simp only [live]; split at hr <;> omega

end Cert.RingProof

end
-- ==== Proof.Owed.lean ====
/-
What a device owes at each point of the ring, and that its waits are allowed; the rounds in terms of the steps.
-/
module

public import proofs.«01_k».proof.Proof.Rounds

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What is owed, and when a wait is allowed -/

/-- The order of all waits: an index is its own level. -/
def L (g : GSem nD τ sig) : Finset ℕ := if g.1.2 = .tc then Finset.range 2000 else ∅
def lv (_ : GSem nD τ sig) (i : ℕ) : ℕ := i
theorem L_of_ne (g : GSem nD τ sig) (h : g.1.2 ≠ .tc) : L g = ∅ := if_neg h

/-- Everything owed is owed above `b`. -/
def Above (b : ℕ) (O : CellTallies nD τ sig ℕ) : Prop := ∀ g u, 0 < O g u → g.1.2 = .tc ∧ b < u ∧ u < 2000

theorem above_zero (b : ℕ) : Above b 0 := fun g u h => absurd h (Nat.lt_irrefl 0)
theorem above_add {b : ℕ} {O O' : CellTallies nD τ sig ℕ} (h : Above b O) (h' : Above b O') : Above b (O + O') := by
  intro g u hg
  rw [Pi.add_apply, Finsupp.add_apply] at hg
  rcases Nat.eq_zero_or_pos (O g u) with h0 | h0
  · exact h' g u (by omega)
  · exact h g u h0
theorem above_tally {b u n : ℕ} (d : Dev nD) (sm : SemLoc sig) (hb : b < u) (hu : u < 2000) : Above b (tallyAt ((d : Thread nD τ), sm) u n) := by
  intro g i hg
  rw [tallyAt_apply] at hg
  split at hg
  · rename_i h; rw [h.1, h.2]; exact ⟨rfl, hb, hu⟩
  · exact absurd hg (Nat.lt_irrefl 0)
theorem above_sum {b : ℕ} {α : Type} (s : Finset α) (O : α → CellTallies nD τ sig ℕ) (h : ∀ a ∈ s, Above b (O a)) : Above b (∑ a ∈ s, O a) := by
  classical
  induction s using Finset.induction_on with
  | empty => exact above_zero b
  | insert a s ha ih =>
    rw [Finset.sum_insert ha]
    exact above_add (h a (Finset.mem_insert_self _ _)) (ih fun x hx => h x (Finset.mem_insert_of_mem hx))

omit [FloatOps F] in
theorem mayWait (d : Dev nD) (sm : SemLoc sig) {b : ℕ} (hb : b < 2000) {O : CellTallies nD τ sig ℕ} (h : Above b O) :
    (levAts L lv : sProp 𝕄) ⊢ MayWait (d : Thread nD τ) sm b O :=
  MayOwe.of_cut (L := L) (lev := lv) b
    (fun p hp => by rw [Finset.mem_singleton.mp hp]; unfold L; rw [if_pos rfl]; exact Finset.mem_range.mpr hb)
    (fun g u hg => by unfold L; rw [if_pos (h g u hg).1]; exact Finset.mem_range.mpr (h g u hg).2.2)
    (fun p hp => by rw [Finset.mem_singleton.mp hp]; exact le_rfl)
    (fun g u hg => (h g u hg).2.1)

/-- The number of a stage. -/
abbrev num (s : ℕ) (h : Fin 2) (c : Fin 4) : ℕ := 8 * s + 2 * c.val + h.val
/-- What device `d` owes for stage `s` of `h`, `c`: the credit to the upstream neighbour, the arrival downstream. -/
def dueC (d : Dev nD) (s : ℕ) (h : Fin 2) (c : Fin 4) : CellTallies nD τ sig ℕ :=
  if s = 0 then 0 else tallyAt (kcell (up h d) (some (.crd (sl (s + 1)) h c))) (2 * num s h c + 2) 1
def dueR (d : Dev nD) (s : ℕ) (h : Fin 2) (c : Fin 4) : CellTallies nD τ sig ℕ :=
  tallyAt (kcell (dn h d) (some (.rcv (sl (s + 1)) h c))) (2 * num s h c + 3) NC
def dueN (d : Dev nD) (n : ℕ) : CellTallies nD τ sig ℕ := dueR d (n / 8) (hOf n) (cOf n) + dueC d (n / 8) (hOf n) (cOf n)
def dueA (d : Dev nD) (o : Fin 7) : CellTallies nD τ sig ℕ := tallyAt (kcell (far o.succ d) (some (.axr d))) 1000 NA
/-- For the exchange of the maxima, from distance `n + 1` on. -/
def owedA (d : Dev nD) (n : ℕ) : CellTallies nD τ sig ℕ := ∑ o ∈ Finset.univ.filter (fun o : Fin 7 => n ≤ o.val), dueA d o
/-- What is owed from stage `n` on. -/
def owedN (d : Dev nD) (n : ℕ) : CellTallies nD τ sig ℕ := (∑ i ∈ Finset.Ico n 56, dueN d i) + owedA d 0
def dueB (d : Dev nD) (j : Fin 2) : CellTallies nD τ sig ℕ := tallyAt (kcell (up j d) none) 1 1
/-- What is owed at launch. -/
def O₀ (d : Dev nD) : CellTallies nD τ sig ℕ := owedN d 0 + dueB d 1 + dueB d 0

theorem hOf_num (s : ℕ) (h : Fin 2) (c : Fin 4) : hOf (num s h c) = h := by
  apply Fin.ext; have := h.isLt; have := c.isLt; simp only [hOf, num]; omega
theorem cOf_num (s : ℕ) (h : Fin 2) (c : Fin 4) : cOf (num s h c) = c := by
  apply Fin.ext; have := h.isLt; have := c.isLt; simp only [cOf, num]; omega
theorem num_div (s : ℕ) (h : Fin 2) (c : Fin 4) : num s h c / 8 = s := by
  have := h.isLt; have := c.isLt; simp only [num]; omega
theorem owedN_num (d : Dev nD) (s : ℕ) (hs : s ≤ 6) (h : Fin 2) (c : Fin 4) :
    owedN d (num s h c) = (owedN d (num s h c + 1) + dueR d s h c) + dueC d s h c := by
  have h1 := h.isLt; have h2 := c.isLt
  unfold owedN
  rw [show Finset.Ico (num s h c) 56 = insert (num s h c) (Finset.Ico (num s h c + 1) 56) from by
    ext x; simp only [Finset.mem_insert, Finset.mem_Ico, num]; omega, Finset.sum_insert (by simp only [Finset.mem_Ico]; omega)]
  conv_lhs => unfold dueN
  rw [hOf_num, cOf_num, num_div, add_assoc (_ + _) (dueR d s h c), add_comm (_ + _) (dueR d s h c + _), ← add_assoc]
  rfl
theorem owedN_end (d : Dev nD) : owedN d 56 = owedA d 0 := by
  unfold owedN; rw [Finset.Ico_self, Finset.sum_empty, zero_add]
theorem owedA_succ (d : Dev nD) (o : Fin 7) : owedA d o.val = owedA d (o.val + 1) + dueA d o := by
  unfold owedA
  rw [show (Finset.univ.filter fun o' : Fin 7 => o.val ≤ o'.val) = insert o (Finset.univ.filter fun o' : Fin 7 => o.val + 1 ≤ o'.val) from by
    revert o; decide, Finset.sum_insert (by simp), add_comm]
theorem owedA_end (d : Dev nD) : owedA d 7 = 0 := by
  unfold owedA; rw [show (Finset.univ.filter fun o' : Fin 7 => 7 ≤ o'.val) = ∅ from by decide]; rfl

theorem above_owedA (d : Dev nD) (n : ℕ) : Above 999 (owedA d n) :=
  above_sum _ _ fun o _ => above_tally _ _ (by decide) (by decide)
theorem Above.mono {b b' : ℕ} {O : CellTallies nD τ sig ℕ} (h : Above b O) (hb : b' ≤ b) : Above b' O :=
  fun g u hg => ⟨(h g u hg).1, lt_of_le_of_lt hb (h g u hg).2.1, (h g u hg).2.2⟩
theorem above_dueR (d : Dev nD) (s : ℕ) (hs : s ≤ 6) (h : Fin 2) (c : Fin 4) : Above (2 * num s h c + 2) (dueR d s h c) :=
  above_tally _ _ (by omega) (by have := h.isLt; have := c.isLt; simp only [num]; omega)
theorem above_dueC (d : Dev nD) (s : ℕ) (hs : s ≤ 6) (h : Fin 2) (c : Fin 4) : Above (2 * num s h c + 1) (dueC d s h c) := by
  unfold dueC; split
  · exact above_zero _
  · exact above_tally _ _ (by omega) (by have := h.isLt; have := c.isLt; simp only [num]; omega)
theorem above_owedN (d : Dev nD) (n : ℕ) : Above (min (2 * n + 1) 999) (owedN d n) := by
  refine above_add (above_sum _ _ fun i hi => ?_) ((above_owedA d 0).mono (Nat.min_le_right _ _))
  have hi := Finset.mem_Ico.mp hi
  have e : num (i / 8) (hOf i) (cOf i) = i := by simp only [num, hOf, cOf]; omega
  refine above_add ((above_dueR d _ (by omega) _ _).mono ?_) ((above_dueC d _ (by omega) _ _).mono ?_) <;> rw [e] <;> omega

/-! ## Rounds and steps -/

theorem sl_val (s : ℕ) : (sl s).val = s % 2 := rfl
theorem pay_snd (d : Dev nD) (s : ℕ) (h : Fin 2) (c : Fin 4) (r : ℕ) (j : Fin 2) : pay m d (some (.snd (sl s) h c)) r j = anyO m d (cA (sl s) h c) := rfl
theorem pay_rcv (d : Dev nD) (s : ℕ) (h : Fin 2) (c : Fin 4) (j : Fin 2) : pay m d (some (.rcv (sl (s + 1)) h c)) (s / 2) j = rcvPay m d s h c := by
  show rcvPay m d (2 * (s / 2) + 1 - (s + 1) % 2) h c = _
  rw [show 2 * (s / 2) + 1 - (s + 1) % 2 = s from by omega]
theorem pay_crd (d : Dev nD) (s : ℕ) (hs : 1 ≤ s) (h : Fin 2) (c : Fin 4) (j : Fin 2) :
    pay m d (some (.crd (sl (s + 1)) h c)) ((s - 1) / 2) j = crdPay m d s h c := by
  show crdPay m d (2 * ((s - 1) / 2) + 1 + (s + 1) % 2) h c = _
  rw [show 2 * ((s - 1) / 2) + 1 + (s + 1) % 2 = s from by omega]
theorem pay_xs (d : Dev nD) (s : ℕ) (h : Fin 2) (j : Fin 2) : pay m d (some (.xs (sl s) h)) (s / 2) j = xsPay m d s h := by
  show xsPay m d (2 * (s / 2) + s % 2) h = _
  rw [show 2 * (s / 2) + s % 2 = s from by omega]
theorem live_snd (d : Dev nD) (s : ℕ) (hs : s ≤ 6) (h : Fin 2) (c : Fin 4) : live d (.snd (sl s) h c) (s / 2) := by
  show 2 * (s / 2) + s % 2 ≤ 6; omega
theorem live_rcv (d : Dev nD) (s : ℕ) (hs : s ≤ 6) (h : Fin 2) (c : Fin 4) : live d (.rcv (sl (s + 1)) h c) (s / 2) := by
  show 2 * (s / 2) + 1 - (s + 1) % 2 ≤ 6; omega
theorem live_crd (d : Dev nD) (s : ℕ) (h1 : 1 ≤ s) (hs : s ≤ 6) (h : Fin 2) (c : Fin 4) : live d (.crd (sl (s + 1)) h c) ((s - 1) / 2) := by
  show 2 * ((s - 1) / 2) + 1 + (s + 1) % 2 ≤ 6; omega
theorem live_xs (d : Dev nD) (s : ℕ) (h : Fin 2) (hs : s + h.val ≤ 7) : live d (.xs (sl s) h) (s / 2) := by
  show 2 * (s / 2) + s % 2 + h.val ≤ 7; omega

/-- Rounds of each semaphore over before stage `s`. -/
abbrev posS (p : Fin 2) (s : ℕ) : ℕ := (s - p.val) / 2
abbrev posR (p : Fin 2) (s : ℕ) : ℕ := (s + p.val - 1) / 2

end Cert.RingProof

end
-- ==== Proof.Ops.lean ====
/-
The kernel's operations against the schedule: loads and stores of a held view, waits on the own semaphores, the
copies between neighbours and the credits.
-/
module

public import proofs.«01_k».proof.Proof.Owed

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Ownership and persistent facts -/

/-- Device `d`'s program meets its postcondition. -/
abbrev WP (d : Dev nD) (k : KP F) (Q : PUnit → sProp 𝕄) : sProp 𝕄 := wp frame (wpE (defs₀ (F := F)) 𝒱₀ (d : Thread nD τ) none) Set.univ k Q

def Ow (d : Dev nD) (O : CellTallies nD τ sig ℕ) : sProp 𝕄 := iprop(∃ W, owes (d : Thread nD τ) O W)

variable (K : Dev nD × Key → ℕ)

/-- What every device knows throughout: the invariants of all cells, the order of waits, and that round 0 is reached. -/
def Env : sProp 𝕄 :=
  iprop((bigSep Finset.univ fun x : Dev nD × Key => cellInv ER (Rd m) (K x) (kcell x.1 x.2)) ∗ levAts L lv
    ∗ bigSep Finset.univ fun x : Dev nD × Key => reached ER (kcell x.1 x.2) 0)
instance Env_persistent : BI.Persistent (Env m K) := by unfold Env; infer_instance

theorem env_inv (d : Dev nD) (k : Key) : Env m K ⊢ cellInv ER (Rd m) (K (d, k)) (kcell d k) := by
  unfold Env
  exact sep_elim_left.trans (bigSep_elim (Finset.mem_univ (d, k)))
theorem env_lev : Env m K ⊢ levAts L lv := by
  unfold Env
  iintro ⟨-, #H, -⟩
  iexact H
theorem env_reached (d : Dev nD) (k : Key) : Env m K ⊢ reached ER (kcell d k) 0 := by
  unfold Env
  exact (sep_elim_right.trans sep_elim_right).trans (bigSep_elim (Finset.mem_univ (d, k)))

/-! ## Loads and stores of a held view -/

omit [FloatOps F] in
theorem vO_any {sp : Space} {s : Shape} {e : EltTy} (d : Dev nD) (V : View sig .tc sp s e) (v : s.Idx → Elt F e) :
    vO m d V fullShare v ⊢ anyO m d V := by
  unfold anyO; iintro H; iexists v; iexact H

theorem wp_ld {Φ : PUnit → sProp 𝕄} {s : Shape} {e : EltTy} {cs : CoreSpace} (d : Dev nD) (M : Memref sig .tc cs s e) (r : Rect s) {hl : M.view.LoadsAt r} {q : PosShare TreeShare}
    {v : r.shape.Idx → Elt F e} {k : (r.shape.Idx → Elt F e) → KP F} :
    vO m d (M.access r) q v ⊢ iprop((vO m d (M.access r) q v -∗ WP d (k v) Φ) -∗ WP d (.op (.load M r hl) k) Φ) := by
  unfold vO
  have h := wp_load_rect (defs := defs₀ (F := F)) (Γ := .empty) (Q := Φ) 𝒱₀ (d : Thread nD τ) none Set.univ (m := M) (r := r) (hl := hl) (k := k) (q := q)
    (f := (M.access r).write (Elt F) (m ((M.access r).loc (d : Thread nD τ))) v Finset.univ) (Finset.Subset.refl _)
  rw [View.read_write_univ] at h
  exact h
theorem wp_st {Φ : PUnit → sProp 𝕄} {s : Shape} {e : EltTy} {cs : CoreSpace} (d : Dev nD) (M : Memref sig .tc cs s e) (r : Rect s) {w : r.shape.Idx → Elt F e}
    {hx : (M.access r).Stores Finset.univ} {hm : (Finset.univ : Finset r.shape.Idx) = Finset.univ ∨ ∀ a, r.stride a = 1} {k : PUnit → KP F} :
    anyO m d (M.access r) ⊢ iprop((vO m d (M.access r) fullShare w -∗ WP d (k ⟨⟩) Φ) -∗ WP d (.op (.store M r w Finset.univ hx hm) k) Φ) := by
  unfold anyO
  iintro ⟨%v, H⟩ Hk
  have h := wp_store (defs := defs₀ (F := F)) (Γ := .empty) (Q := Φ) 𝒱₀ (d : Thread nD τ) none Set.univ (m := M) (r := r) (w := w) (hx := hx) (hm := hm) (k := k) (Mk := Finset.univ)
    (S := (M.access r).set) (f := (M.access r).write (Elt F) (m ((M.access r).loc (d : Thread nD τ))) v Finset.univ) (Finset.Subset.refl _)
  rw [pts_vO m d (M.access r) fullShare ((M.access r).write (Elt F) _ w Finset.univ) w (View.read_write_univ _ _)] at h
  unfold vO at h ⊢
  iapply h $$ H Hk

/-! ## Waits -/

theorem wp_wt {Φ : PUnit → sProp 𝕄} (d : Dev nD) (k : OKey) (r : ℕ) (hl : live d k r) (ι : ℕ) (hι : ι < 2000) {O : CellTallies nD τ sig ℕ} (hO : Above ι O)
    {w : TpuEff nD τ sig (Elt F) Λ₀ .tc PUnit}
    (hw : ∀ K : PUnit → sProp 𝕄, wpE (defs₀ (F := F)) 𝒱₀ (d : Thread nD τ) none Set.univ w K = waitSpec (d : Thread nD τ) Set.univ (osem k) (amt (some k)) K)
    {kt : PUnit → KP F} :
    iprop(Env m K ∗ cred (tallyAt (kcell d (some k)) ι (amt (some k))) ∗ Ow d O ∗ atPos ER (kcell d (some k)) r ∅ 0)
      ⊢ iprop(((Ow d O ∗ atPos ER (kcell d (some k)) (r + 1) ∅ 0 ∗ reached ER (kcell d (some k)) (r + 1) ∗ pay m d (some k) r 0) -∗ WP d (kt ⟨⟩) Φ)
          -∗ WP d (.op w kt) Φ) := by
  have hrest : bigSep ((Rd (F := F) m).duties ((d : Thread nD τ), osem k) r \ ∅) (fun j => (Rd (F := F) m).payload ((d : Thread nD τ), osem k) r j)
      ⊢ pay m d (some k) r 0 := Entails.of_eq (rest_live m hl)
  unfold Ow
  iintro ⟨#HE, Hc, ⟨%W, HO⟩, Hat⟩ Hk
  iapply (Rounds.wp_wait_rest_token (defs := defs₀ (F := F)) 𝒱₀ ER (Rd m) (d : Thread nD τ) none (κ := K (d, some k)) hw (Set.mem_univ _) ι
    (O := O) (W := W) (R := r) (m := 0) (T := ∅) (by rw [Nat.zero_add]; exact (expect_live m hl).symm)) $$ [Hc HO Hat]
  · isplitr; · iapply (env_inv m K d (some k)); iexact HE
    isplitl [Hc]; · iexact Hc
    isplitl [HO]; · iexact HO
    isplitr
    · iapply (mayWait d (osem k) hι hO); iapply (env_lev m K); iexact HE
    iexact Hat
  iintro ⟨HO, Hat, Hr, Hp⟩
  iapply Hk
  isplitl [HO]; · iexists _; iexact HO
  isplitl [Hat]; · iexact Hat
  isplitl [Hr]; · iexact Hr
  iapply hrest $$ Hp

end Cert.RingProof

end
-- ==== Proof.Copies.lean ====
/-
The copies between neighbours, the credits, and the staged blocks of `x`.
-/
module

public import proofs.«01_k».proof.Proof.Ops

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Key → ℕ)

/-! ## A view and its squeeze -/

omit [FloatOps F] in
/-- Ownership under a view is ownership under its squeeze. -/
theorem vO_sq {sp : Space} {s s' : Shape} {e : EltTy} (d : Dev nD) (V : View sig .tc sp s e) (hn : s'.numel = s.numel) (q : PosShare TreeShare) (v : s.Idx → Elt F e) :
    vO m d V q v = ((V.reshape s' hn).loc (d : Thread nD τ) ↦[(V.reshape s' hn).set]{q} (V.write (Elt F) (m (V.loc (d : Thread nD τ))) v Finset.univ) : sProp 𝕄) := by
  unfold vO; rw [View.set_reshape]
omit [FloatOps F] in
/-- Writing under the squeeze. -/
theorem sq_vO {sp : Space} {s s' : Shape} {e : EltTy} (d : Dev nD) (V : View sig .tc sp s e) (hn : s'.numel = s.numel) (q : PosShare TreeShare) (v : s.Idx → Elt F e)
    (fd : Buf (Elt F) (V.loc (d : Thread nD τ))) (w : s'.Idx → Elt F e) (hw : (fun x => w ((Shape.reshapeEquiv hn).symm x)) = v) :
    ((V.reshape s' hn).loc (d : Thread nD τ) ↦[(V.reshape s' hn).set]{q} ((V.reshape s' hn).write (Elt F) fd w Finset.univ) : sProp 𝕄) = vO m d V q v := by
  subst hw
  rw [View.set_reshape, View.write_reshape_univ]
  exact pts_vO m d V q _ _ (View.read_write_univ _ _)
omit [FloatOps F] in
theorem read_sq {sp : Space} {s s' : Shape} {e : EltTy} (V : View sig .tc sp s e) (hn : s'.numel = s.numel) (f : V.ty.Contents (Elt F)) (v : s.Idx → Elt F e)
    (hv : V.read (Elt F) f = v) : (fun x => (V.reshape s' hn).read (Elt F) f ((Shape.reshapeEquiv hn).symm x)) = v := by
  subst hv
  funext x
  simp [View.read_apply]

theorem mem_live {d : Dev nD} {k : OKey} {r : ℕ} (h : live d k r) : (0 : Fin 2) ∈ (Rd (F := F) m).duties (kcell d (some k)) r := by
  rw [duties_live m h]; exact Finset.mem_singleton_self _

theorem amount_cV (p h : Fin 2) (c : Fin 4) (sm : DmaSem sig) : (cV p h c).view.amount (.dma sm) = NC := by
  unfold NC; rw [View.amount_dma]
theorem amount_bV (p h : Fin 2) (sm : DmaSem sig) : (bV p h).view.amount (.dma sm) = NX := by
  unfold NX; rw [View.amount_dma]

/-! ## The ring's copies -/

theorem wp_sendP {Φ : PUnit → sProp 𝕄} (d : Dev nD) (s : ℕ) (hs : s ≤ 6) (h : Fin 2) (c : Fin 4) (k : KP F) (O : CellTallies nD τ sig ℕ) :
    iprop(Env m K ∗ vO m d (cA (sl s) h c) fullShare (vS m s d h c) ∗ anyO m (dn h d) (cA (sl (s + 1)) h c) ∗ Ow d (O + dueR d s h c)
        ∗ dutyTok ER (kcell d (some (.snd (sl s) h c))) (s / 2) 0 ∗ reached ER (kcell d (some (.snd (sl s) h c))) (s / 2)
        ∗ dutyTok ER (kcell (dn h d) (some (.rcv (sl (s + 1)) h c))) (s / 2) 0 ∗ reached ER (kcell (dn h d) (some (.rcv (sl (s + 1)) h c))) (s / 2)
        ∗ reached ER (kcell d (some (.crd (sl s) h c))) (s / 2))
      ⊢ iprop(((cred (tallyAt (kcell d (some (.snd (sl s) h c))) 0 NC) ∗ Ow d O) -∗ WP d k Φ) -∗ WP d (sendP d s h c k) Φ) := by
  have hp1 : vO m d (cA (sl s) h c) fullShare (vS m s d h c) ⊢ (Rd (F := F) m).payload ((d : Thread nD τ), .dma (sendS (sl s) h c)) (s / 2) 0 :=
    (vO_any m d _ _).trans (Entails.of_eq (payload_eq m d (some (.snd (sl s) h c)) (s / 2) 0).symm)
  have hp2 : iprop(vO m (dn h d) (cA (sl (s + 1)) h c) fullShare (vS m s d h c) ∗ reached ER (kcell d (some (.crd (sl s) h c))) (s / 2))
      ⊢ (Rd (F := F) m).payload ((dn h d : Thread nD τ), .dma (recvS (sl (s + 1)) h c)) (s / 2) 0 := by
    refine BIBase.Entails.trans ?_ (Entails.of_eq ((payload_eq m (dn h d) (some (.rcv (sl (s + 1)) h c)) (s / 2) 0).trans (pay_rcv m (dn h d) s h c 0)).symm)
    unfold rcvPay; rw [up_dn]
  unfold Ow anyO
  iintro ⟨#HE, Hs, ⟨%vd, Hd⟩, ⟨%W, HO⟩, Ht1, Hr1, Ht2, Hr2, Hr3⟩ Hk
  rw [vO_sq m d (cA (sl s) h c) squeezes_S1x512x1024_S512x1024.numel_eq] at hp1
  ihave Hs := (Entails.of_eq (vO_sq m d (cA (sl s) h c) squeezes_S1x512x1024_S512x1024.numel_eq _ _)) $$ Hs
  ihave Hd := (Entails.of_eq (vO_sq m (dn h d) (cA (sl (s + 1)) h c) squeezes_S1x512x1024_S512x1024.numel_eq _ _)) $$ Hd
  iapply (Rounds.wp_send_pointsTo_with (defs := defs₀ (F := F)) (Γ := .empty) 𝒱₀ ER (Rd m) (d : Thread nD τ) none
      (κ₁ := K (d, some (.snd (sl s) h c))) (κ₂ := K (dn h d, some (.rcv (sl (s + 1)) h c)))
      (src := cV (sl s) h c) (dst := cV (sl (s + 1)) h c) (c' := (dn h d : Thread nD τ))
      (sS := .dma (sendS (sl s) h c)) (sem := .dma (recvS (sl (s + 1)) h c)) (r₁ := s / 2) (r₂ := s / 2) (d₁ := 0) (d₂ := 0)
      (F := reached ER (kcell d (some (.crd (sl s) h c))) (s / 2))
      (@mem_live F _ m d (.snd (sl s) h c) (s / 2) (live_snd d s hs h c))
      (@mem_live F _ m (dn h d) (.rcv (sl (s + 1)) h c) (s / 2) (live_rcv (dn h d) s hs h c))
      (2 * num s h c + 3) 0 NC (amount_cV _ _ _ _) (amount_eq m d (some (.snd (sl s) h c)) _ _) (amount_eq m (dn h d) (some (.rcv (sl (s + 1)) h c)) _ _)
      O rfl (W := W) hp1 ((sep_mono_left (Entails.of_eq (sq_vO m (dn h d) (cA (sl (s + 1)) h c) _ fullShare (vS m s d h c) _ _
        (read_sq (cA (sl s) h c) _ _ _ (View.read_write_univ _ _))))).trans hp2)) $$ [Hs Hd HO Ht1 Hr1 Ht2 Hr2 Hr3]
  · isplitr; · iapply (env_inv m K d (some (.snd (sl s) h c))); iexact HE
    isplitr; · iapply (env_inv m K (dn h d) (some (.rcv (sl (s + 1)) h c))); iexact HE
    isplitl [Hs]; · iexact Hs
    isplitl [Hd Hr3]
    · isplitl [Hd]; · iexact Hd
      iexact Hr3
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The wait for what was sent at step `s`, at the stage after it. -/
theorem wp_recvP {Φ : PUnit → sProp 𝕄} (d : Dev nD) (s : ℕ) (hs : s ≤ 6) (h : Fin 2) (c : Fin 4) (k : KP F) {O : CellTallies nD τ sig ℕ} (hO : Above (2 * num s h c + 3) O) :
    iprop(Env m K ∗ cred (tallyAt (kcell d (some (.rcv (sl (s + 1)) h c))) (2 * num s h c + 3) NC) ∗ Ow d O ∗ atPos ER (kcell d (some (.rcv (sl (s + 1)) h c))) (s / 2) ∅ 0)
      ⊢ iprop(((Ow d O ∗ atPos ER (kcell d (some (.rcv (sl (s + 1)) h c))) (s / 2 + 1) ∅ 0 ∗ reached ER (kcell d (some (.rcv (sl (s + 1)) h c))) (s / 2 + 1) ∗ rcvPay m d s h c) -∗ WP d k Φ)
          -∗ WP d (recvP (s + 1) h c k) Φ) := by
  have h0 := wp_wt (Φ := Φ) m K d (.rcv (sl (s + 1)) h c) (s / 2) (live_rcv d s hs h c) (2 * num s h c + 3)
    (by have := h.isLt; have := c.isLt; simp only [num]; omega) hO
    (w := .waitDma2 (recvS (sl (s + 1)) h c) (cV (sl (s + 1 + 1)) h c) (cV (sl (s + 1)) h c) (cV_exact _ _ _) (cV_exact _ _ _))
    (wpE_waitDma2_eq 𝒱₀ (d : Thread nD τ) none Set.univ) (kt := fun _ => k)
  rw [pay_rcv] at h0
  exact h0
/-- The wait for the own copy of step `s`. -/
theorem wp_sentP {Φ : PUnit → sProp 𝕄} (d : Dev nD) (s : ℕ) (hs : s ≤ 6) (h : Fin 2) (c : Fin 4) (k : KP F) {O : CellTallies nD τ sig ℕ} (hO : Above 0 O) :
    iprop(Env m K ∗ cred (tallyAt (kcell d (some (.snd (sl s) h c))) 0 NC) ∗ Ow d O ∗ atPos ER (kcell d (some (.snd (sl s) h c))) (s / 2) ∅ 0)
      ⊢ iprop(((Ow d O ∗ atPos ER (kcell d (some (.snd (sl s) h c))) (s / 2 + 1) ∅ 0 ∗ reached ER (kcell d (some (.snd (sl s) h c))) (s / 2 + 1) ∗ anyO m d (cA (sl s) h c)) -∗ WP d k Φ)
          -∗ WP d (sentP (s + 1) h c k) Φ) := by
  have e : sl (s + 1 + 1) = sl s := Fin.ext (by show (s + 1 + 1) % 2 = s % 2; omega)
  have h0 := wp_wt (Φ := Φ) m K d (.snd (sl s) h c) (s / 2) (live_snd d s hs h c) 0 (by decide) hO
    (w := .waitDma2 (sendS (sl s) h c) (cV (sl (s + 1)) h c) (cV (sl s) h c) (cV_exact _ _ _) (cV_exact _ _ _))
    (wpE_waitDma2_eq 𝒱₀ (d : Thread nD τ) none Set.univ) (kt := fun _ => k)
  rw [show sentP (F := F) (s + 1) h c k = Prog.op (.waitDma2 (sendS (sl s) h c) (cV (sl (s + 1)) h c) (cV (sl s) h c)
      (cV_exact _ _ _) (cV_exact _ _ _)) fun _ => k from by unfold sentP; simp only [e]]
  exact h0
/-- The credit to the upstream neighbour. -/
theorem wp_credit {Φ : PUnit → sProp 𝕄} (d : Dev nD) (s : ℕ) (h1 : 1 ≤ s) (hs : s ≤ 6) (h : Fin 2) (c : Fin 4) (k : PUnit → KP F) (O : CellTallies nD τ sig ℕ) :
    iprop(Env m K ∗ Ow d (O + dueC d s h c) ∗ dutyTok ER (kcell (up h d) (some (.crd (sl (s + 1)) h c))) ((s - 1) / 2) 0
        ∗ crdPay m (up h d) s h c ∗ reached ER (kcell (up h d) (some (.crd (sl (s + 1)) h c))) ((s - 1) / 2))
      ⊢ iprop((Ow d O -∗ WP d (k ⟨⟩) Φ) -∗ WP d (.op (.semSignal (up h d, .tc) (credS (sl (s + 1)) h c) ((1 : ℕ) : ℤ)) k) Φ) := by
  have hp : crdPay m (up h d) s h c ⊢ (Rd (F := F) m).payload ((up h d : Thread nD τ), .reg (credS (sl (s + 1)) h c)) ((s - 1) / 2) 0 :=
    Entails.of_eq ((payload_eq m (up h d) (some (.crd (sl (s + 1)) h c)) ((s - 1) / 2) 0).trans (pay_crd m (up h d) s h1 h c 0)).symm
  unfold Ow dueC
  rw [if_neg (by omega)]
  iintro ⟨#HE, ⟨%W, HO⟩, Ht, Hp, Hr⟩ Hk
  iapply (Rounds.wp_signal (defs := defs₀ (F := F)) (Γ := .empty) 𝒱₀ ER (Rd m) (d : Thread nD τ) none (dst := (up h d : Thread nD τ))
      (κ := K (up h d, some (.crd (sl (s + 1)) h c))) (r := (s - 1) / 2) (d := 0)
      (@mem_live F _ m (up h d) (.crd (sl (s + 1)) h c) ((s - 1) / 2) (live_crd (up h d) s h1 hs h c)) (amount_eq m (up h d) (some (.crd (sl (s + 1)) h c)) _ _) (2 * num s h c + 2) O rfl (W := W)) $$ [HO Ht Hp Hr]
  · isplitr; · iapply (env_inv m K (up h d) (some (.crd (sl (s + 1)) h c))); iexact HE
    isplitl [HO]; · iexact HO
    isplitl [Ht]; · iexact Ht
    isplitl [Hp]; · iapply hp $$ Hp
    iexact Hr
  iintro HO
  iapply Hk
  iexists W; iexact HO
theorem wp_credited {Φ : PUnit → sProp 𝕄} (d : Dev nD) (s : ℕ) (h1 : 1 ≤ s) (hs : s ≤ 6) (h : Fin 2) (c : Fin 4) (k : PUnit → KP F) {O : CellTallies nD τ sig ℕ}
    (hO : Above (2 * num s h c + 2) O) :
    iprop(Env m K ∗ cred (tallyAt (kcell d (some (.crd (sl (s + 1)) h c))) (2 * num s h c + 2) 1) ∗ Ow d O ∗ atPos ER (kcell d (some (.crd (sl (s + 1)) h c))) ((s - 1) / 2) ∅ 0)
      ⊢ iprop(((Ow d O ∗ atPos ER (kcell d (some (.crd (sl (s + 1)) h c))) ((s - 1) / 2 + 1) ∅ 0 ∗ reached ER (kcell d (some (.crd (sl (s + 1)) h c))) ((s - 1) / 2 + 1)
            ∗ crdPay m d s h c) -∗ WP d (k ⟨⟩) Φ)
          -∗ WP d (.op (.semWait (credS (sl (s + 1)) h c) ((1 : ℕ) : ℤ)) k) Φ) := by
  have h0 := wp_wt (Φ := Φ) m K d (.crd (sl (s + 1)) h c) ((s - 1) / 2) (live_crd d s h1 hs h c) (2 * num s h c + 2)
    (by have := h.isLt; have := c.isLt; simp only [num]; omega) hO
    (w := .semWait (credS (sl (s + 1)) h c) ((1 : ℕ) : ℤ))
    (wpE_semWait_eq 𝒱₀ (d : Thread nD τ) none Set.univ) (kt := k)
  rw [pay_crd m d s h1] at h0
  exact h0

/-! ## The blocks of `x` -/

/-- The block of `x` of step `s`, at half share. -/
def xsO (d : Dev nD) (s : ℕ) (h : Fin 2) : sProp 𝕄 := (xSrc d s h).view.loc (d : Thread nD τ) ↦[(xSrc d s h).view.set]{halfOf h} Xd m d

theorem wp_fetchP {Φ : PUnit → sProp 𝕄} (d : Dev nD) (s : ℕ) (h : Fin 2) (hs : s + h.val ≤ 7) (f : Fin 2 → ℕ) (hf : ∀ a, f a + S512x512.size a ≤ S4096x512.size a)
    (hfe : f = ![512 * blkN d s h, 0]) (k : KP F) :
    iprop(Env m K ∗ xsO m d s h ∗ anyO m d (bA (sl s) h) ∗ dutyTok ER (kcell d (some (.xs (sl s) h))) (s / 2) 0 ∗ reached ER (kcell d (some (.xs (sl s) h))) (s / 2))
      ⊢ iprop((cred (tallyAt (kcell d (some (.xs (sl s) h))) 0 NX) -∗ WP d k Φ) -∗ WP d (fetchP (sl s) h f hf k) Φ) := by
  subst hfe
  have hp : iprop(vO m d (bA (sl s) h) fullShare (xbV m d s h) ∗ xsO m d s h) ⊢ (Rd (F := F) m).payload ((d : Thread nD τ), .dma (xS (sl s) h)) (s / 2) 0 :=
    Entails.of_eq ((payload_eq m d (some (.xs (sl s) h)) (s / 2) 0).trans (pay_xs m d s h 0)).symm
  unfold anyO xsO at *
  iintro ⟨#HE, Hx, ⟨%vb, Hb⟩, Ht, Hr⟩ Hk
  ihave Hb := (Entails.of_eq (vO_sq m d (bA (sl s) h) squeezes_S1x1x512x512_S512x512.numel_eq _ _)) $$ Hb
  iapply (Rounds.wp_copy_pointsTo (defs := defs₀ (F := F)) (Γ := .empty) 𝒱₀ ER (Rd m) (d : Thread nD τ) none (κ := K (d, some (.xs (sl s) h)))
      (src := xSrc d s h) (dst := bV (sl s) h) (sem := .dma (xS (sl s) h)) (r := s / 2) (d := 0) (q := halfOf h) (fs := Xd m d)
      (@mem_live F _ m d (.xs (sl s) h) (s / 2) (live_xs d s h hs)) 0 NX (amount_bV _ _ _) (amount_eq m d (some (.xs (sl s) h)) _ _)
      ((sep_mono_left (Entails.of_eq (sq_vO m d (bA (sl s) h) _ fullShare (xbV m d s h) _ _ rfl))).trans hp)) $$ [Hx Hb Ht Hr]
  · isplitr; · iapply (env_inv m K d (some (.xs (sl s) h))); iexact HE
    isplitl [Hx]; · iexact Hx
    isplitl [Hb]; · iexact Hb
    isplitl [Ht]; · iexact Ht
    iexact Hr
  iexact Hk
theorem wp_fetchedP {Φ : PUnit → sProp 𝕄} (d : Dev nD) (s : ℕ) (h : Fin 2) (hs : s + h.val ≤ 7) (f : Fin 2 → ℕ) (hf : ∀ a, f a + S512x512.size a ≤ S4096x512.size a)
    (k : KP F) {O : CellTallies nD τ sig ℕ} (hO : Above 0 O) :
    iprop(Env m K ∗ cred (tallyAt (kcell d (some (.xs (sl s) h))) 0 NX) ∗ Ow d O ∗ atPos ER (kcell d (some (.xs (sl s) h))) (s / 2) ∅ 0)
      ⊢ iprop(((Ow d O ∗ atPos ER (kcell d (some (.xs (sl s) h))) (s / 2 + 1) ∅ 0 ∗ reached ER (kcell d (some (.xs (sl s) h))) (s / 2 + 1)
          ∗ vO m d (bA (sl s) h) fullShare (xbV m d s h) ∗ xsO m d s h) -∗ WP d k Φ)
          -∗ WP d (fetchedP (sl s) h f hf k) Φ) := by
  have h0 := wp_wt (Φ := Φ) m K d (.xs (sl s) h) (s / 2) (live_xs d s h hs) 0 (by decide) hO
    (w := .waitDma2 (xS (sl s) h) (xA.slice (Rect.unit (s := S4096x512) f S512x512.size hf) (fun _ => rfl)) (bV (sl s) h)
      (View.wordExact_bits rfl) ((View.wordExact_bits rfl).reshape _ _))
    (wpE_waitDma2_eq 𝒱₀ (d : Thread nD τ) none Set.univ) (kt := fun _ => k)
  rw [pay_xs] at h0
  exact h0

end Cert.RingProof

end
-- ==== Proof.Stage.lean ====
/-
One stage of the ring, for symbolic step, half and chunk.
-/
module

public import proofs.«01_k».proof.Proof.Copies

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Key → ℕ)

/-! ## The partial products -/

/-- The staged block of `w`. -/
def Wo (d : Dev nD) : sProp 𝕄 := wM.view.loc (d : Thread nD τ) ↦[Finset.univ]{fullShare} Wd m d
/-- A half's block of `x` and its staged product. -/
def Px (d : Dev nD) (s : ℕ) (h : Fin 2) : sProp 𝕄 :=
  iprop(vO m d (bA (sl s) h) fullShare (xbV m d s h) ∗ vO m d (pA h) fullShare (stV (xbV m d s h) (wV m d h 0)))

theorem unst_st (x : Vec F S1x1x512x512 .f32) (w : Vec F S512x1024 .f32) : unst (stV x w) = dotV x w := by
  unfold unst stV
  funext i
  simp only [shapeCast, Shape.reshapeEquiv_reshapeEquiv, Shape.reshapeEquiv_self]

theorem wp_loadW {Φ : PUnit → sProp 𝕄} (d : Dev nD) (h : Fin 2) (c : Fin 4) (k : Vec F S512x1024 .f32 → KP F) :
    Wo m d ⊢ iprop((Wo m d -∗ WP d (k (wV m d h c)) Φ) -∗ WP d (loadW h c k) Φ) :=
  wp_load_rect (defs := defs₀ (F := F)) (Γ := .empty) (Q := Φ) 𝒱₀ (d : Thread nD τ) none Set.univ (m := wM) (r := wR h c) (k := k) (q := fullShare)
    (S := Finset.univ) (f := Wd m d) (Finset.subset_univ _)

theorem wp_partP {Φ : PUnit → sProp 𝕄} (d : Dev nD) (s : ℕ) (h : Fin 2) (c : Fin 4) (k : FVec F S512x1024 .f32 → KP F) :
    iprop(Wo m d ∗ Px m d s h) ⊢ iprop(((Wo m d ∗ Px m d s h) -∗ WP d (k (partV m d s h c)) Φ) -∗ WP d (partP (sl s) h c k) Φ) := by
  unfold Px partV
  rcases c with ⟨_ | n, hc⟩
  · iintro ⟨HW, HB, HP⟩ Hk
    iapply (wp_ld m d pM (pR h)) $$ HP
    iintro HP
    rw [unst_st]
    iapply Hk
    isplitl [HW]; · iexact HW
    isplitl [HB]; · iexact HB
    iexact HP
  · iintro ⟨HW, HB, HP⟩ Hk
    iapply (wp_ld m d bM (bR (sl s) h)) $$ HB
    iintro HB
    iapply (wp_loadW m d h ⟨n + 1, hc⟩) $$ HW
    iintro HW
    iapply Hk
    isplitl [HW]; · iexact HW
    isplitl [HB]; · iexact HB
    iexact HP

/-! ## The state of a chunk -/

/-- The credit for the arrival of what was sent at step `s`. -/
def crR (d : Dev nD) (s : ℕ) (h : Fin 2) (c : Fin 4) : sProp 𝕄 := cred (tallyAt (kcell d (some (.rcv (sl (s + 1)) h c))) (2 * num s h c + 3) NC)
def crC (d : Dev nD) (s : ℕ) (h : Fin 2) (c : Fin 4) : sProp 𝕄 := cred (tallyAt (kcell d (some (.crd (sl (s + 1)) h c))) (2 * num s h c + 2) 1)
def tkC (d : Dev nD) (s : ℕ) (h : Fin 2) (c : Fin 4) : sProp 𝕄 := dutyTok ER (kcell (up h d) (some (.crd (sl (s + 1)) h c))) ((s - 1) / 2) 0
def tkS (d : Dev nD) (s : ℕ) (h : Fin 2) (c : Fin 4) : sProp 𝕄 := dutyTok ER (kcell d (some (.snd (sl s) h c))) (s / 2) 0
def tkR (d : Dev nD) (s : ℕ) (h : Fin 2) (c : Fin 4) : sProp 𝕄 := dutyTok ER (kcell (dn h d) (some (.rcv (sl (s + 1)) h c))) (s / 2) 0
/-- What stage `n + 1` spends. -/
def StTok (d : Dev nD) (n : ℕ) (h : Fin 2) (c : Fin 4) : sProp 𝕄 :=
  iprop(crR (F := F) d n h c ∗ crC (F := F) d (n + 1) h c ∗ tkC (F := F) d (n + 1) h c ∗ tkS (F := F) d (n + 1) h c ∗ tkR (F := F) d (n + 1) h c)

/-- The positions on a chunk's six semaphores after stage `n`. -/
def Pos (d : Dev nD) (n : ℕ) (h : Fin 2) (c : Fin 4) : sProp 𝕄 :=
  iprop(atPos ER (kcell d (some (.snd (sl n) h c))) (n / 2) ∅ 0 ∗ atPos ER (kcell d (some (.snd (sl (n + 1)) h c))) ((n + 1) / 2) ∅ 0
    ∗ atPos ER (kcell d (some (.rcv (sl (n + 1)) h c))) (n / 2) ∅ 0 ∗ atPos ER (kcell d (some (.rcv (sl n) h c))) ((n + 1) / 2) ∅ 0
    ∗ atPos ER (kcell d (some (.crd (sl n) h c))) (n / 2) ∅ 0 ∗ atPos ER (kcell d (some (.crd (sl (n + 1)) h c))) ((n + 1) / 2) ∅ 0)
/-- A chunk after stage `n`: the copy of step `n` is under way. -/
def Af (d : Dev nD) (n : ℕ) (h : Fin 2) (c : Fin 4) : sProp 𝕄 :=
  iprop(Pos (F := F) d n h c ∗ cred (tallyAt (kcell d (some (.snd (sl n) h c))) 0 NC)
    ∗ reached ER (kcell d (some (.snd (sl (n + 1)) h c))) ((n + 1) / 2) ∗ reached ER (kcell d (some (.rcv (sl n) h c))) ((n + 1) / 2)
    ∗ reached ER (kcell d (some (.crd (sl (n + 1)) h c))) ((n + 1) / 2))
/-- A chunk before stage 0. -/
def Bf (d : Dev nD) (h : Fin 2) (c : Fin 4) : sProp 𝕄 :=
  iprop(Pos (F := F) d 0 h c ∗ anyO m d (cA (sl 0) h c) ∗ anyO m (dn h d) (cA (sl (0 + 1)) h c) ∗ tkS (F := F) d 0 h c ∗ tkR (F := F) d 0 h c)

theorem sl2 (n : ℕ) : sl (n + 1 + 1) = sl n := Fin.ext (by show (n + 1 + 1) % 2 = n % 2; omega)
theorem div2 (n : ℕ) : (n + 1 + 1) / 2 = n / 2 + 1 := by omega

theorem wp_stage0 {Φ : PUnit → sProp 𝕄} (d : Dev nD) (h : Fin 2) (c : Fin 4) (k : KP F) :
    iprop(Env m K ∗ Ow d (owedN d (num 0 h c)) ∗ Wo m d ∗ Px m d 0 h ∗ Bf m d h c)
      ⊢ iprop(((Ow d (owedN d (num 0 h c + 1)) ∗ Wo m d ∗ Px m d 0 h ∗ Af (F := F) d 0 h c) -∗ WP d k Φ) -∗ WP d (stage0 d h c k) Φ) := by
  have eO : owedN d (num 0 h c) = owedN d (num 0 h c + 1) + dueR d 0 h c := by
    rw [owedN_num d 0 (by decide) h c]; unfold dueC; rw [if_pos rfl, add_zero]
  rw [eO]
  unfold Bf Af tkS tkR
  iintro ⟨#HE, HO, HW, HX, HP, Hc, Hd, HtS, HtR⟩ Hk
  iapply (wp_partP m d 0 h c) $$ [HW HX]
  · isplitl [HW] <;> iassumption
  iintro ⟨HW, HX⟩
  unfold anyO
  icases Hc with ⟨%v0, Hc⟩
  iapply (wp_ld m d cM (cR (sl 0) h c)) $$ Hc
  iintro Hc
  ihave Hc := (vO_any m d _ _) $$ Hc
  iapply (wp_st m d cM (cR (sl 0) h c)) $$ Hc
  iintro Hc
  iapply (wp_sendP m K d 0 (by decide) h c k (owedN d (num 0 h c + 1))) $$ [Hc Hd HO HtS HtR]
  · isplitr; · iexact HE
    isplitl [Hc]; · iexact Hc
    isplitl [Hd]; · unfold anyO; iexact Hd
    isplitl [HO]; · iexact HO
    isplitl [HtS]; · iexact HtS
    isplitr; · iapply (env_reached m K d (some (.snd (sl 0) h c))); iexact HE
    isplitl [HtR]; · iexact HtR
    isplitr; · iapply (env_reached m K (dn h d) (some (.rcv (sl (0 + 1)) h c))); iexact HE
    iapply (env_reached m K d (some (.crd (sl 0) h c))); iexact HE
  iintro ⟨Hcr, HO⟩
  iapply Hk
  isplitl [HO]; · iexact HO
  isplitl [HW]; · iexact HW
  isplitl [HX]; · iexact HX
  isplitl [HP]; · iexact HP
  isplitl [Hcr]; · iexact Hcr
  isplitr; · iapply (env_reached m K d (some (.snd (sl (0 + 1)) h c))); iexact HE
  isplitr; · iapply (env_reached m K d (some (.rcv (sl 0) h c))); iexact HE
  iapply (env_reached m K d (some (.crd (sl (0 + 1)) h c))); iexact HE

theorem wp_stage {Φ : PUnit → sProp 𝕄} (d : Dev nD) (n : ℕ) (hn : n + 1 ≤ 6) (h : Fin 2) (c : Fin 4) (k : KP F) :
    iprop(Env m K ∗ Ow d (owedN d (num (n + 1) h c)) ∗ Wo m d ∗ Px m d (n + 1) h ∗ Xtra m (up h d) (n + 1) h c ∗ StTok (F := F) d n h c ∗ Af (F := F) d n h c)
      ⊢ iprop(((Ow d (owedN d (num (n + 1) h c + 1)) ∗ Wo m d ∗ Px m d (n + 1) h ∗ Xtra m d (n + 1) h c ∗ Af (F := F) d (n + 1) h c) -∗ WP d k Φ)
          -∗ WP d (stage d (n + 1) h c k) Φ) := by
  have hh := h.isLt
  have hc := c.isLt
  unfold StTok Af Pos crR crC tkC tkS tkR
  rw [sl2, div2]
  iintro ⟨#HE, HO, HW, HX, Hxt, ⟨Hc1, Hc2, Ht1, Ht2, Ht3⟩, ⟨HpS0, HpS1, HpR1, HpR0, HpC0, HpC1⟩, HcS, #HrS, #HrR, #HrC⟩ Hk
  iapply (wp_recvP m K d n (by omega) h c _ (O := owedN d (num (n + 1) h c))
    ((above_owedN d (num (n + 1) h c)).mono (by simp only [num]; omega))) $$ [Hc1 HO HpR1]
  · isplitr; · iexact HE
    isplitl [Hc1]; · iexact Hc1
    isplitl [HO] <;> iassumption
  unfold rcvPay
  iintro ⟨HO, HpR1, #HrR1, Hcm, #HrU⟩
  iapply (wp_sentP m K d n (by omega) h c _ (O := owedN d (num (n + 1) h c)) ((above_owedN d _).mono (Nat.zero_le _))) $$ [HcS HO HpS0]
  · isplitr; · iexact HE
    isplitl [HcS]; · iexact HcS
    isplitl [HO] <;> iassumption
  iintro ⟨HO, HpS0, #HrS0, Hold⟩
  iapply (wp_partP m d (n + 1) h c) $$ [HW HX]
  · isplitl [HW] <;> iassumption
  iintro ⟨HW, HX⟩
  iapply (wp_ld m d cM (cR (sl (n + 1)) h c)) $$ Hcm
  iintro Hcm
  iapply (wp_ld m d cM (cR (sl (n + 1)) h c)) $$ Hcm
  iintro Hcm
  ihave Hcm := (vO_any m d _ _) $$ Hcm
  iapply (wp_st m d cM (cR (sl (n + 1)) h c)) $$ Hcm
  iintro Hcm
  rw [owedN_num d (n + 1) hn h c]
  iapply (wp_credit m K d (n + 1) (by omega) hn h c _ (owedN d (num (n + 1) h c + 1) + dueR d (n + 1) h c)) $$ [HO Ht1 Hold Hxt]
  · isplitr; · iexact HE
    isplitl [HO]; · iexact HO
    rw [sl2]
    isplitl [Ht1]; · iexact Ht1
    isplitl [Hold Hxt]
    · unfold crdPay
      rw [dn_up, sl2]
      isplitl [Hold]; · iexact Hold
      isplitr; · iexact HrR
      iexact Hxt
    iexact HrU
  iintro HO
  iapply (wp_credited m K d (n + 1) (by omega) hn h c _ (O := owedN d (num (n + 1) h c + 1) + dueR d (n + 1) h c)
    (above_add ((above_owedN d (num (n + 1) h c + 1)).mono (by simp only [num]; omega)) (above_dueR d (n + 1) hn h c))) $$ [Hc2 HO HpC0]
  · rw [sl2]
    isplitr; · iexact HE
    isplitl [Hc2]; · iexact Hc2
    isplitl [HO]; · iexact HO
    iexact HpC0
  unfold crdPay
  rw [sl2]
  iintro ⟨HO, HpC0, #HrC0, Hdn, #HrD, Hxt⟩
  iapply (wp_sendP m K d (n + 1) hn h c k (owedN d (num (n + 1) h c + 1))) $$ [Hcm Hdn HO Ht2 Ht3]
  · rw [sl2]
    isplitr; · iexact HE
    isplitl [Hcm]; · iexact Hcm
    isplitl [Hdn]; · iexact Hdn
    isplitl [HO]; · iexact HO
    isplitl [Ht2]; · iexact Ht2
    isplitr; · iexact HrS
    isplitl [Ht3]; · iexact Ht3
    isplitr; · iexact HrD
    iexact HrC
  iintro ⟨Hcr, HO⟩
  iapply Hk
  isplitl [HO]; · iexact HO
  isplitl [HW]; · iexact HW
  isplitl [HX]; · iexact HX
  isplitl [Hxt]; · iexact Hxt
  isplitl [HpS0 HpS1 HpR1 HpR0 HpC0 HpC1]
  · isplitl [HpS1]; · iexact HpS1
    isplitl [HpS0]; · iexact HpS0
    isplitl [HpR0]; · iexact HpR0
    isplitl [HpR1]; · iexact HpR1
    isplitl [HpC1]; · iexact HpC1
    iexact HpC0
  isplitl [Hcr]; · iexact Hcr
  isplitr; · iexact HrS0
  isplitr; · iexact HrR1
  iexact HrC0

end Cert.RingProof

end
-- ==== Proof.Ring.lean ====
/-
The steps of the ring: the blocks of `x`, all chunks of a step, the last accumulation.
-/
module

public import proofs.«01_k».proof.Proof.Stage

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Key → ℕ)

/-! ## All chunks -/

/-- A family over all halves and chunks, in the kernel's order. -/
def Ch8 (A : Fin 2 → Fin 4 → sProp 𝕄) : sProp 𝕄 :=
  iprop(A 0 0 ∗ A 1 0 ∗ A 0 1 ∗ A 1 1 ∗ A 0 2 ∗ A 1 2 ∗ A 0 3 ∗ A 1 3)

omit [FloatOps F] in
theorem ch8_sep (A B : Fin 2 → Fin 4 → sProp 𝕄) : iprop(Ch8 A ∗ Ch8 B) ⊢ Ch8 (fun h c => iprop(A h c ∗ B h c)) := by
  unfold Ch8
  iintro ⟨⟨H0, H1, H2, H3, H4, H5, H6, H7⟩, ⟨G0, G1, G2, G3, G4, G5, G6, G7⟩⟩
  isplitl [H0 G0]; · isplitl [H0] <;> iassumption
  isplitl [H1 G1]; · isplitl [H1] <;> iassumption
  isplitl [H2 G2]; · isplitl [H2] <;> iassumption
  isplitl [H3 G3]; · isplitl [H3] <;> iassumption
  isplitl [H4 G4]; · isplitl [H4] <;> iassumption
  isplitl [H5 G5]; · isplitl [H5] <;> iassumption
  isplitl [H6 G6]; · isplitl [H6] <;> iassumption
  isplitl [H7] <;> iassumption

/-- A program run for each half and chunk in turn, over a shared state that counts them. -/
theorem wp_allP {Φ : PUnit → sProp 𝕄} (d : Dev nD) (f : Fin 2 → Fin 4 → KP F → KP F) (E : sProp 𝕄) [BI.Persistent E] (S : ℕ → sProp 𝕄) (A B : Fin 2 → Fin 4 → sProp 𝕄)
    (hf : ∀ h c k, iprop(E ∗ S (2 * c.val + h.val) ∗ A h c) ⊢ iprop(((S (2 * c.val + h.val + 1) ∗ B h c) -∗ WP d k Φ) -∗ WP d (f h c k) Φ)) (k : KP F) :
    iprop(E ∗ S 0 ∗ Ch8 A) ⊢ iprop(((S 8 ∗ Ch8 B) -∗ WP d k Φ) -∗ WP d (allP f k) Φ) := by
  unfold Ch8 allP
  iintro ⟨#HE, HS, ⟨H0, H1, H2, H3, H4, H5, H6, H7⟩⟩ Hk
  iapply (hf 0 0 _) $$ [HS H0]
  · isplitr; · iexact HE
    isplitl [HS] <;> iassumption
  iintro ⟨HS, H0⟩
  iapply (hf 1 0 _) $$ [HS H1]
  · isplitr; · iexact HE
    isplitl [HS] <;> iassumption
  iintro ⟨HS, H1⟩
  iapply (hf 0 1 _) $$ [HS H2]
  · isplitr; · iexact HE
    isplitl [HS] <;> iassumption
  iintro ⟨HS, H2⟩
  iapply (hf 1 1 _) $$ [HS H3]
  · isplitr; · iexact HE
    isplitl [HS] <;> iassumption
  iintro ⟨HS, H3⟩
  iapply (hf 0 2 _) $$ [HS H4]
  · isplitr; · iexact HE
    isplitl [HS] <;> iassumption
  iintro ⟨HS, H4⟩
  iapply (hf 1 2 _) $$ [HS H5]
  · isplitr; · iexact HE
    isplitl [HS] <;> iassumption
  iintro ⟨HS, H5⟩
  iapply (hf 0 3 _) $$ [HS H6]
  · isplitr; · iexact HE
    isplitl [HS] <;> iassumption
  iintro ⟨HS, H6⟩
  iapply (hf 1 3 _) $$ [HS H7]
  · isplitr; · iexact HE
    isplitl [HS] <;> iassumption
  iintro ⟨HS, H7⟩
  iapply Hk
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The blocks of `x` of a step -/

/-- The array `x` at the half's share. -/
def XA (d : Dev nD) (h : Fin 2) : sProp 𝕄 := xA.view.loc (d : Thread nD τ) ↦[Finset.univ]{halfOf h} Xd m d

theorem XA_take (d : Dev nD) (s : ℕ) (h : Fin 2) : XA m d h ⊢ iprop(xsO m d s h ∗ (xsO m d s h -∗ XA m d h)) := by
  unfold XA xsO
  iintro H
  ihave H := (pointsTo_split_subset (Finset.subset_univ (xSrc d s h).view.set)).1 $$ H
  icases H with ⟨H1, H2⟩
  isplitl [H1]; · iexact H1
  iintro H1
  iapply (pointsTo_split_subset (Finset.subset_univ (xSrc d s h).view.set)).2
  isplitl [H1]; · iexact H1
  iexact H2

def tkX (d : Dev nD) (s : ℕ) (h : Fin 2) : sProp 𝕄 := dutyTok ER (kcell d (some (.xs (sl s) h))) (s / 2) 0
/-- A half's fetches before step `s`. -/
def XP (d : Dev nD) (s : ℕ) (h : Fin 2) : sProp 𝕄 :=
  iprop(atPos ER (kcell d (some (.xs (sl s) h))) (s / 2) ∅ 0 ∗ atPos ER (kcell d (some (.xs (sl (s + 1)) h))) ((s + 1) / 2) ∅ 0
    ∗ reached ER (kcell d (some (.xs (sl s) h))) (s / 2) ∗ reached ER (kcell d (some (.xs (sl (s + 1)) h))) ((s + 1) / 2))
/-- A half's share of `x`, its staging buffer of step `s` and its fetches. -/
def XH (d : Dev nD) (s : ℕ) (h : Fin 2) : sProp 𝕄 :=
  iprop(XA m d h ∗ XP (F := F) d s h ∗ anyO m d (bA (sl (s + 1)) h))

theorem wp_fetch {Φ : PUnit → sProp 𝕄} (d : Dev nD) (s : ℕ) (h : Fin 2) (hs : s + h.val ≤ 7) (f : Fin 2 → ℕ) (hf : ∀ a, f a + S512x512.size a ≤ S4096x512.size a)
    (hfe : f = ![512 * blkN d s h, 0]) (k : KP F) :
    iprop(Env m K ∗ XH m d s h ∗ anyO m d (bA (sl s) h) ∗ tkX (F := F) d s h)
      ⊢ iprop(((cred (tallyAt (kcell d (some (.xs (sl s) h))) 0 NX) ∗ (xsO m d s h -∗ XA m d h) ∗ XP (F := F) d s h ∗ anyO m d (bA (sl (s + 1)) h)) -∗ WP d k Φ)
        -∗ WP d (fetchP (sl s) h f hf k) Φ) := by
  unfold XH XP tkX
  iintro ⟨#HE, ⟨HX, ⟨Hp0, Hp1, #Hr0, #Hr1⟩, Ho⟩, Hb, Ht⟩ Hk
  ihave HX := (XA_take m d s h) $$ HX
  icases HX with ⟨Hx, HX⟩
  iapply (wp_fetchP m K d s h hs f hf hfe k) $$ [Hx Hb Ht]
  · isplitr; · iexact HE
    isplitl [Hx]; · iexact Hx
    isplitl [Hb]; · iexact Hb
    isplitl [Ht]; · iexact Ht
    iexact Hr0
  iintro Hc
  iapply Hk
  isplitl [Hc]; · iexact Hc
  isplitl [HX]; · iexact HX
  isplitl [Hp0 Hp1]
  · isplitl [Hp0]; · iexact Hp0
    isplitl [Hp1]; · iexact Hp1
    isplitr; · iexact Hr0
    iexact Hr1
  iexact Ho
theorem wp_fetched {Φ : PUnit → sProp 𝕄} (d : Dev nD) (s : ℕ) (h : Fin 2) (hs : s + h.val ≤ 7) (f : Fin 2 → ℕ) (hf : ∀ a, f a + S512x512.size a ≤ S4096x512.size a)
    (k : KP F) {O : CellTallies nD τ sig ℕ} (hO : Above 0 O) :
    iprop(Env m K ∗ Ow d O ∗ cred (tallyAt (kcell d (some (.xs (sl s) h))) 0 NX) ∗ (xsO m d s h -∗ XA m d h) ∗ XP (F := F) d s h)
      ⊢ iprop(((Ow d O ∗ vO m d (bA (sl s) h) fullShare (xbV m d s h) ∗ XA m d h ∗ XP (F := F) d (s + 1) h) -∗ WP d k Φ)
        -∗ WP d (fetchedP (sl s) h f hf k) Φ) := by
  unfold XP
  rw [sl2, div2]
  iintro ⟨#HE, HO, Hc, HX, ⟨Hp0, Hp1, #Hr0, #Hr1⟩⟩ Hk
  iapply (wp_fetchedP m K d s h hs f hf k hO) $$ [HO Hc Hp0]
  · isplitr; · iexact HE
    isplitl [Hc]; · iexact Hc
    isplitl [HO] <;> iassumption
  iintro ⟨HO, Hp0, #Hr2, Hb, Hx⟩
  iapply Hk
  isplitl [HO]; · iexact HO
  isplitl [Hb]; · iexact Hb
  isplitl [HX Hx]; · iapply HX $$ Hx
  isplitl [Hp1]; · iexact Hp1
  isplitl [Hp0]; · iexact Hp0
  isplitr; · iexact Hr1
  iexact Hr2

theorem wp_pstageP {Φ : PUnit → sProp 𝕄} (d : Dev nD) (s : ℕ) (h : Fin 2) (k : KP F) :
    iprop(Wo m d ∗ vO m d (bA (sl s) h) fullShare (xbV m d s h) ∗ anyO m d (pA h))
      ⊢ iprop(((Wo m d ∗ Px m d s h) -∗ WP d k Φ) -∗ WP d (pstageP (sl s) h k) Φ) := by
  unfold Px anyO
  iintro ⟨HW, HB, ⟨%v, HP⟩⟩ Hk
  iapply (wp_ld m d bM (bR (sl s) h)) $$ HB
  iintro HB
  iapply (wp_loadW m d h 0) $$ HW
  iintro HW
  iapply (wp_ld m d pM (pR h)) $$ HP
  iintro HP
  ihave HP := (vO_any m d _ _) $$ HP
  iapply (wp_st m d pM (pR h)) $$ HP
  iintro HP
  iapply Hk
  isplitl [HW]; · iexact HW
  isplitl [HB] <;> iassumption

def PxB (d : Dev nD) (s : ℕ) : sProp 𝕄 := iprop(Px m d s 0 ∗ Px m d s 1)
theorem PxB_take (d : Dev nD) (s : ℕ) (h : Fin 2) : PxB m d s ⊢ iprop(Px m d s h ∗ (Px m d s h -∗ PxB m d s)) := by
  unfold PxB
  iintro ⟨H0, H1⟩
  match h with
  | 0 =>
    isplitl [H0]; · iexact H0
    iintro H0
    isplitl [H0] <;> iassumption
  | 1 =>
    isplitl [H1]; · iexact H1
    iintro H1
    isplitl [H0] <;> iassumption

/-- The staging buffers before step `s`. -/
def Fx (d : Dev nD) (s : ℕ) : sProp 𝕄 :=
  iprop(XH m d s 0 ∗ XH m d s 1 ∗ anyO m d (bA (sl s) 0) ∗ anyO m d (bA (sl s) 1) ∗ anyO m d (pA 0) ∗ anyO m d (pA 1))
/-- The same during step `s`, its blocks and products apart. -/
def Fy (d : Dev nD) (s : ℕ) : sProp 𝕄 :=
  iprop(XA m d 0 ∗ XA m d 1 ∗ XP (F := F) d (s + 1) 0 ∗ XP (F := F) d (s + 1) 1 ∗ anyO m d (bA (sl (s + 1)) 0) ∗ anyO m d (bA (sl (s + 1)) 1))

theorem Fx_next (d : Dev nD) (s : ℕ) : iprop(Fy m d s ∗ PxB m d s) ⊢ Fx m d (s + 1) := by
  unfold Fx Fy PxB Px XH
  rw [sl2]
  iintro ⟨⟨HX0, HX1, HP0, HP1, Hb0, Hb1⟩, ⟨Ha0, Hp0⟩, ⟨Ha1, Hp1⟩⟩
  isplitl [HX0 HP0 Ha0]
  · isplitl [HX0]; · iexact HX0
    isplitl [HP0]; · iexact HP0
    iapply (vO_any m d _ _) $$ Ha0
  isplitl [HX1 HP1 Ha1]
  · isplitl [HX1]; · iexact HX1
    isplitl [HP1]; · iexact HP1
    iapply (vO_any m d _ _) $$ Ha1
  isplitl [Hb0]; · iexact Hb0
  isplitl [Hb1]; · iexact Hb1
  isplitl [Hp0]; · iapply (vO_any m d _ _) $$ Hp0
  iapply (vO_any m d _ _) $$ Hp1

theorem off1_blk (d : Dev nD) (s : Fin 7) : k0_off1 d (BitVec.ofNat 32 s.val) = ![512 * blkN d s.val 0, 0] := by
  rw [k0_off1_eq]; rfl
theorem off2_blk (d : Dev nD) (s : Fin 7) : k0_off2 d (BitVec.ofNat 32 s.val) = ![512 * blkN d s.val 1, 0] := by
  rw [k0_off2_eq]
  have : (d.val + s.val + 1) % 8 = (d.val + 1 + s.val) % 8 := by congr 1; omega
  rw [this]; rfl

theorem wp_nextP {Φ : PUnit → sProp 𝕄} (d : Dev nD) (s : Fin 7) (k : KP F) {O : CellTallies nD τ sig ℕ} (hO : Above 0 O) :
    iprop(Env m K ∗ Ow d O ∗ Wo m d ∗ Fx m d s.val ∗ tkX (F := F) d s.val 0 ∗ tkX (F := F) d s.val 1)
      ⊢ iprop(((Ow d O ∗ Wo m d ∗ PxB m d s.val ∗ Fy m d s.val) -∗ WP d k Φ) -∗ WP d (nextP d s k) Φ) := by
  have hs := s.isLt
  unfold Fx Fy PxB nextP
  iintro ⟨#HE, HO, HW, ⟨HX0, HX1, Hb0, Hb1, Hp0, Hp1⟩, Ht0, Ht1⟩ Hk
  iapply (wp_fetch m K d s.val 0 (by show s.val + 0 ≤ 7; omega) _ _ (off1_blk d s) _) $$ [HX0 Hb0 Ht0]
  · isplitr; · iexact HE
    isplitl [HX0]; · iexact HX0
    isplitl [Hb0] <;> iassumption
  iintro ⟨Hc0, HX0, HP0, Hn0⟩
  iapply (wp_fetch m K d s.val 1 (by show s.val + 1 ≤ 7; omega) _ _ (off2_blk d s) _) $$ [HX1 Hb1 Ht1]
  · isplitr; · iexact HE
    isplitl [HX1]; · iexact HX1
    isplitl [Hb1] <;> iassumption
  iintro ⟨Hc1, HX1, HP1, Hn1⟩
  iapply (wp_fetched m K d s.val 0 (by show s.val + 0 ≤ 7; omega) _ _ _ hO) $$ [HO Hc0 HX0 HP0]
  · isplitr; · iexact HE
    isplitl [HO]; · iexact HO
    isplitl [Hc0]; · iexact Hc0
    isplitl [HX0] <;> iassumption
  iintro ⟨HO, Hb0, HX0, HP0⟩
  iapply (wp_fetched m K d s.val 1 (by show s.val + 1 ≤ 7; omega) _ _ _ hO) $$ [HO Hc1 HX1 HP1]
  · isplitr; · iexact HE
    isplitl [HO]; · iexact HO
    isplitl [Hc1]; · iexact Hc1
    isplitl [HX1] <;> iassumption
  iintro ⟨HO, Hb1, HX1, HP1⟩
  iapply (wp_pstageP m d s.val 0 _) $$ [HW Hb0 Hp0]
  · isplitl [HW]; · iexact HW
    isplitl [Hb0] <;> iassumption
  iintro ⟨HW, Hx0⟩
  iapply (wp_pstageP m d s.val 1 _) $$ [HW Hb1 Hp1]
  · isplitl [HW]; · iexact HW
    isplitl [Hb1] <;> iassumption
  iintro ⟨HW, Hx1⟩
  iapply Hk
  isplitl [HO]; · iexact HO
  isplitl [HW]; · iexact HW
  isplitl [Hx0 Hx1]; · isplitl [Hx0] <;> iassumption
  isplitl [HX0]; · iexact HX0
  isplitl [HX1]; · iexact HX1
  isplitl [HP0]; · iexact HP0
  isplitl [HP1]; · iexact HP1
  isplitl [Hn0]; · iexact Hn0
  iexact Hn1

/-! ## The rows of the maxima that are handed round -/

/-- Before stage `s` of the chunk that carries them: the rows still to pass on, and the own row of each device passed. -/
def Rw (d : Dev nD) (s : ℕ) : sProp 𝕄 :=
  iprop(Rows m (bk d s) (s + 1) ∗ bigSep (Finset.Ico 1 (s + 1)) fun j => anyO m (bk d j) (aA d))

theorem rowOf_bk (d : Dev nD) (s : ℕ) : rowOf (bk d s) s = d := by
  apply Fin.ext; have : d.val < 8 := d.isLt; simp only [rowOf, bk]; show ((d.val + 7 * s) % 8 + s) % 8 = d.val; omega
theorem bk_up (d : Dev nD) (s : ℕ) : bk (up 1 d) (s + 1) = bk d s := by rw [← dn1_bk, dn_up]

theorem rows_head (d : Dev nD) (s : ℕ) (hs : s ≤ 7) : Rows m (bk d s) s ⊢ iprop(anyO m (bk d s) (aA d) ∗ Rows m (bk d s) (s + 1)) := by
  unfold Rows
  rw [show Finset.Ico s 8 = insert s (Finset.Ico (s + 1) 8) from by ext x; simp only [Finset.mem_insert, Finset.mem_Ico]; omega,
    bigSep_insert (by simp), rowOf_bk]
  exact BI.Entails.refl _
theorem Rw_snoc (d : Dev nD) (s : ℕ) (hs : s ≤ 6) :
    iprop(Rows m (bk d (s + 1)) (s + 1) ∗ bigSep (Finset.Ico 1 (s + 1)) fun j => anyO m (bk d j) (aA d)) ⊢ Rw m d (s + 1) := by
  unfold Rw
  rw [show Finset.Ico 1 (s + 1 + 1) = insert (s + 1) (Finset.Ico 1 (s + 1)) from by ext x; simp only [Finset.mem_insert, Finset.mem_Ico]; omega,
    bigSep_insert (by simp)]
  show _ ⊢ iprop(_ ∗ (anyO m (bk d (s + 1)) (aA d) ∗ bigSep (Finset.Ico 1 (s + 1)) fun j => anyO m (bk d j) (aA d)))
  iintro ⟨H, Hk⟩
  ihave H := (rows_head m d (s + 1) (by omega)) $$ H
  icases H with ⟨H1, H2⟩
  isplitl [H2]; · iexact H2
  isplitl [H1] <;> iassumption
theorem Rw_step (d : Dev nD) (s : ℕ) (hs : s ≤ 6) : Rw m d s ⊢ iprop(Xtra m (up 1 d) s 1 0 ∗ (Xtra m d s 1 0 -∗ Rw m d (s + 1))) := by
  unfold Xtra
  rw [if_pos ⟨rfl, rfl⟩, bk_up]
  conv_lhs => unfold Rw
  iintro ⟨H, Hk⟩
  isplitl [H]; · iexact H
  rw [if_pos ⟨rfl, rfl⟩]
  iintro H
  iapply (Rw_snoc m d s hs)
  isplitl [H] <;> iassumption
theorem xtra_none (d : Dev nD) (s : ℕ) (h : Fin 2) (c : Fin 4) (hc : ¬(h = 1 ∧ c = 0)) : Xtra (F := F) m d s h c = iprop(emp) := if_neg hc

end Cert.RingProof

end
-- ==== Proof.Steps.lean ====
/-
The steps of the ring one after the other, and the last accumulation.
-/
module

public import proofs.«01_k».proof.Proof.Ring

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

variable (K : Dev nD × Key → ℕ)

/-- Device `d` after step `n`. -/
def St (d : Dev nD) (n : ℕ) : sProp 𝕄 :=
  iprop(Ow d (owedN d (8 * (n + 1))) ∗ Wo m d ∗ Fx m d (n + 1) ∗ Rw m d (n + 1) ∗ Ch8 (Af (F := F) d n))
/-- Device `d` before step 0. -/
def Bg (d : Dev nD) : sProp 𝕄 :=
  iprop(Ow d (owedN d 0) ∗ Wo m d ∗ Fx m d 0 ∗ Rw m d 1 ∗ Ch8 (Bf m d))

theorem wp_step0 {Φ : PUnit → sProp 𝕄} (d : Dev nD) (k : KP F) :
    iprop(Env m K ∗ Bg m d ∗ tkX (F := F) d 0 0 ∗ tkX (F := F) d 0 1)
      ⊢ iprop(((Ow d (owedN d 8) ∗ Wo m d ∗ Fx m d 1 ∗ Rw m d 1 ∗ Ch8 (Af (F := F) d 0)) -∗ WP d k Φ) -∗ WP d (nextP d 0 (allP (stage0 d) k)) Φ) := by
  unfold Bg
  iintro ⟨#HE, ⟨HO, HW, HF, HR, HC⟩, Ht0, Ht1⟩ Hk
  iapply (wp_nextP m K d 0 _ ((above_owedN d _).mono (Nat.zero_le _))) $$ [HO HW HF Ht0 Ht1]
  · isplitr; · iexact HE
    isplitl [HO]; · iexact HO
    isplitl [HW]; · iexact HW
    isplitl [HF]; · iexact HF
    isplitl [Ht0]; · iexact Ht0
    iexact Ht1
  iintro ⟨HO, HW, HX, HY⟩
  have hall := wp_allP (Φ := Φ) d (stage0 d) (Env m K) (fun i => iprop(Ow d (owedN d i) ∗ Wo m d ∗ PxB m d 0)) (Bf m d) (Af (F := F) d 0)
    (fun h c k => by
      have e : 2 * c.val + h.val = num 0 h c := by simp only [num]; omega
      show iprop(Env m K ∗ (Ow d (owedN d (2 * c.val + h.val)) ∗ Wo m d ∗ PxB m d 0) ∗ Bf m d h c)
        ⊢ iprop((((Ow d (owedN d (2 * c.val + h.val + 1)) ∗ Wo m d ∗ PxB m d 0) ∗ Af (F := F) d 0 h c) -∗ WP d k Φ) -∗ WP d (stage0 d h c k) Φ)
      rw [e]
      iintro ⟨#HE, ⟨HO, HW, HX⟩, HB⟩ Hk
      ihave HX := (PxB_take m d 0 h) $$ HX
      icases HX with ⟨Hx, HX⟩
      iapply (wp_stage0 m K d h c k) $$ [HO HW Hx HB]
      · isplitr; · iexact HE
        isplitl [HO]; · iexact HO
        isplitl [HW]; · iexact HW
        isplitl [Hx] <;> iassumption
      iintro ⟨HO, HW, Hx, HA⟩
      iapply Hk
      isplitl [HO HW HX Hx]
      · isplitl [HO]; · iexact HO
        isplitl [HW]; · iexact HW
        iapply HX $$ Hx
      iexact HA) k
  iapply hall $$ [HO HW HX HC]
  · isplitr; · iexact HE
    isplitl [HO HW HX]
    · isplitl [HO]; · iexact HO
      isplitl [HW]; · iexact HW
      iexact HX
    iexact HC
  iintro ⟨⟨HO, HW, HX⟩, HA⟩
  iapply Hk
  isplitl [HO]; · iexact HO
  isplitl [HW]; · iexact HW
  isplitl [HX HY]
  · iapply (Fx_next m d 0)
    isplitl [HY]; · iexact HY
    iexact HX
  isplitl [HR]; · iexact HR
  iexact HA

theorem wp_step {Φ : PUnit → sProp 𝕄} (d : Dev nD) (n : ℕ) (hn : n + 1 ≤ 6) (k : KP F) :
    iprop(Env m K ∗ (Ow d (owedN d (8 * (n + 1))) ∗ Wo m d ∗ Fx m d (n + 1) ∗ Rw m d (n + 1) ∗ Ch8 (Af (F := F) d n))
        ∗ tkX (F := F) d (n + 1) 0 ∗ tkX (F := F) d (n + 1) 1 ∗ Ch8 (StTok (F := F) d n))
      ⊢ iprop(((Ow d (owedN d (8 * (n + 2))) ∗ Wo m d ∗ Fx m d (n + 2) ∗ Rw m d (n + 2) ∗ Ch8 (Af (F := F) d (n + 1))) -∗ WP d k Φ)
        -∗ WP d (nextP d ⟨n + 1, by omega⟩ (allP (stage d (n + 1)) k)) Φ) := by
  iintro ⟨#HE, ⟨HO, HW, HF, HR, HC⟩, Ht0, Ht1, Htk⟩ Hk
  iapply (wp_nextP m K d _ _ ((above_owedN d _).mono (Nat.zero_le _))) $$ [HO HW HF Ht0 Ht1]
  · isplitr; · iexact HE
    isplitl [HO]; · iexact HO
    isplitl [HW]; · iexact HW
    isplitl [HF]; · iexact HF
    isplitl [Ht0] <;> iassumption
  iintro ⟨HO, HW, HX, HY⟩
  have hall := wp_allP (Φ := Φ) d (stage d (n + 1)) (Env m K)
    (fun i => iprop(Ow d (owedN d (8 * (n + 1) + i)) ∗ Wo m d ∗ PxB m d (n + 1) ∗ Rw m d (if i ≤ 1 then n + 1 else n + 2)))
    (fun h c => iprop(StTok (F := F) d n h c ∗ Af (F := F) d n h c)) (Af (F := F) d (n + 1))
    (fun h c k => by
      have hh := h.isLt
      have e : 8 * (n + 1) + (2 * c.val + h.val) = num (n + 1) h c := by simp only [num]; omega
      have hx : Rw m d (if 2 * c.val + h.val ≤ 1 then n + 1 else n + 2)
          ⊢ iprop(Xtra m (up h d) (n + 1) h c ∗ (Xtra m d (n + 1) h c -∗ Rw m d (if 2 * c.val + h.val + 1 ≤ 1 then n + 1 else n + 2))) := by
        by_cases hc : h = 1 ∧ c = 0
        · obtain ⟨rfl, rfl⟩ := hc
          exact Rw_step m d (n + 1) hn
        · rw [xtra_none m _ _ h c hc, xtra_none m _ _ h c hc]
          have : (2 * c.val + h.val ≤ 1) = (2 * c.val + h.val + 1 ≤ 1) := propext ⟨fun h1 => by
            have h2 : ¬(h.val = 1 ∧ c.val = 0) := fun h3 => hc ⟨Fin.ext h3.1, Fin.ext h3.2⟩
            omega, fun h1 => by omega⟩
          simp only [this]
          iintro H
          isplitr; · iempintro
          iintro -
          iexact H
      show iprop(Env m K ∗ (Ow d (owedN d (8 * (n + 1) + (2 * c.val + h.val))) ∗ Wo m d ∗ PxB m d (n + 1) ∗ Rw m d (if 2 * c.val + h.val ≤ 1 then n + 1 else n + 2))
          ∗ (StTok (F := F) d n h c ∗ Af (F := F) d n h c))
        ⊢ iprop((((Ow d (owedN d (8 * (n + 1) + (2 * c.val + h.val) + 1)) ∗ Wo m d ∗ PxB m d (n + 1) ∗ Rw m d (if 2 * c.val + h.val + 1 ≤ 1 then n + 1 else n + 2))
          ∗ Af (F := F) d (n + 1) h c) -∗ WP d k Φ) -∗ WP d (stage d (n + 1) h c k) Φ)
      rw [e]
      iintro ⟨#HE, ⟨HO, HW, HX, HR⟩, ⟨Htk, HA⟩⟩ Hk
      ihave HX := (PxB_take m d (n + 1) h) $$ HX
      icases HX with ⟨Hx, HX⟩
      ihave HR := hx $$ HR
      icases HR with ⟨Hxt, HR⟩
      iapply (wp_stage m K d n hn h c k) $$ [HO HW Hx Hxt Htk HA]
      · isplitr; · iexact HE
        isplitl [HO]; · iexact HO
        isplitl [HW]; · iexact HW
        isplitl [Hx]; · iexact Hx
        isplitl [Hxt]; · iexact Hxt
        isplitl [Htk] <;> iassumption
      iintro ⟨HO, HW, Hx, Hxt, HA⟩
      iapply Hk
      isplitl [HO HW HX Hx HR Hxt]
      · isplitl [HO]; · iexact HO
        isplitl [HW]; · iexact HW
        isplitl [HX Hx]; · iapply HX $$ Hx
        iapply HR $$ Hxt
      iexact HA) k
  ihave HC := (ch8_sep (StTok (F := F) d n) (Af (F := F) d n)) $$ [Htk HC]
  · isplitl [Htk] <;> iassumption
  iapply hall $$ [HO HW HX HR HC]
  · isplitr; · iexact HE
    isplitl [HO HW HX HR]
    · isplitl [HO]; · iexact HO
      isplitl [HW]; · iexact HW
      isplitl [HX]; · iexact HX
      iexact HR
    iexact HC
  iintro ⟨⟨HO, HW, HX, HR⟩, HA⟩
  iapply Hk
  isplitl [HO]; · iexact HO
  isplitl [HW]; · iexact HW
  isplitl [HX HY]
  · iapply (Fx_next m d (n + 1))
    isplitl [HY]; · iexact HY
    iexact HX
  isplitl [HR]; · iexact HR
  iexact HA

/-! ## The own block, for both halves -/

theorem castB_id (v : Vec F S1x1x512x512 .f32) : castB v = v := by
  unfold castB
  funext i
  simp only [shapeCast, Shape.reshapeEquiv_reshapeEquiv, Shape.reshapeEquiv_self]
theorem off3_blk (d : Dev nD) : k0_off3 d = ![512 * blkN d 7 0, 0] := by
  have : d.val < 8 := d.isLt
  have e : blkN d 7 0 = d.val := by unfold blkN; rw [if_pos rfl]; omega
  rw [k0_off3_eq, e]
theorem xbV_seven (d : Dev nD) : xbV m d 7 1 = xbV m d 7 0 := by
  have e : blkN d 7 1 = blkN d 7 0 := by unfold blkN; simp; omega
  have gen : ∀ (f f' : Fin 2 → ℕ) (hf : ∀ a, f a + S512x512.size a ≤ S4096x512.size a) (hf' : ∀ a, f' a + S512x512.size a ≤ S4096x512.size a), f = f' →
      (xA.slice (Rect.unit (s := S4096x512) f S512x512.size hf) (fun _ => rfl)).view.read (Elt F) (Xd m d)
        = (xA.slice (Rect.unit (s := S4096x512) f' S512x512.size hf') (fun _ => rfl)).view.read (Elt F) (Xd m d) := by
    intro f f' hf hf' h; subst h; rfl
  funext i
  exact congrFun (gen _ _ (xO_inb d 7 1) (xO_inb d 7 0) (by rw [e])) _

/-- The staging buffers after the last fetch. -/
def Fz (d : Dev nD) : sProp 𝕄 :=
  iprop(XA m d 0 ∗ XA m d 1 ∗ XP (F := F) d 8 0 ∗ XP (F := F) d 7 1 ∗ anyO m d (bA (sl 8) 0) ∗ anyO m d (bA (sl 8) 1))

def lastP' (d : Dev nD) (k : KP F) : KP F :=
  fetchP (sl 7) 0 (k0_off3 d) (k0_off3_inb d) <| fetchedP (sl 7) 0 (k0_off3 d) (k0_off3_inb d) <|
  loadB (sl 7) 0 fun x => loadB (sl 7) 1 fun _ =>
  Prog.op (.store bM (bR (sl 7) 1) (castB x) Finset.univ (View.stores_vmem_bits_univ h_S1x1x512x512 rfl) (.inl rfl)) fun _ =>
  pstageP (sl 7) 0 <| pstageP (sl 7) 1 k
theorem lastP_eq (d : Dev nD) (k : KP F) : lastP d k = lastP' d k := rfl

theorem wp_lastP {Φ : PUnit → sProp 𝕄} (d : Dev nD) (k : KP F) {O : CellTallies nD τ sig ℕ} (hO : Above 0 O) :
    iprop(Env m K ∗ Ow d O ∗ Wo m d ∗ Fx m d 7 ∗ tkX (F := F) d 7 0)
      ⊢ iprop(((Ow d O ∗ Wo m d ∗ PxB m d 7 ∗ Fz m d) -∗ WP d k Φ) -∗ WP d (lastP d k) Φ) := by
  rw [lastP_eq]
  unfold Fx Fz PxB lastP'
  iintro ⟨#HE, HO, HW, ⟨HX0, HX1, Hb0, Hb1, Hp0, Hp1⟩, Ht0⟩ Hk
  iapply (wp_fetch m K d 7 0 (by decide) _ _ (off3_blk d) _) $$ [HX0 Hb0 Ht0]
  · isplitr; · iexact HE
    isplitl [HX0]; · iexact HX0
    isplitl [Hb0] <;> iassumption
  iintro ⟨Hc0, HX0, HP0, Hn0⟩
  iapply (wp_fetched m K d 7 0 (by decide) _ _ _ hO) $$ [HO Hc0 HX0 HP0]
  · isplitr; · iexact HE
    isplitl [HO]; · iexact HO
    isplitl [Hc0]; · iexact Hc0
    isplitl [HX0] <;> iassumption
  iintro ⟨HO, Hb0, HX0, HP0⟩
  iapply (wp_ld m d bM (bR (sl 7) 0)) $$ Hb0
  iintro Hb0
  unfold anyO
  icases Hb1 with ⟨%v1, Hb1⟩
  iapply (wp_ld m d bM (bR (sl 7) 1)) $$ Hb1
  iintro Hb1
  ihave Hb1 := (vO_any m d _ _) $$ Hb1
  iapply (wp_st m d bM (bR (sl 7) 1)) $$ Hb1
  iintro Hb1
  rw [castB_id, ← xbV_seven]
  iapply (wp_pstageP m d 7 0 _) $$ [HW Hb0 Hp0]
  · isplitl [HW]; · iexact HW
    isplitl [Hb0]; · rw [← xbV_seven]; iexact Hb0
    unfold anyO; iexact Hp0
  iintro ⟨HW, Hx0⟩
  iapply (wp_pstageP m d 7 1 _) $$ [HW Hb1 Hp1]
  · isplitl [HW]; · iexact HW
    isplitl [Hb1]; · iexact Hb1
    unfold anyO; iexact Hp1
  iintro ⟨HW, Hx1⟩
  iapply Hk
  isplitl [HO]; · iexact HO
  isplitl [HW]; · iexact HW
  isplitl [Hx0 Hx1]; · isplitl [Hx0] <;> iassumption
  unfold XH anyO
  icases HX1 with ⟨HX1, HP1, Hn1⟩
  isplitl [HX0]; · iexact HX0
  isplitl [HX1]; · iexact HX1
  isplitl [HP0]; · iexact HP0
  isplitl [HP1]; · iexact HP1
  isplitl [Hn0]; · iexact Hn0
  iexact Hn1

/-! ## The last accumulation -/

/-- A chunk after its last accumulation. -/
def Ac (d : Dev nD) (h : Fin 2) (c : Fin 4) : sProp 𝕄 :=
  iprop((atPos ER (kcell d (some (.snd (sl 6) h c))) (6 / 2) ∅ 0 ∗ atPos ER (kcell d (some (.snd (sl 7) h c))) 3 ∅ 0
    ∗ atPos ER (kcell d (some (.rcv (sl 7) h c))) 4 ∅ 0 ∗ atPos ER (kcell d (some (.rcv (sl 6) h c))) 3 ∅ 0
    ∗ atPos ER (kcell d (some (.crd (sl 6) h c))) 3 ∅ 0 ∗ atPos ER (kcell d (some (.crd (sl 7) h c))) 3 ∅ 0)
    ∗ cred (tallyAt (kcell d (some (.snd (sl 6) h c))) 0 NC) ∗ anyO m d (cA (sl 7) h c))

def accP' (h : Fin 2) (c : Fin 4) (m : F .f32) (k : F .f32 → KP F) : KP F :=
  recvP (6 + 1) h c <| partP (sl 7) h c fun p => loadC (sl (6 + 1)) h c fun v =>
  Prog.op (.load fM (wR h c).toLoadRect (View.loadsAt_vmem h_S512x1024)) fun _ =>
  Prog.op (.store fM (wR h c) (resV (sumV p v)) Finset.univ (View.stores_vmem_bits_univ h_S512x1024 rfl) (.inl rfl)) fun _ =>
  k (maxV m (sumV p v))
theorem accP_eq (h : Fin 2) (c : Fin 4) (m : F .f32) (k : F .f32 → KP F) : accP h c m k = accP' h c m k := rfl
theorem resV_id (r : FVec F S512x1024 .f32) : resV r = r := by
  unfold resV; funext i; simp only [shapeCast, Shape.reshapeEquiv_self]

theorem any_vO {sp : Space} {s : Shape} {e : EltTy} (d : Dev nD) (V : View sig .tc sp s e) : anyO m d V ⊢ iprop(∃ v, vO m d V fullShare v) := by
  unfold anyO; exact BI.Entails.refl _

theorem wp_accP {Φ : PUnit → sProp 𝕄} (d : Dev nD) (h : Fin 2) (c : Fin 4) (mm : F .f32) (k : F .f32 → KP F) :
    iprop(Env m K ∗ (Ow d (owedN d 56) ∗ Wo m d ∗ PxB m d 7) ∗ crR (F := F) d 6 h c ∗ Af (F := F) d 6 h c ∗ anyO m d (fA h c))
      ⊢ iprop((((Ow d (owedN d 56) ∗ Wo m d ∗ PxB m d 7) ∗ Ac m d h c ∗ vO m d (fA h c) fullShare (resR m d h c)) -∗ WP d (k (maxV mm (resR m d h c))) Φ)
        -∗ WP d (accP h c mm k) Φ) := by
  have hh := h.isLt
  have hc := c.isLt
  rw [accP_eq]
  unfold Af Pos Ac crR accP'
  iintro ⟨#HE, ⟨HO, HW, HX⟩, Hc1, ⟨⟨HpS0, HpS1, HpR1, HpR0, HpC0, HpC1⟩, HcS, -⟩, Hf⟩ Hk
  ihave Hf := (any_vO m d _) $$ Hf
  icases Hf with ⟨%vf, Hf⟩
  ihave HX := (PxB_take m d 7 h) $$ HX
  icases HX with ⟨Hx, HX⟩
  iapply (wp_recvP m K d 6 (by omega) h c _ (O := owedN d 56) ((above_owedN d 56).mono (by simp only [num]; omega))) $$ [Hc1 HO HpR1]
  · isplitr; · iexact HE
    isplitl [Hc1]; · iexact Hc1
    isplitl [HO] <;> iassumption
  unfold rcvPay
  iintro ⟨HO, HpR1, -, Hcm, -⟩
  iapply (wp_partP m d 7 h c) $$ [HW Hx]
  · isplitl [HW] <;> iassumption
  iintro ⟨HW, Hx⟩
  iapply (wp_ld m d cM (cR (sl (6 + 1)) h c)) $$ Hcm
  iintro Hcm
  iapply (wp_ld m d fM (wR h c)) $$ Hf
  iintro Hf
  ihave Hf := (vO_any m d _ _) $$ Hf
  iapply (wp_st m d fM (wR h c)) $$ Hf
  iintro Hf
  rw [resV_id]
  iapply Hk
  isplitl [HO HW HX Hx]
  · isplitl [HO]; · iexact HO
    isplitl [HW]; · iexact HW
    iapply HX $$ Hx
  isplitl [HpS0 HpS1 HpR0 HpR1 HpC0 HpC1 HcS Hcm]
  · isplitl [HpS0 HpS1 HpR0 HpR1 HpC0 HpC1]
    · isplitl [HpS0]; · iexact HpS0
      isplitl [HpS1]; · iexact HpS1
      isplitl [HpR1]; · iexact HpR1
      isplitl [HpR0]; · iexact HpR0
      isplitl [HpC0]; · iexact HpC0
      iexact HpC1
    isplitl [HcS]; · iexact HcS
    iapply (vO_any m d _ _) $$ Hcm
  iexact Hf

theorem wp_accAll {Φ : PUnit → sProp 𝕄} (d : Dev nD) (k : F .f32 → KP F) :
    iprop(Env m K ∗ (Ow d (owedN d 56) ∗ Wo m d ∗ PxB m d 7) ∗ Ch8 (fun h c => iprop(crR (F := F) d 6 h c ∗ Af (F := F) d 6 h c ∗ anyO m d (fA h c))))
      ⊢ iprop((((Ow d (owedN d 56) ∗ Wo m d ∗ PxB m d 7) ∗ Ch8 (fun h c => iprop(Ac m d h c ∗ vO m d (fA h c) fullShare (resR m d h c)))) -∗ WP d (k (amx m d 8)) Φ)
        -∗ WP d (accAll k) Φ) := by
  have e : amx m d 8 = maxV (maxV (maxV (maxV (maxV (maxV (maxV (maxV zeroV (resR m d 0 0)) (resR m d 1 0)) (resR m d 0 1)) (resR m d 1 1))
    (resR m d 0 2)) (resR m d 1 2)) (resR m d 0 3)) (resR m d 1 3) := rfl
  rw [e]
  unfold Ch8 accAll
  iintro ⟨#HE, HS, ⟨H0, H1, H2, H3, H4, H5, H6, H7⟩⟩ Hk
  iapply (wp_accP m K d 0 0 _ _) $$ [HS H0]
  · isplitr; · iexact HE
    isplitl [HS] <;> iassumption
  iintro ⟨HS, H0⟩
  iapply (wp_accP m K d 1 0 _ _) $$ [HS H1]
  · isplitr; · iexact HE
    isplitl [HS] <;> iassumption
  iintro ⟨HS, H1⟩
  iapply (wp_accP m K d 0 1 _ _) $$ [HS H2]
  · isplitr; · iexact HE
    isplitl [HS] <;> iassumption
  iintro ⟨HS, H2⟩
  iapply (wp_accP m K d 1 1 _ _) $$ [HS H3]
  · isplitr; · iexact HE
    isplitl [HS] <;> iassumption
  iintro ⟨HS, H3⟩
  iapply (wp_accP m K d 0 2 _ _) $$ [HS H4]
  · isplitr; · iexact HE
    isplitl [HS] <;> iassumption
  iintro ⟨HS, H4⟩
  iapply (wp_accP m K d 1 2 _ _) $$ [HS H5]
  · isplitr; · iexact HE
    isplitl [HS] <;> iassumption
  iintro ⟨HS, H5⟩
  iapply (wp_accP m K d 0 3 _ _) $$ [HS H6]
  · isplitr; · iexact HE
    isplitl [HS] <;> iassumption
  iintro ⟨HS, H6⟩
  iapply (wp_accP m K d 1 3 _ _) $$ [HS H7]
  · isplitr; · iexact HE
    isplitl [HS] <;> iassumption
  iintro ⟨HS, H7⟩
  iapply Hk
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.RingProof

end
-- ==== Proof.Max.lean ====
/-
The exchange of the maxima.
-/
module

public import proofs.«01_k».proof.Proof.Steps

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Key → ℕ)

/-! ## Seven in order -/

def C7 (A : Fin 7 → sProp 𝕄) : sProp 𝕄 := iprop(A 0 ∗ A 1 ∗ A 2 ∗ A 3 ∗ A 4 ∗ A 5 ∗ A 6)

omit [FloatOps F] in
theorem c7_big (A : Fin 7 → sProp 𝕄) : C7 A = bigSep Finset.univ A := by
  rw [bigSep_univ_eq_bigSepL [0, 1, 2, 3, 4, 5, 6] (by decide) (by decide) A]
  rfl

theorem wp_over7 {Φ : PUnit → sProp 𝕄} (d : Dev nD) (f : Fin 7 → KP F → KP F) (E : sProp 𝕄) [BI.Persistent E] (S : ℕ → sProp 𝕄) (A B : Fin 7 → sProp 𝕄)
    (hf : ∀ (r : Fin 7) (k : KP F), iprop(E ∗ S r.val ∗ A r) ⊢ iprop(((S (r.val + 1) ∗ B r) -∗ WP d k Φ) -∗ WP d (f r k) Φ)) (k : KP F) :
    iprop(E ∗ S 0 ∗ C7 A) ⊢ iprop(((S 7 ∗ C7 B) -∗ WP d k Φ) -∗ WP d (over7 f k) Φ) := by
  have e : ∀ (r : Fin 7) (n n' : ℕ), n = r.val → n' = r.val + 1 → ∀ k : KP F,
      iprop(E ∗ S n ∗ A r) ⊢ iprop(((S n' ∗ B r) -∗ WP d k Φ) -∗ WP d (f r k) Φ) := by
    rintro r n n' rfl rfl k; exact hf r k
  unfold C7 over7
  iintro ⟨#HE, HS, A0, A1, A2, A3, A4, A5, A6⟩ Hk
  iapply (e 0 0 1 rfl rfl _) $$ [HS A0]
  · isplitr; · iexact HE
    isplitl [HS]; · iexact HS
    iexact A0
  iintro ⟨HS, B0⟩
  iapply (e 1 1 2 rfl rfl _) $$ [HS A1]
  · isplitr; · iexact HE
    isplitl [HS]; · iexact HS
    iexact A1
  iintro ⟨HS, B1⟩
  iapply (e 2 2 3 rfl rfl _) $$ [HS A2]
  · isplitr; · iexact HE
    isplitl [HS]; · iexact HS
    iexact A2
  iintro ⟨HS, B2⟩
  iapply (e 3 3 4 rfl rfl _) $$ [HS A3]
  · isplitr; · iexact HE
    isplitl [HS]; · iexact HS
    iexact A3
  iintro ⟨HS, B3⟩
  iapply (e 4 4 5 rfl rfl _) $$ [HS A4]
  · isplitr; · iexact HE
    isplitl [HS]; · iexact HS
    iexact A4
  iintro ⟨HS, B4⟩
  iapply (e 5 5 6 rfl rfl _) $$ [HS A5]
  · isplitr; · iexact HE
    isplitl [HS]; · iexact HS
    iexact A5
  iintro ⟨HS, B5⟩
  iapply (e 6 6 7 rfl rfl _) $$ [HS A6]
  · isplitr; · iexact HE
    isplitl [HS]; · iexact HS
    iexact A6
  iintro ⟨HS, B6⟩
  iapply Hk
  isplitl [HS]; · iexact HS
  isplitl [B0]; · iexact B0
  isplitl [B1]; · iexact B1
  isplitl [B2]; · iexact B2
  isplitl [B3]; · iexact B3
  isplitl [B4]; · iexact B4
  isplitl [B5]; · iexact B5
  iexact B6

/-! ## The exchange of the maxima -/

theorem wp_rowP' {Φ : PUnit → sProp 𝕄} (d : Dev nD) (g : F .f32) (f : Fin 3 → ℕ) (hf : ∀ a, f a + S1x8x128.size a ≤ S8x8x128.size a)
    (hfe : f = ![d.val, 0, 0]) (k : KP F) :
    anyO m d (aA d) ⊢ iprop((vO m d (aA d) fullShare (fullV g) -∗ WP d k Φ) -∗ WP d
      (Prog.op (.load aM (aR f hf).toLoadRect (View.loadsAt_vmem h_S1x8x128)) fun _ =>
  Prog.op (.store aM (aR f hf) (fullV g) Finset.univ (View.stores_vmem_bits_univ h_S1x8x128 rfl) (.inl rfl)) fun _ => k) Φ) := by
  subst hfe
  iintro Hb Hk
  ihave Hb := (show anyO m d (aA d) ⊢ iprop(∃ v, vO m d (aA d) fullShare v) from BI.Entails.refl _) $$ Hb
  icases Hb with ⟨%v, Hb⟩
  iapply (wp_ld m d aM (aR ![d.val, 0, 0] (row_inb d)) (v := v)) $$ Hb
  iintro Hb
  iapply (wp_st m d aM (aR ![d.val, 0, 0] (row_inb d)) (w := fullV g)) $$ [Hb]
  · iapply (vO_any m d (aA d) v) $$ Hb
  iexact Hk
theorem wp_rowP {Φ : PUnit → sProp 𝕄} (d : Dev nD) (g : F .f32) (k : KP F) :
    anyO m d (aA d) ⊢ iprop((vO m d (aA d) fullShare (fullV g) -∗ WP d k Φ) -∗ WP d (rowP d g k) Φ) :=
  wp_rowP' m d g (k0_off4 d) (k0_off4_inb d) (k0_off4_eq d) k

theorem amount_aV (f : Fin 3 → ℕ) (hf : ∀ a, f a + S1x8x128.size a ≤ S8x8x128.size a) (sm : DmaSem sig) : (aV f hf).view.amount (.dma sm) = NA := by
  unfold NA; rw [View.amount_dma]
theorem live_axs (d : Dev nD) (o : Fin 7) : live d (.axs o.succ) 0 := ⟨rfl, by simp⟩
theorem far_ne (o : Fin 7) (d : Dev nD) : d.val ≠ (far o.succ d).val := by
  have := far_val o.succ d; have h1 := o.isLt; have h2 : d.val < 8 := d.isLt
  rw [this, Fin.val_succ]; omega
theorem live_axr (d : Dev nD) (o : Fin 7) : live (far o.succ d) (.axr d) 0 := ⟨rfl, far_ne o d⟩

/-- What a device needs for its copy to distance `o + 1`. -/
def AxA (d : Dev nD) (o : Fin 7) : sProp 𝕄 :=
  iprop(vO m d (aA d) (Transfers.shareTokN fullShare o.succ.val) (fullV (amx m d 8)) ∗ anyO m (far o.succ d) (aA d)
    ∗ dutyTok ER (kcell d (some (.axs o.succ))) 0 0 ∗ dutyTok ER (kcell (far o.succ d) (some (.axr d))) 0 0)

theorem wp_axSend' {Φ : PUnit → sProp 𝕄} (d : Dev nD) (o : Fin 7) (f : Fin 3 → ℕ) (hf : ∀ a, f a + S1x8x128.size a ≤ S8x8x128.size a)
    (hfe : f = ![d.val, 0, 0]) (g : Fin 1 → ℕ) (hg : ∀ a, g a + S1.size a ≤ S8.size a) (hge : g = ![d.val]) (k : KP F) :
    iprop(Env m K ∗ Ow d (owedA d o.val) ∗ AxA m d o)
      ⊢ iprop(((Ow d (owedA d (o.val + 1)) ∗ cred (tallyAt (kcell d (some (.axs o.succ))) 0 NA)) -∗ WP d k Φ)
        -∗ WP d (Prog.op (.enqueueDma (aV f hf) (.remote (Dev.tc (far o.succ d)) (aV f hf) (.dma (axS o.succ)))
    (.dma (axR g hg)) (View.wordExact_bits rfl) (View.wordExact_bits rfl) ⟨⟨rfl, Or.inl rfl⟩, trivial⟩) fun _ => k) Φ) := by
  subst hfe hge
  have hp1 : vO m d (aA d) (Transfers.shareTokN fullShare o.succ.val) (fullV (amx m d 8)) ⊢ (Rd (F := F) m).payload ((d : Thread nD τ), .dma (axS o.succ)) 0 0 :=
    Entails.of_eq (payload_eq m d (some (.axs o.succ)) 0 0).symm
  have hp2 : vO m (far o.succ d) (aA d) fullShare (fullV (amx m d 8))
      ⊢ (Rd (F := F) m).payload ((far o.succ d : Thread nD τ), .dma (axR ![d.val] (s8_inb d))) 0 0 :=
    Entails.of_eq (payload_eq m (far o.succ d) (some (.axr d)) 0 0).symm
  have hr : (aA d).read (Elt F) ((aA d).write (Elt F) (m ((aA d).loc (d : Thread nD τ))) (fullV (amx m d 8)) Finset.univ) = fullV (amx m d 8) := View.read_write_univ _ _
  rw [owedA_succ]
  unfold Ow AxA anyO
  iintro ⟨#HE, ⟨%W, HO⟩, Hs, ⟨%vd, Hd⟩, Ht1, Ht2⟩ Hk
  unfold vO at hp1 hp2 ⊢
  iapply (Rounds.wp_send_pointsTo (defs := defs₀ (F := F)) (Γ := .empty) 𝒱₀ ER (Rd m) (d : Thread nD τ) none
      (κ₁ := K (d, some (.axs o.succ))) (κ₂ := K (far o.succ d, some (.axr d)))
      (src := aV ![d.val, 0, 0] (row_inb d)) (dst := aV ![d.val, 0, 0] (row_inb d)) (c' := (far o.succ d : Thread nD τ))
      (sS := .dma (axS o.succ)) (sem := .dma (axR ![d.val] (s8_inb d))) (r₁ := 0) (r₂ := 0) (d₁ := 0) (d₂ := 0)
      (@mem_live F _ m d (.axs o.succ) 0 (live_axs d o))
      (@mem_live F _ m (far o.succ d) (.axr d) 0 (live_axr d o))
      1000 0 NA (amount_aV _ _ _) (amount_eq m d (some (.axs o.succ)) _ _) (amount_eq m (far o.succ d) (some (.axr d)) _ _)
      (owedA d (o.val + 1)) rfl (W := W) hp1 ((Entails.of_eq (pts_vO m (far o.succ d) (aA d) fullShare _ (fullV (amx m d 8))
        ((View.read_write_univ _ _).trans hr))).trans hp2)) $$ [Hs Hd HO Ht1 Ht2]
  · isplitr; · iapply (env_inv m K d (some (.axs o.succ))); iexact HE
    isplitr; · iapply (env_inv m K (far o.succ d) (some (.axr d))); iexact HE
    isplitl [Hs]; · iexact Hs
    isplitl [Hd]; · iexact Hd
    isplitl [HO]; · iexact HO
    isplitl [Ht1]; · iexact Ht1
    isplitr; · iapply (env_reached m K d (some (.axs o.succ))); iexact HE
    isplitl [Ht2]; · iexact Ht2
    iapply (env_reached m K (far o.succ d) (some (.axr d))); iexact HE
  iintro ⟨Hc, HO⟩
  iapply Hk
  isplitl [HO]; · iexists W; iexact HO
  iexact Hc
theorem wp_axSendP {Φ : PUnit → sProp 𝕄} (d : Dev nD) (o : Fin 7) (k : KP F) :
    iprop(Env m K ∗ Ow d (owedA d o.val) ∗ AxA m d o)
      ⊢ iprop(((Ow d (owedA d (o.val + 1)) ∗ cred (tallyAt (kcell d (some (.axs o.succ))) 0 NA)) -∗ WP d k Φ) -∗ WP d (axSendP d o.succ k) Φ) :=
  wp_axSend' m K d o (k0_off6 d) (k0_off6_inb d) (k0_off6_eq d) (k0_off5 d) (k0_off5_inb d) (k0_off5_eq d) k

/-- The wait for the maximum of the device `r + 1` places to the left. -/
theorem wp_axRecv' {Φ : PUnit → sProp 𝕄} (d e : Dev nD) (hne : e.val ≠ d.val) (f : Fin 3 → ℕ) (hf : ∀ a, f a + S1x8x128.size a ≤ S8x8x128.size a)
    (g : Fin 1 → ℕ) (hg : ∀ a, g a + S1.size a ≤ S8.size a) (hge : g = ![e.val]) (k : KP F) :
    iprop(Env m K ∗ Ow d 0 ∗ cred (tallyAt (kcell d (some (.axr e))) 1000 NA) ∗ atPos ER (kcell d (some (.axr e))) 0 ∅ 0)
      ⊢ iprop(((Ow d 0 ∗ atPos ER (kcell d (some (.axr e))) 1 ∅ 0 ∗ vO m d (aA e) fullShare (fullV (amx m e 8))) -∗ WP d k Φ)
        -∗ WP d (Prog.op (.waitDma2 (axR g hg) (aV f hf) (aV f hf) (View.wordExact_bits rfl) (View.wordExact_bits rfl)) fun _ => k) Φ) := by
  subst hge
  have h0 := wp_wt (Φ := Φ) m K d (.axr e) 0 ⟨rfl, hne⟩ 1000 (by decide) (above_zero 1000)
    (w := .waitDma2 (axR ![e.val] hg) (aV f hf) (aV f hf) (View.wordExact_bits rfl) (View.wordExact_bits rfl))
    (wpE_waitDma2_eq 𝒱₀ (d : Thread nD τ) none Set.univ) (kt := fun _ => k)
  iintro ⟨#HE, HO, Hc, Hat⟩ Hk
  iapply h0 $$ [HO Hc Hat]
  · isplitr; · iexact HE
    isplitl [Hc]; · iexact Hc
    isplitl [HO]; · iexact HO
    iexact Hat
  iintro ⟨HO, Hat, -, Hp⟩
  iapply Hk
  isplitl [HO]; · iexact HO
  isplitl [Hat]; · iexact Hat
  iapply (show pay m d (some (.axr e)) 0 0 ⊢ vO m d (aA e) fullShare (fullV (amx m e 8)) from BI.Entails.refl _) $$ Hp
theorem off7_bk (d : Dev nD) (r : Fin 7) : k0_off7 d (BitVec.ofNat 32 (1 + r.val)) = ![(bk d (r.val + 1)).val] := by
  rw [k0_off7_eq]
  have h1 := r.isLt; have h2 : d.val < 8 := d.isLt
  have : (d.val + 7 - r.val) % 8 = (bk d (r.val + 1)).val := by simp only [bk]; omega
  rw [this]
theorem bk_ne (d : Dev nD) (r : Fin 7) : (bk d (r.val + 1)).val ≠ d.val := by
  have h1 := r.isLt; have h2 : d.val < 8 := d.isLt
  simp only [bk]; omega
/-- The maximum of the device `r + 1` places to the left, as it arrives. -/
def ArA (d : Dev nD) (r : Fin 7) : sProp 𝕄 :=
  iprop(cred (tallyAt (kcell d (some (.axr (bk d (r.val + 1))))) 1000 NA) ∗ atPos ER (kcell d (some (.axr (bk d (r.val + 1))))) 0 ∅ 0)
def ArB (d : Dev nD) (r : Fin 7) : sProp 𝕄 :=
  iprop(atPos ER (kcell d (some (.axr (bk d (r.val + 1))))) 1 ∅ 0 ∗ vO m d (aA (bk d (r.val + 1))) fullShare (fullV (amx m (bk d (r.val + 1)) 8)))
theorem wp_axRecvP {Φ : PUnit → sProp 𝕄} (d : Dev nD) (r : Fin 7) (k : KP F) :
    iprop(Env m K ∗ Ow d 0 ∗ ArA (F := F) d r) ⊢ iprop(((Ow d 0 ∗ ArB m d r) -∗ WP d k Φ) -∗ WP d (axRecvP d r k) Φ) :=
  wp_axRecv' m K d (bk d (r.val + 1)) (bk_ne d r) (k0_off6 d) (k0_off6_inb d) _ (k0_off7_inb d r) (off7_bk d r) k

def AsA (d : Dev nD) (o : Fin 7) : sProp 𝕄 :=
  iprop(cred (tallyAt (kcell d (some (.axs o.succ))) 0 NA) ∗ atPos ER (kcell d (some (.axs o.succ))) 0 ∅ 0)
def AsB (d : Dev nD) (o : Fin 7) : sProp 𝕄 :=
  iprop(atPos ER (kcell d (some (.axs o.succ))) 1 ∅ 0 ∗ vO m d (aA d) (Transfers.shareTokN fullShare o.succ.val) (fullV (amx m d 8)))
theorem wp_axSentP {Φ : PUnit → sProp 𝕄} (d : Dev nD) (o : Fin 7) (k : KP F) :
    iprop(Env m K ∗ Ow d 0 ∗ AsA (F := F) d o) ⊢ iprop(((Ow d 0 ∗ AsB m d o) -∗ WP d k Φ) -∗ WP d (axSentP d o.succ k) Φ) := by
  have h0 := wp_wt (Φ := Φ) m K d (.axs o.succ) 0 (live_axs d o) 0 (by decide) (above_zero 0)
    (w := .waitDma2 (axS o.succ) (aV (k0_off6 d) (k0_off6_inb d)) (aV (k0_off6 d) (k0_off6_inb d)) (View.wordExact_bits rfl) (View.wordExact_bits rfl))
    (wpE_waitDma2_eq 𝒱₀ (d : Thread nD τ) none Set.univ) (kt := fun _ => k)
  unfold AsA AsB
  iintro ⟨#HE, HO, Hc, Hat⟩ Hk
  iapply h0 $$ [HO Hc Hat]
  · isplitr; · iexact HE
    isplitl [Hc]; · iexact Hc
    isplitl [HO]; · iexact HO
    iexact Hat
  iintro ⟨HO, Hat, -, Hp⟩
  iapply Hk
  isplitl [HO]; · iexact HO
  isplitl [Hat]; · iexact Hat
  iapply (show pay m d (some (.axs o.succ)) 0 0 ⊢ vO m d (aA d) (Transfers.shareTokN fullShare o.succ.val) (fullV (amx m d 8)) from BI.Entails.refl _) $$ Hp

/-- The end of a copy of the last step. -/
def LsA (d : Dev nD) (h : Fin 2) (c : Fin 4) : sProp 𝕄 :=
  iprop(cred (tallyAt (kcell d (some (.snd (sl 6) h c))) 0 NC) ∗ atPos ER (kcell d (some (.snd (sl 6) h c))) (6 / 2) ∅ 0)
def LsB (d : Dev nD) (h : Fin 2) (c : Fin 4) : sProp 𝕄 :=
  iprop(atPos ER (kcell d (some (.snd (sl 6) h c))) (6 / 2 + 1) ∅ 0 ∗ anyO m d (cA (sl 6) h c))
theorem wp_lastSent {Φ : PUnit → sProp 𝕄} (d : Dev nD) (k : KP F) :
    iprop(Env m K ∗ Ow d 0 ∗ Ch8 (LsA (F := F) d)) ⊢ iprop(((Ow d 0 ∗ Ch8 (LsB m d)) -∗ WP d k Φ) -∗ WP d (allP (sentP 1) k) Φ) := by
  have h0 := wp_allP (Φ := Φ) d (sentP (6 + 1)) (Env m K) (fun _ => Ow d 0) (LsA (F := F) d) (LsB m d) (fun h c k => by
    unfold LsA LsB
    iintro ⟨#HE, HO, Hc, Hat⟩ Hk
    iapply (wp_sentP m K d 6 (by decide) h c k (above_zero 0)) $$ [HO Hc Hat]
    · isplitr; · iexact HE
      isplitl [Hc]; · iexact Hc
      isplitl [HO]; · iexact HO
      iexact Hat
    iintro ⟨HO, Hat, -, Hp⟩
    iapply Hk
    isplitl [HO]; · iexact HO
    isplitl [Hat]; · iexact Hat
    iexact Hp) k
  exact h0

end Cert.RingProof

end
-- ==== Proof.Part.lean ====
/-
Buffers by the parts the kernel uses them in.
-/
module

public import proofs.«01_k».proof.Proof.Max

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
/-! ## A buffer by its parts -/

variable {T : Type} [Fintype T] [DecidableEq T]

omit [FloatOps F] in
theorem parts_set (b : Ref sig .tc) (r : T → Rect b.ty.shape) (hu : ∀ i, ∃ t, i ∈ (r t).set) :
    (Finset.univ : Finset T).biUnion (fun t => ((View.whole b).slice (r t)).set) = (Finset.univ : Finset b.ty.shape.Idx) := by
  ext i
  obtain ⟨t, ht⟩ := hu i
  simp only [Finset.mem_biUnion, Finset.mem_univ, true_and, iff_true]
  exact ⟨t, by rw [View.set_slice_whole]; exact ht⟩
omit [FloatOps F] in
/-- Whole contents are the parts', each reading its own. -/
theorem parts_eq (d : Dev nD) (b : Ref sig .tc) (r : T → Rect b.ty.shape) (hd : ∀ t t', t ≠ t' → Disjoint (r t).set (r t').set) (hu : ∀ i, ∃ t, i ∈ (r t).set)
    (q : PosShare TreeShare) (f : Buf (Elt F) ((d : Thread nD τ).loc b)) :
    (((d : Thread nD τ).loc b) ↦{q} f : sProp 𝕄)
      = bigSep Finset.univ fun t => vO m d ((View.whole b).slice (r t)) q (((View.whole b).slice (r t)).read (Elt F) f) := by
  have h := pointsTo_biUnion (Ix := ℕ) (Name := ℕ) (U := UU) (Lvl := ℕ) (ℓ := (d : Thread nD τ).loc b) (q := q) (f := f) (Finset.univ : Finset T) (fun t => ((View.whole b).slice (r t)).set)
    (fun t _ t' _ hne => by rw [View.set_slice_whole, View.set_slice_whole]; exact hd t t' hne)
  rw [parts_set b r hu] at h
  refine h.trans ?_
  congr 1
  funext t
  exact pts_vO m d ((View.whole b).slice (r t)) q f _ rfl
omit [FloatOps F] in
theorem parts_any (d : Dev nD) (b : Ref sig .tc) (r : T → Rect b.ty.shape) (hd : ∀ t t', t ≠ t' → Disjoint (r t).set (r t').set) (hu : ∀ i, ∃ t, i ∈ (r t).set) :
    iprop(∃ f : Buf (Elt F) ((d : Thread nD τ).loc b), ((d : Thread nD τ).loc b) ↦{fullShare} f)
      ⊢ (bigSep Finset.univ fun t => anyO m d ((View.whole b).slice (r t)) : sProp 𝕄) := by
  have h : ∀ f, (((d : Thread nD τ).loc b) ↦{fullShare} f : sProp 𝕄) ⊢ (bigSep Finset.univ fun t => anyO m d ((View.whole b).slice (r t)) : sProp 𝕄) := fun f =>
    (Entails.of_eq (parts_eq m d b r hd hu fullShare f)).trans (bigSep_mono fun t _ => vO_any m d ((View.whole b).slice (r t)) _)
  iintro ⟨%f, H⟩
  iapply (h f) $$ H
omit [FloatOps F] in
/-- Parts reading `v` join to contents that read `v` under each. -/
theorem parts_join (d : Dev nD) (b : Ref sig .tc) (r : T → Rect b.ty.shape) (hd : ∀ t t', t ≠ t' → Disjoint (r t).set (r t').set) (hu : ∀ i, ∃ t, i ∈ (r t).set)
    (v : (t : T) → (r t).shape.Idx → Elt F b.ty.elt) :
    (bigSep Finset.univ fun t => vO m d ((View.whole b).slice (r t)) fullShare (v t))
      ⊢ (iprop(∃ f : Buf (Elt F) ((d : Thread nD τ).loc b), ⌜∀ t, ((View.whole b).slice (r t)).read (Elt F) f = v t⌝ ∗ ((d : Thread nD τ).loc b) ↦{fullShare} f) : sProp 𝕄) := by
  have h := pointsTo_biUnion_join (Ix := ℕ) (Name := ℕ) (U := UU) (Lvl := ℕ) (ℓ := (d : Thread nD τ).loc b) (q := fullShare) (Finset.univ : Finset T) (fun t => ((View.whole b).slice (r t)).set)
    (fun t => ((View.whole b).slice (r t)).write (Elt F) (m ((d : Thread nD τ).loc b)) (v t) Finset.univ) (m ((d : Thread nD τ).loc b))
    (fun t _ t' _ hne => by rw [View.set_slice_whole, View.set_slice_whole]; exact hd t t' hne)
  rw [parts_set b r hu] at h
  refine BIBase.Entails.trans h ?_
  iintro ⟨%g, %hg, H⟩
  iexists g
  isplitr
  · ipureintro
    intro t
    have e := vO_read m ((View.whole b).slice (r t)) d (v t)
    funext x
    refine Eq.trans ?_ (congrFun e x)
    rw [View.read_apply, View.read_apply]
    exact congrArg _ (hg t (Finset.mem_univ t) _ (View.emb_mem_set _ x))
  · iexact H
omit [FloatOps F] in
theorem parts_join_any (d : Dev nD) (b : Ref sig .tc) (r : T → Rect b.ty.shape) (hd : ∀ t t', t ≠ t' → Disjoint (r t).set (r t').set) (hu : ∀ i, ∃ t, i ∈ (r t).set)
    [∀ e, Nonempty (Elt F e)] :
    (bigSep Finset.univ fun t => anyO m d ((View.whole b).slice (r t)))
      ⊢ (iprop(∃ f : Buf (Elt F) ((d : Thread nD τ).loc b), ((d : Thread nD τ).loc b) ↦{fullShare} f) : sProp 𝕄) := by
  unfold anyO
  refine BIBase.Entails.trans (bigSep_exists_pi (Y := fun t => (r t).shape.Idx → Elt F b.ty.elt) Finset.univ (fun t v => vO m d ((View.whole b).slice (r t)) fullShare v)) ?_
  iintro ⟨%v, H⟩
  ihave H := (parts_join m d b r hd hu v) $$ H
  icases H with ⟨%f, -, H⟩
  iexists f
  iexact H

/-! ## The rectangles -/

theorem cR_disj (t t' : Fin 2 × Fin 2 × Fin 4) (hne : t ≠ t') : Disjoint (cR t.1 t.2.1 t.2.2).set (cR t'.1 t'.2.1 t'.2.2).set := by
  obtain ⟨p, h, c⟩ := t; obtain ⟨p', h', c'⟩ := t'
  by_cases hp : p.val = p'.val
  · refine Rect.unit_disjoint 2 ?_
    show 4096 * h.val + 1024 * c.val + 1024 ≤ 4096 * h'.val + 1024 * c'.val ∨ 4096 * h'.val + 1024 * c'.val + 1024 ≤ 4096 * h.val + 1024 * c.val
    have hp' : p = p' := Fin.ext hp
    by_contra hc
    apply hne
    have h1 := c.isLt; have h2 := c'.isLt
    have hh : h = h' := Fin.ext (by omega)
    have hcc : c = c' := Fin.ext (by omega)
    rw [hp', hh, hcc]
  · refine Rect.unit_disjoint 0 ?_
    show p.val + 1 ≤ p'.val ∨ p'.val + 1 ≤ p.val
    omega
theorem cR_cover (i : S2x512x8192.Idx) : ∃ t : Fin 2 × Fin 2 × Fin 4, i ∈ (cR t.1 t.2.1 t.2.2).set := by
  have h0 : (i 0).val < 2 := (i 0).isLt
  have h1 : (i 1).val < 512 := (i 1).isLt
  have h2 : (i 2).val < 8192 := (i 2).isLt
  refine ⟨(⟨(i 0).val, h0⟩, ⟨(i 2).val / 4096, by omega⟩, ⟨(i 2).val / 1024 % 4, by omega⟩), Rect.mem_set_unit.mpr fun a => ?_⟩
  fin_cases a
  · show (i 0).val ≤ (i 0).val ∧ (i 0).val < (i 0).val + 1; omega
  · show 0 ≤ (i 1).val ∧ (i 1).val < 0 + 512; omega
  · show 4096 * ((i 2).val / 4096) + 1024 * ((i 2).val / 1024 % 4) ≤ (i 2).val ∧ (i 2).val < 4096 * ((i 2).val / 4096) + 1024 * ((i 2).val / 1024 % 4) + 1024; omega
theorem bR_disj (t t' : Fin 2 × Fin 2) (hne : t ≠ t') : Disjoint (bR t.1 t.2).set (bR t'.1 t'.2).set := by
  obtain ⟨p, h⟩ := t; obtain ⟨p', h'⟩ := t'
  by_cases hp : p.val = p'.val
  · refine Rect.unit_disjoint 1 ?_
    show h.val + 1 ≤ h'.val ∨ h'.val + 1 ≤ h.val
    by_contra hc
    exact hne (by rw [show p = p' from Fin.ext hp, show h = h' from Fin.ext (by omega)])
  · refine Rect.unit_disjoint 0 ?_
    show p.val + 1 ≤ p'.val ∨ p'.val + 1 ≤ p.val
    omega
theorem bR_cover (i : S2x2x512x512.Idx) : ∃ t : Fin 2 × Fin 2, i ∈ (bR t.1 t.2).set := by
  have h0 : (i 0).val < 2 := (i 0).isLt
  have h1 : (i 1).val < 2 := (i 1).isLt
  have h2 : (i 2).val < 512 := (i 2).isLt
  have h3 : (i 3).val < 512 := (i 3).isLt
  refine ⟨(⟨(i 0).val, h0⟩, ⟨(i 1).val, h1⟩), Rect.mem_set_unit.mpr fun a => ?_⟩
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 512; omega
  · show 0 ≤ (i 3).val ∧ (i 3).val < 0 + 512; omega
theorem pR_disj (t t' : Fin 2) (hne : t ≠ t') : Disjoint (pR t).set (pR t').set := by
  refine Rect.unit_disjoint 0 ?_
  show t.val + 1 ≤ t'.val ∨ t'.val + 1 ≤ t.val
  have : t.val ≠ t'.val := fun h => hne (Fin.ext h)
  omega
theorem pR_cover (i : S2x512x1024.Idx) : ∃ t : Fin 2, i ∈ (pR t).set := by
  have h0 : (i 0).val < 2 := (i 0).isLt
  have h1 : (i 1).val < 512 := (i 1).isLt
  have h2 : (i 2).val < 1024 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 512; omega
  · show 0 ≤ (i 2).val ∧ (i 2).val < 0 + 1024; omega
theorem wR_disj (t t' : Fin 2 × Fin 4) (hne : t ≠ t') : Disjoint (wR t.1 t.2).set (wR t'.1 t'.2).set := by
  obtain ⟨h, c⟩ := t; obtain ⟨h', c'⟩ := t'
  refine Rect.unit_disjoint 1 ?_
  show 4096 * h.val + 1024 * c.val + 1024 ≤ 4096 * h'.val + 1024 * c'.val ∨ 4096 * h'.val + 1024 * c'.val + 1024 ≤ 4096 * h.val + 1024 * c.val
  by_contra hc
  have h1 := c.isLt; have h2 := c'.isLt
  exact hne (by rw [show h = h' from Fin.ext (by omega), show c = c' from Fin.ext (by omega)])
theorem wR_cover (i : S512x8192.Idx) : ∃ t : Fin 2 × Fin 4, i ∈ (wR t.1 t.2).set := by
  have h1 : (i 0).val < 512 := (i 0).isLt
  have h2 : (i 1).val < 8192 := (i 1).isLt
  refine ⟨(⟨(i 1).val / 4096, by omega⟩, ⟨(i 1).val / 1024 % 4, by omega⟩), Rect.mem_set_unit.mpr fun a => ?_⟩
  fin_cases a
  · show 0 ≤ (i 0).val ∧ (i 0).val < 0 + 512; omega
  · show 4096 * ((i 1).val / 4096) + 1024 * ((i 1).val / 1024 % 4) ≤ (i 1).val ∧ (i 1).val < 4096 * ((i 1).val / 4096) + 1024 * ((i 1).val / 1024 % 4) + 1024; omega
theorem tR_disj (t t' : Fin 4) (hne : t ≠ t') : Disjoint (tR t).set (tR t').set := by
  refine Rect.unit_disjoint 1 ?_
  show 2048 * t.val + 2048 ≤ 2048 * t'.val ∨ 2048 * t'.val + 2048 ≤ 2048 * t.val
  have : t.val ≠ t'.val := fun h => hne (Fin.ext h)
  omega
theorem tR_cover (i : S512x8192.Idx) : ∃ t : Fin 4, i ∈ (tR t).set := by
  have h1 : (i 0).val < 512 := (i 0).isLt
  have h2 : (i 1).val < 8192 := (i 1).isLt
  refine ⟨⟨(i 1).val / 2048, by omega⟩, Rect.mem_set_unit.mpr fun a => ?_⟩
  fin_cases a
  · show 0 ≤ (i 0).val ∧ (i 0).val < 0 + 512; omega
  · show 2048 * ((i 1).val / 2048) ≤ (i 1).val ∧ (i 1).val < 2048 * ((i 1).val / 2048) + 2048; omega
theorem aR_disj (t t' : Fin 8) (hne : t ≠ t') : Disjoint (aR ![t.val, 0, 0] (row_inb t)).set (aR ![t'.val, 0, 0] (row_inb t')).set := by
  refine Rect.unit_disjoint 0 ?_
  show t.val + 1 ≤ t'.val ∨ t'.val + 1 ≤ t.val
  have : t.val ≠ t'.val := fun h => hne (Fin.ext h)
  omega
theorem aR_cover (i : S8x8x128.Idx) : ∃ t : Fin 8, i ∈ (aR ![t.val, 0, 0] (row_inb t)).set := by
  have h0 : (i 0).val < 8 := (i 0).isLt
  have h1 : (i 1).val < 8 := (i 1).isLt
  have h2 : (i 2).val < 128 := (i 2).isLt
  refine ⟨⟨(i 0).val, h0⟩, Rect.mem_set_unit.mpr fun a => ?_⟩
  fin_cases a
  · show (i 0).val ≤ (i 0).val ∧ (i 0).val < (i 0).val + 1; omega
  · show 0 ≤ (i 1).val ∧ (i 1).val < 0 + 8; omega
  · show 0 ≤ (i 2).val ∧ (i 2).val < 0 + 128; omega

/-! ## The tables and the result by parts -/

omit [FloatOps F] in
theorem ch8_big (A : Fin 2 → Fin 4 → sProp 𝕄) : Ch8 A = bigSep Finset.univ fun t : Fin 2 × Fin 4 => A t.1 t.2 := by
  rw [bigSep_univ_eq_bigSepL [(0, 0), (1, 0), (0, 1), (1, 1), (0, 2), (1, 2), (0, 3), (1, 3)] (by decide) (by decide) (fun t : Fin 2 × Fin 4 => A t.1 t.2)]
  rfl

theorem read_aAll (d : Dev nD) (e : Fin 8) : (aA e).read (Elt F) (show Buf (Elt F) ((aA e).loc (d : Thread nD τ)) from aAll m) = fullV (amx m e 8) := by
  funext x
  rw [View.read_apply]
  have hx : (x 0).val < 1 := (x 0).isLt
  have he := e.isLt
  show amx m _ 8 = amx m e 8
  congr 1
  apply Fin.ext
  show (e.val + 1 * (x 0).val) % 8 = e.val
  omega
/-- The rows of all devices are the table. -/
theorem rows_whole (d : Dev nD) :
    (((d : Thread nD τ).loc cc0_scratch4) ↦{fullShare} (show Buf (Elt F) ((d : Thread nD τ).loc cc0_scratch4) from aAll m) : sProp 𝕄)
      = bigSep Finset.univ fun e : Fin 8 => vO m d (aA e) fullShare (fullV (amx m e 8)) := by
  have h : (((d : Thread nD τ).loc cc0_scratch4) ↦{fullShare} (show Buf (Elt F) ((d : Thread nD τ).loc cc0_scratch4) from aAll m) : sProp 𝕄)
      = bigSep Finset.univ fun e : Fin 8 => vO m d (aA e) fullShare ((aA e).read (Elt F) (show Buf (Elt F) ((aA e).loc (d : Thread nD τ)) from aAll m)) :=
    parts_eq m d cc0_scratch4 (fun e : Fin 8 => aR ![e.val, 0, 0] (row_inb e)) aR_disj aR_cover fullShare _
  rw [h]
  exact congrArg (bigSep Finset.univ) (funext fun e => congrArg (vO m d (aA e) fullShare) (read_aAll m d e))
theorem read_Yd (d : Dev nD) (h : Fin 2) (c : Fin 4) : (fA h c).read (Elt F) (show Buf (Elt F) ((fA h c).loc (d : Thread nD τ)) from Yd m d) = resR m d h c := by
  funext x
  rw [View.read_apply]
  have hx : (x 0).val < 512 := (x 0).isLt
  have hx1 : (x 1).val < 1024 := (x 1).isLt
  have hh := h.isLt; have hc := c.isLt
  have e1 : (⟨(4096 * h.val + 1024 * c.val + 1 * (x 1).val) / 4096 % 2, Nat.mod_lt _ (by decide)⟩ : Fin 2) = h := Fin.ext (by show _ / 4096 % 2 = h.val; omega)
  have e2 : (⟨(4096 * h.val + 1024 * c.val + 1 * (x 1).val) / 1024 % 4, Nat.mod_lt _ (by decide)⟩ : Fin 4) = c := Fin.ext (by show _ / 1024 % 4 = c.val; omega)
  have e3 : (Fin.cons (((fA h c).emb x) 0) (Fin.cons ⟨(4096 * h.val + 1024 * c.val + 1 * (x 1).val) % 1024, Nat.mod_lt _ (by decide)⟩ fun k => k.elim0) : S512x1024.Idx) = x := by
    funext a
    fin_cases a
    · apply Fin.ext
      show 0 + 1 * (x 0).val = (x 0).val; omega
    · apply Fin.ext
      show (4096 * h.val + 1024 * c.val + 1 * (x 1).val) % 1024 = (x 1).val; omega
  show resR m d ⟨(4096 * h.val + 1024 * c.val + 1 * (x 1).val) / 4096 % 2, _⟩ ⟨(4096 * h.val + 1024 * c.val + 1 * (x 1).val) / 1024 % 4, _⟩ (Fin.cons (((fA h c).emb x) 0) (Fin.cons ⟨(4096 * h.val + 1024 * c.val + 1 * (x 1).val) % 1024, _⟩ fun k => k.elim0)) = resR m d h c x
  rw [e1, e2, e3]
/-- The chunks of the sum are its tiles. -/
theorem chunks_tiles (d : Dev nD) :
    Ch8 (fun h c => vO m d (fA h c) fullShare (resR m d h c))
      = (bigSep Finset.univ fun t : Fin 4 => vO m d (fV t).view fullShare ((fV t).view.read (Elt F) (Yd m d)) : sProp 𝕄) := by
  have h1 : (((d : Thread nD τ).loc cc0_scratch1) ↦{fullShare} (show Buf (Elt F) ((d : Thread nD τ).loc cc0_scratch1) from Yd m d) : sProp 𝕄)
      = bigSep Finset.univ fun t : Fin 2 × Fin 4 => vO m d (fA t.1 t.2) fullShare ((fA t.1 t.2).read (Elt F) (show Buf (Elt F) ((fA t.1 t.2).loc (d : Thread nD τ)) from Yd m d)) :=
    parts_eq m d cc0_scratch1 (fun t : Fin 2 × Fin 4 => wR t.1 t.2) wR_disj wR_cover fullShare _
  have h2 : (((d : Thread nD τ).loc cc0_scratch1) ↦{fullShare} (show Buf (Elt F) ((d : Thread nD τ).loc cc0_scratch1) from Yd m d) : sProp 𝕄)
      = bigSep Finset.univ fun t : Fin 4 => vO m d (fV t).view fullShare ((fV t).view.read (Elt F) (Yd m d)) :=
    parts_eq m d cc0_scratch1 tR tR_disj tR_cover fullShare _
  have h3 : (bigSep Finset.univ fun t : Fin 2 × Fin 4 => vO m d (fA t.1 t.2) fullShare ((fA t.1 t.2).read (Elt F) (show Buf (Elt F) ((fA t.1 t.2).loc (d : Thread nD τ)) from Yd m d)))
      = bigSep Finset.univ fun t : Fin 2 × Fin 4 => vO m d (fA t.1 t.2) fullShare (resR m d t.1 t.2) :=
    congrArg (bigSep Finset.univ) (funext fun t => congrArg (vO m d (fA t.1 t.2) fullShare) (read_Yd m d t.1 t.2))
  rw [ch8_big, ← h3, ← h1, h2]

end Cert.RingProof

end
-- ==== Proof.Fin.lean ====
/-
The exchange of the maxima as a whole, the tiles, and the end of the kernel.
-/
module

public import proofs.«01_k».proof.Proof.Part

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Key → ℕ)

/-! ## Rows and shares -/

omit [FloatOps F] in
theorem row_shares (d : Dev nD) (v : Vec F S1x8x128 .f32) :
    vO m d (aA d) fullShare v = iprop(vO m d (aA d) (Transfers.shareDrop fullShare 8) v ∗ vO m d (aA d) (Transfers.shareTokN fullShare 0) v
      ∗ C7 (fun o => vO m d (aA d) (Transfers.shareTokN fullShare o.succ.val) v)) := by
  have h0 := Transfers.pointsTo_toks_range (Ix := ℕ) (Name := ℕ) (U := UU) (Lvl := ℕ) (ℓ := (aA d).loc (d : Thread nD τ)) (S := (aA d).set)
    (f := (aA d).write (Elt F) (m ((aA d).loc (d : Thread nD τ))) v Finset.univ) fullShare 8
  have h := BI.equiv_iff.mp ⟨h0.1, h0.2⟩
  rw [bigSep_eq_bigSepL_of_eq [0, 1, 2, 3, 4, 5, 6, 7] (by decide) (by decide)] at h
  exact h

theorem bk_bij (d : Dev nD) : Function.Bijective (fun j : Fin 8 => (bk d j.val : Fin 8)) := by revert d; decide +kernel
omit [FloatOps F] in
theorem rows_bk (d : Dev nD) (A : Fin 8 → sProp 𝕄) :
    bigSep Finset.univ A = iprop(A d ∗ C7 (fun r => A (bk d (r.val + 1)))) := by
  rw [bigSep_univ_equiv (Equiv.ofBijective _ (bk_bij d)) A, bigSep_univ_eq_bigSepL [0, 1, 2, 3, 4, 5, 6, 7] (by decide) (by decide)]
  have h : A d = A (bk d 0) := by rw [bk_zero]
  rw [h]
  rfl
theorem far_bk (d : Dev nD) (o : Fin 7) : far o.succ d = bk d (7 - o.val) := by
  apply Fin.ext
  have h1 := o.isLt; have h2 : d.val < 8 := d.isLt
  rw [far_val, Fin.val_succ]; simp only [bk]; omega
omit [FloatOps F] in
theorem rows_far (d : Dev nD) (A : Dev nD → sProp 𝕄) :
    bigSep (Finset.Ico 1 8) (fun j => A (bk d j)) = C7 fun o => A (far o.succ d) := by
  rw [bigSep_eq_bigSepL_of_eq [7, 6, 5, 4, 3, 2, 1] (by decide) (by decide)]
  simp only [far_bk]
  rfl

/-! ## The tiles -/

theorem amount_oV (t : Fin 4) (sm : DmaSem sig) : (oV t).view.amount (.dma sm) = NO := by
  unfold NO; rw [View.amount_dma]
theorem live_os (d : Dev nD) (t : Fin 4) : live d (.os t) 0 := rfl

/-- What a tile's quantisation and copy take. -/
def TiA (d : Dev nD) (t : Fin 4) : sProp 𝕄 :=
  iprop(vO m d (fV t).view fullShare ((fV t).view.read (Elt F) (Yd m d)) ∗ anyO m d (oV t).view ∗ dutyTok ER (kcell d (some (.os t))) 0 0)

theorem wp_tileP {Φ : PUnit → sProp 𝕄} (d : Dev nD) (t : Fin 4) (k : KP F) :
    iprop(Env m K ∗ TiA m d t) ⊢ iprop((cred (tallyAt (kcell d (some (.os t))) 0 NO) -∗ WP d k Φ) -∗ WP d (tileP (gmaxV (aAll m)) t k) Φ) := by
  have hp : iprop(vO m d (oV t).view fullShare (outT m d t) ∗ vO m d (fV t).view fullShare (outT m d t)) ⊢ (Rd (F := F) m).payload ((d : Thread nD τ), .dma (oS t)) 0 0 :=
    Entails.of_eq (payload_eq m d (some (.os t)) 0 0).symm
  unfold TiA
  iintro ⟨#HE, Hf, Ho, Ht⟩ Hk
  iapply (wp_ld m d fM (tR t) (v := (fV t).view.read (Elt F) (Yd m d))) $$ Hf
  iintro Hf
  iapply (wp_ld m d fM (tR t) (v := (fV t).view.read (Elt F) (Yd m d))) $$ Hf
  iintro Hf
  iapply (wp_st m d fM (tR t) (w := outT m d t)) $$ [Hf]
  · iapply (vO_any m d (fM.access (tR t)) _) $$ Hf
  iintro Hf
  ihave Ho := (show anyO m d (oV t).view ⊢ iprop(∃ v, vO m d (oV t).view fullShare v) from BI.Entails.refl _) $$ Ho
  icases Ho with ⟨%v, Ho⟩
  unfold vO at hp ⊢
  iapply (Rounds.wp_copy_pointsTo (defs := defs₀ (F := F)) (Γ := .empty) 𝒱₀ ER (Rd m) (d : Thread nD τ) none (κ := K (d, some (.os t)))
      (src := fV t) (dst := oV t) (sem := .dma (oS t)) (r := 0) (d := 0) (q := fullShare)
      (@mem_live F _ m d (.os t) 0 (live_os d t)) 0 NO (amount_oV _ _) (amount_eq m d (some (.os t)) _ _)
      ((sep_mono_left (Entails.of_eq (pts_vO m d (oV t).view fullShare _ (outT m d t)
        ((View.read_write_univ _ _).trans (vO_read m (fV t).view d (outT m d t)))))).trans hp)) $$ [Hf Ho Ht]
  · isplitr; · iapply (env_inv m K d (some (.os t))); iexact HE
    isplitl [Hf]; · iexact Hf
    isplitl [Ho]; · iexact Ho
    isplitl [Ht]; · iexact Ht
    iapply (env_reached m K d (some (.os t))); iexact HE
  iexact Hk
theorem wp_outP {Φ : PUnit → sProp 𝕄} (d : Dev nD) (t : Fin 4) (k : KP F) :
    iprop(Env m K ∗ Ow d 0 ∗ cred (tallyAt (kcell d (some (.os t))) 0 NO) ∗ atPos ER (kcell d (some (.os t))) 0 ∅ 0)
      ⊢ iprop(((Ow d 0 ∗ atPos ER (kcell d (some (.os t))) 1 ∅ 0 ∗ osPay m d t) -∗ WP d k Φ) -∗ WP d (outP t k) Φ) := by
  have h0 := wp_wt (Φ := Φ) m K d (.os t) 0 (live_os d t) 0 (by decide) (above_zero 0)
    (w := .waitDma2 (oS t) (fV t) (oV t) (View.wordExact_bits rfl) (View.wordExact_bits rfl))
    (wpE_waitDma2_eq 𝒱₀ (d : Thread nD τ) none Set.univ) (kt := fun _ => k)
  iintro ⟨#HE, HO, Hc, Hat⟩ Hk
  iapply h0 $$ [HO Hc Hat]
  · isplitr; · iexact HE
    isplitl [Hc]; · iexact Hc
    isplitl [HO]; · iexact HO
    iexact Hat
  iintro ⟨HO, Hat, -, Hp⟩
  iapply Hk
  isplitl [HO]; · iexact HO
  isplitl [Hat]; · iexact Hat
  iapply (show pay m d (some (.os t)) 0 0 ⊢ osPay m d t from BI.Entails.refl _) $$ Hp

/-- The load of the whole table. -/
theorem wp_table {Φ : PUnit → sProp 𝕄} (d : Dev nD) (k : F .f32 → KP F) :
    iprop(((d : Thread nD τ).loc cc0_scratch4) ↦{fullShare} (show Buf (Elt F) ((d : Thread nD τ).loc cc0_scratch4) from aAll m))
      ⊢ iprop(((((d : Thread nD τ).loc cc0_scratch4) ↦{fullShare} (show Buf (Elt F) ((d : Thread nD τ).loc cc0_scratch4) from aAll m)) -∗ WP d (k (gmaxV (aAll m))) Φ)
        -∗ WP d (Prog.op (.load aM (Rect.unit (s := S8x8x128) ![0, 0, 0] S8x8x128.size inb_S8x8x128_S8x8x128_0_0_0).toLoadRect (View.loadsAt_vmem h_S8x8x128)) fun v => k (gmaxV v)) Φ) := by
  have h := wp_load_rect (defs := defs₀ (F := F)) (Γ := .empty) (Q := Φ) 𝒱₀ (d : Thread nD τ) none Set.univ (m := aM)
    (r := Rect.unit (s := S8x8x128) ![0, 0, 0] S8x8x128.size inb_S8x8x128_S8x8x128_0_0_0) (hl := View.loadsAt_vmem h_S8x8x128) (k := fun v => k (gmaxV v)) (q := fullShare)
    (S := Finset.univ) (f := aAll m) (Finset.subset_univ _)
  have e : (aM.access (Rect.unit (s := S8x8x128) ![0, 0, 0] S8x8x128.size inb_S8x8x128_S8x8x128_0_0_0)).read (Elt F) (aAll m) = aAll m := by
    funext x
    rw [View.read_apply]
    show aAll m _ = aAll m x
    congr 1
    funext a
    apply Fin.ext
    fin_cases a
    · show 0 + 1 * (x 0).val = (x 0).val; omega
    · show 0 + 1 * (x 1).val = (x 1).val; omega
    · show 0 + 1 * (x 2).val = (x 2).val; omega
  rw [e] at h
  exact h

/-- Four in order. -/
def C4 (A : Fin 4 → sProp 𝕄) : sProp 𝕄 := iprop(A 0 ∗ A 1 ∗ A 2 ∗ A 3)
omit [FloatOps F] in
theorem c4_big (A : Fin 4 → sProp 𝕄) : C4 A = bigSep Finset.univ A := by
  rw [bigSep_univ_eq_bigSepL [0, 1, 2, 3] (by decide) (by decide) A]
  rfl

/-- A tile's wait takes and gives. -/
def TwA (d : Dev nD) (t : Fin 4) : sProp 𝕄 := iprop(TiA m d t ∗ atPos ER (kcell d (some (.os t))) 0 ∅ 0)
def TwB (d : Dev nD) (t : Fin 4) : sProp 𝕄 := iprop(atPos ER (kcell d (some (.os t))) 1 ∅ 0 ∗ osPay m d t)
theorem wp_tiles {Φ : PUnit → sProp 𝕄} (d : Dev nD) (k : KP F) :
    iprop(Env m K ∗ Ow d 0 ∗ C4 (TwA m d)) ⊢ iprop(((Ow d 0 ∗ C4 (TwB m d)) -∗ WP d k Φ)
      -∗ WP d (tileP (gmaxV (aAll m)) 0 <| tileP (gmaxV (aAll m)) 1 <| tileP (gmaxV (aAll m)) 2 <| tileP (gmaxV (aAll m)) 3 <| outP 0 <| outP 1 <| outP 2 <| outP 3 <| k) Φ) := by
  unfold C4 TwA TwB
  iintro ⟨#HE, HO, ⟨T0, P0⟩, ⟨T1, P1⟩, ⟨T2, P2⟩, ⟨T3, P3⟩⟩ Hk
  iapply (wp_tileP m K d 0 _) $$ [T0]
  · isplitr; · iexact HE
    iexact T0
  iintro C0
  iapply (wp_tileP m K d 1 _) $$ [T1]
  · isplitr; · iexact HE
    iexact T1
  iintro C1
  iapply (wp_tileP m K d 2 _) $$ [T2]
  · isplitr; · iexact HE
    iexact T2
  iintro C2
  iapply (wp_tileP m K d 3 _) $$ [T3]
  · isplitr; · iexact HE
    iexact T3
  iintro C3
  iapply (wp_outP m K d 0 _) $$ [HO C0 P0]
  · isplitr; · iexact HE
    isplitl [HO]; · iexact HO
    isplitl [C0]; · iexact C0
    iexact P0
  iintro ⟨HO, R0⟩
  iapply (wp_outP m K d 1 _) $$ [HO C1 P1]
  · isplitr; · iexact HE
    isplitl [HO]; · iexact HO
    isplitl [C1]; · iexact C1
    iexact P1
  iintro ⟨HO, R1⟩
  iapply (wp_outP m K d 2 _) $$ [HO C2 P2]
  · isplitr; · iexact HE
    isplitl [HO]; · iexact HO
    isplitl [C2]; · iexact C2
    iexact P2
  iintro ⟨HO, R2⟩
  iapply (wp_outP m K d 3 _) $$ [HO C3 P3]
  · isplitr; · iexact HE
    isplitl [HO]; · iexact HO
    isplitl [C3]; · iexact C3
    iexact P3
  iintro ⟨HO, R3⟩
  iapply Hk
  isplitl [HO]; · iexact HO
  isplitl [R0]; · iexact R0
  isplitl [R1]; · iexact R1
  isplitl [R2]; · iexact R2
  iexact R3

/-! ## The end of the kernel -/

omit [FloatOps F] in
theorem c7_sep (A B : Fin 7 → sProp 𝕄) : C7 (fun o => iprop(A o ∗ B o)) = iprop(C7 A ∗ C7 B) := by
  rw [c7_big, c7_big, c7_big]; exact bigSep_sep' _ _ _

/-- The table of maxima after the exchange, whole. -/
def Tab (d : Dev nD) : sProp 𝕄 := ((d : Thread nD τ).loc cc0_scratch4) ↦{fullShare} (show Buf (Elt F) ((d : Thread nD τ).loc cc0_scratch4) from aAll m)
/-- The tokens of the exchange. -/
def tkA (d : Dev nD) (o : Fin 7) : sProp 𝕄 :=
  iprop(dutyTok ER (kcell d (some (.axs o.succ))) 0 0 ∗ dutyTok ER (kcell (far o.succ d) (some (.axr d))) 0 0)
def posS0 (d : Dev nD) (n : ℕ) (o : Fin 7) : sProp 𝕄 := atPos ER (kcell d (some (.axs o.succ))) n ∅ 0
def posR0 (d : Dev nD) (n : ℕ) (r : Fin 7) : sProp 𝕄 := atPos ER (kcell d (some (.axr (bk d (r.val + 1))))) n ∅ 0
def crA (d : Dev nD) (r : Fin 7) : sProp 𝕄 := cred (tallyAt (kcell d (some (.axr (bk d (r.val + 1))))) 1000 NA)

theorem wp_finP {Φ : PUnit → sProp 𝕄} (d : Dev nD) :
    iprop(Env m K ∗ Ow d (owedA d 0) ∗ anyO m d (aA d) ∗ bigSep (Finset.Ico 1 8) (fun j => anyO m (bk d j) (aA d)) ∗ C7 (tkA (F := F) d)
        ∗ C7 (crA (F := F) d) ∗ C7 (posR0 (F := F) d 0) ∗ C7 (posS0 (F := F) d 0) ∗ Ch8 (LsA (F := F) d) ∗ C4 (TwA m d))
      ⊢ iprop(((Ow d 0 ∗ Tab m d ∗ C7 (posR0 (F := F) d 1) ∗ C7 (posS0 (F := F) d 1) ∗ Ch8 (LsB m d) ∗ C4 (TwB m d)) -∗ Φ ⟨⟩) -∗ WP d (finP d (amx m d 8)) Φ) := by
  unfold finP
  iintro ⟨#HE, HO, Ha, Hrows, Htk, Hcr, HpR, HpS, Hls, Hti⟩ Hk
  iapply (wp_rowP m d (amx m d 8) _) $$ Ha
  iintro Ha
  ihave Ha := (Entails.of_eq (row_shares m d (fullV (amx m d 8)))) $$ Ha
  icases Ha with ⟨Hdrop, H0, Htoks⟩
  ihave Hrows := (Entails.of_eq (rows_far d (fun e => anyO m e (aA d)))) $$ Hrows
  have eA : C7 (AxA m d) = iprop(C7 (fun o => vO m d (aA d) (Transfers.shareTokN fullShare o.succ.val) (fullV (amx m d 8))) ∗ C7 (fun o => anyO m (far o.succ d) (aA d)) ∗ C7 (tkA (F := F) d)) := by
    rw [← c7_sep, ← c7_sep]; rfl
  iapply (wp_over7 d (fun r => axSendP d r.succ) (Env m K) (fun n => Ow d (owedA d n)) (AxA m d)
    (fun o => cred (tallyAt (kcell d (some (.axs o.succ))) 0 NA)) (fun r k => wp_axSendP m K d r k) _) $$ [HO Hrows Htk Htoks]
  · isplitr; · iexact HE
    isplitl [HO]; · iexact HO
    iapply (Entails.of_eq eA.symm)
    isplitl [Htoks]; · iexact Htoks
    isplitl [Hrows]; · iexact Hrows
    iexact Htk
  iintro ⟨HO, Hcs⟩
  ihave HO := (show Ow d (owedA d 7) ⊢ (Ow d 0 : sProp 𝕄) from by rw [owedA_end]) $$ HO
  iapply (wp_lastSent m K d _) $$ [HO Hls]
  · isplitr; · iexact HE
    isplitl [HO]; · iexact HO
    iexact Hls
  iintro ⟨HO, Hls⟩
  have eR : C7 (ArA (F := F) d) = iprop(C7 (crA (F := F) d) ∗ C7 (posR0 (F := F) d 0)) := by rw [← c7_sep]; rfl
  iapply (wp_over7 d (axRecvP d) (Env m K) (fun _ => Ow d 0) (ArA (F := F) d) (ArB m d) (fun r k => wp_axRecvP m K d r k) _) $$ [HO Hcr HpR]
  · isplitr; · iexact HE
    isplitl [HO]; · iexact HO
    iapply (Entails.of_eq eR.symm)
    isplitl [Hcr]; · iexact Hcr
    iexact HpR
  iintro ⟨HO, HR⟩
  have eR' : C7 (ArB m d) = iprop(C7 (posR0 (F := F) d 1) ∗ C7 (fun r => vO m d (aA (bk d (r.val + 1))) fullShare (fullV (amx m (bk d (r.val + 1)) 8)))) := by rw [← c7_sep]; rfl
  ihave HR := (Entails.of_eq eR') $$ HR
  icases HR with ⟨HpR, HR⟩
  have eS : C7 (AsA (F := F) d) = iprop(C7 (fun o => cred (tallyAt (kcell d (some (.axs o.succ))) 0 NA)) ∗ C7 (posS0 (F := F) d 0)) := by rw [← c7_sep]; rfl
  iapply (wp_over7 d (fun r => axSentP d r.succ) (Env m K) (fun _ => Ow d 0) (AsA (F := F) d) (AsB m d) (fun r k => wp_axSentP m K d r k) _) $$ [HO Hcs HpS]
  · isplitr; · iexact HE
    isplitl [HO]; · iexact HO
    iapply (Entails.of_eq eS.symm)
    isplitl [Hcs]; · iexact Hcs
    iexact HpS
  iintro ⟨HO, HS⟩
  have eS' : C7 (AsB m d) = iprop(C7 (posS0 (F := F) d 1) ∗ C7 (fun o => vO m d (aA d) (Transfers.shareTokN fullShare o.succ.val) (fullV (amx m d 8)))) := by rw [← c7_sep]; rfl
  ihave HS := (Entails.of_eq eS') $$ HS
  icases HS with ⟨HpS, Htoks⟩
  have eT := rows_bk d (fun e => vO m d (aA e) fullShare (fullV (amx m e 8)))
  ihave HT := (show iprop(vO m d (aA d) fullShare (fullV (amx m d 8)) ∗ C7 (fun r => vO m d (aA (bk d (r.val + 1))) fullShare (fullV (amx m (bk d (r.val + 1)) 8)))) ⊢ Tab m d from by
    unfold Tab; rw [rows_whole]; exact Entails.of_eq eT.symm) $$ [Hdrop H0 Htoks HR]
  · isplitr [HR]
    · iapply (Entails.of_eq (row_shares m d (fullV (amx m d 8))).symm)
      isplitl [Hdrop]; · iexact Hdrop
      isplitl [H0]; · iexact H0
      iexact Htoks
    iexact HR
  unfold Tab
  iapply (wp_table m d (fun g => tileP g 0 <| tileP g 1 <| tileP g 2 <| tileP g 3 <| outP 0 <| outP 1 <| outP 2 <| outP 3 <| Prog.ret ⟨⟩)) $$ HT
  iintro HT
  iapply (wp_tiles m K d _) $$ [HO Hti]
  · isplitr; · iexact HE
    isplitl [HO]; · iexact HO
    iexact Hti
  iintro ⟨HO, Hti⟩
  have hret : Φ ⟨⟩ ⊢ WP d (Prog.ret ⟨⟩) Φ := by
    show Φ ⟨⟩ ⊢ wp frame _ Set.univ (Prog.ret ⟨⟩) Φ
    rw [wp_ret]
    exact fupd_intro
  iapply hret
  iapply Hk
  isplitl [HO]; · iexact HO
  isplitl [HT]; · iexact HT
  isplitl [HpR]; · iexact HpR
  isplitl [HpS]; · iexact HpS
  isplitl [Hls]; · iexact Hls
  iexact Hti

end Cert.RingProof

end
-- ==== Proof.Mid.lean ====
/-
Families of resources by use, the steps of the ring one after the other, and the barrier they start with.
-/
module

public import proofs.«01_k».proof.Proof.Fin

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Key → ℕ)

/-! ## Families -/

omit [FloatOps F] in
theorem ch8_sep' (A B : Fin 2 → Fin 4 → sProp 𝕄) : Ch8 (fun h c => iprop(A h c ∗ B h c)) = iprop(Ch8 A ∗ Ch8 B) := by
  rw [ch8_big, ch8_big, ch8_big]; exact bigSep_sep' _ _ _
omit [FloatOps F] in
theorem ch8_halves (A : Fin 2 → Fin 4 → sProp 𝕄) : Ch8 A = iprop(C4 (A 0) ∗ C4 (A 1)) := by
  rw [ch8_big, bigSep_univ_prod, bigSep_univ_eq_bigSepL [0, 1] (by decide) (by decide), c4_big, c4_big]
  rfl
def C6 (A : Fin 6 → sProp 𝕄) : sProp 𝕄 := iprop(A 0 ∗ A 1 ∗ A 2 ∗ A 3 ∗ A 4 ∗ A 5)
omit [FloatOps F] in
theorem c6_big (A : Fin 6 → sProp 𝕄) : C6 A = bigSep Finset.univ A := by
  rw [bigSep_univ_eq_bigSepL [0, 1, 2, 3, 4, 5] (by decide) (by decide) A]
  rfl

omit [FloatOps F] in
theorem big_option {T : Type} [Fintype T] [DecidableEq T] (A : Option T → sProp 𝕄) :
    bigSep Finset.univ A = iprop(A none ∗ bigSep Finset.univ fun t => A (some t)) := by
  have h : (Finset.univ : Finset (Option T)) = insert none (Finset.univ.map Function.Embedding.some) := by
    ext x; cases x <;> simp
  rw [h, bigSep_insert (by simp), bigSep_map]
  rfl

/-- A family over all semaphores of a device, taken apart by use. -/
def KS (d : Dev nD) (A : Key → sProp 𝕄) : sProp 𝕄 :=
  iprop(A none ∗ (Ch8 (fun h c => A (some (.snd 0 h c))) ∗ Ch8 (fun h c => A (some (.snd 1 h c))))
    ∗ (Ch8 (fun h c => A (some (.rcv 0 h c))) ∗ Ch8 (fun h c => A (some (.rcv 1 h c))))
    ∗ (Ch8 (fun h c => A (some (.crd 0 h c))) ∗ Ch8 (fun h c => A (some (.crd 1 h c))))
    ∗ ((A (some (.xs 0 0)) ∗ A (some (.xs 0 1))) ∗ (A (some (.xs 1 0)) ∗ A (some (.xs 1 1))))
    ∗ C4 (fun t => A (some (.os t)))
    ∗ (A (some (.axs 0)) ∗ C7 (fun o => A (some (.axs o.succ))))
    ∗ (A (some (.axr d)) ∗ C7 (fun r => A (some (.axr (bk d (r.val + 1)))))))

omit [FloatOps F] in
theorem big_phc (A : Fin 2 → Fin 2 → Fin 4 → sProp 𝕄) :
    (bigSep Finset.univ fun t : Fin 2 × Fin 2 × Fin 4 => A t.1 t.2.1 t.2.2) = iprop(Ch8 (A 0) ∗ Ch8 (A 1)) := by
  rw [bigSep_univ_prod, bigSep_univ_eq_bigSepL [0, 1] (by decide) (by decide), ch8_big, ch8_big]
  rfl
omit [FloatOps F] in
theorem big_ph (A : Fin 2 → Fin 2 → sProp 𝕄) :
    (bigSep Finset.univ fun t : Fin 2 × Fin 2 => A t.1 t.2) = iprop((A 0 0 ∗ A 0 1) ∗ (A 1 0 ∗ A 1 1)) := by
  rw [bigSep_univ_prod, bigSep_univ_eq_bigSepL [0, 1] (by decide) (by decide)]
  show iprop((bigSep Finset.univ fun h => A 0 h) ∗ (bigSep Finset.univ fun h => A 1 h)) = _
  rw [bigSep_univ_eq_bigSepL [0, 1] (by decide) (by decide), bigSep_univ_eq_bigSepL [0, 1] (by decide) (by decide)]
  rfl
omit [FloatOps F] in
theorem big_8 (A : Fin 8 → sProp 𝕄) : bigSep Finset.univ A = iprop(A 0 ∗ C7 (fun o => A o.succ)) := by
  rw [bigSep_univ_eq_bigSepL [0, 1, 2, 3, 4, 5, 6, 7] (by decide) (by decide)]
  rfl
omit [FloatOps F] in
theorem keys_split (d : Dev nD) (A : Key → sProp 𝕄) : bigSep Finset.univ A = KS d A := by
  unfold KS
  rw [big_option, bigSep_univ_equiv okeyEquiv.symm (fun t => A (some t)), bigSep_univ_sum, bigSep_univ_sum, bigSep_univ_sum, bigSep_univ_sum, bigSep_univ_sum, bigSep_univ_sum]
  have h1 := big_phc (fun p h c => A (some (.snd p h c)))
  have h2 := big_phc (fun p h c => A (some (.rcv p h c)))
  have h3 := big_phc (fun p h c => A (some (.crd p h c)))
  have h4 := big_ph (fun p h => A (some (.xs p h)))
  have h5 := c4_big (fun t => A (some (.os t)))
  have h6 := big_8 (fun t => A (some (.axs t)))
  have h7 := rows_bk d (fun t => A (some (.axr t)))
  rw [← h1, ← h2, ← h3, ← h4, h5, ← h6, ← h7]
  rfl

/-! ## The ring as a whole -/

def TX (d : Dev nD) : sProp 𝕄 := iprop(C7 (fun s => iprop(tkX (F := F) d s.val 0 ∗ tkX (F := F) d s.val 1)) ∗ tkX (F := F) d 7 0)

theorem wp_mid {Φ : PUnit → sProp 𝕄} (d : Dev nD) (k : F .f32 → KP F) :
    iprop(Env m K ∗ Bg m d ∗ TX (F := F) d ∗ C6 (fun n => Ch8 (StTok (F := F) d n.val)) ∗ Ch8 (crR (F := F) d 6) ∗ Ch8 (fun h c => anyO m d (fA h c)))
      ⊢ iprop(((Ow d (owedN d 56) ∗ Wo m d ∗ PxB m d 7 ∗ Fz m d ∗ Rw m d 7 ∗ Ch8 (Ac m d) ∗ Ch8 (fun h c => vO m d (fA h c) fullShare (resR m d h c))) -∗ WP d (k (amx m d 8)) Φ)
        -∗ WP d (nextP d 0 <| allP (stage0 d) <|
  nextP d 1 <| allP (stage d 1) <| nextP d 2 <| allP (stage d 2) <| nextP d 3 <| allP (stage d 3) <|
  nextP d 4 <| allP (stage d 4) <| nextP d 5 <| allP (stage d 5) <| nextP d 6 <| allP (stage d 6) <|
  lastP d <| accAll k) Φ) := by
  unfold TX C7 C6
  iintro ⟨#HE, HB, ⟨⟨⟨X00, X01⟩, ⟨X10, X11⟩, ⟨X20, X21⟩, ⟨X30, X31⟩, ⟨X40, X41⟩, ⟨X50, X51⟩, ⟨X60, X61⟩⟩, X7⟩, ⟨S0, S1, S2, S3, S4, S5⟩, HcR, Hf⟩ Hk
  iapply (wp_step0 m K d _) $$ [HB X00 X01]
  · isplitr; · iexact HE
    isplitl [HB]; · iexact HB
    isplitl [X00]; · iexact X00
    iexact X01
  iintro HB
  iapply (wp_step m K d 0 (by decide) _) $$ [HB X10 X11 S0]
  · isplitr; · iexact HE
    isplitl [HB]; · iexact HB
    isplitl [X10]; · iexact X10
    isplitl [X11]; · iexact X11
    iexact S0
  iintro HB
  iapply (wp_step m K d 1 (by decide) _) $$ [HB X20 X21 S1]
  · isplitr; · iexact HE
    isplitl [HB]; · iexact HB
    isplitl [X20]; · iexact X20
    isplitl [X21]; · iexact X21
    iexact S1
  iintro HB
  iapply (wp_step m K d 2 (by decide) _) $$ [HB X30 X31 S2]
  · isplitr; · iexact HE
    isplitl [HB]; · iexact HB
    isplitl [X30]; · iexact X30
    isplitl [X31]; · iexact X31
    iexact S2
  iintro HB
  iapply (wp_step m K d 3 (by decide) _) $$ [HB X40 X41 S3]
  · isplitr; · iexact HE
    isplitl [HB]; · iexact HB
    isplitl [X40]; · iexact X40
    isplitl [X41]; · iexact X41
    iexact S3
  iintro HB
  iapply (wp_step m K d 4 (by decide) _) $$ [HB X50 X51 S4]
  · isplitr; · iexact HE
    isplitl [HB]; · iexact HB
    isplitl [X50]; · iexact X50
    isplitl [X51]; · iexact X51
    iexact S4
  iintro HB
  iapply (wp_step m K d 5 (by decide) _) $$ [HB X60 X61 S5]
  · isplitr; · iexact HE
    isplitl [HB]; · iexact HB
    isplitl [X60]; · iexact X60
    isplitl [X61]; · iexact X61
    iexact S5
  iintro ⟨HO, HW, HF, HR, HA⟩
  ihave HO := (show Ow d (owedN d (8 * (5 + 2))) ⊢ (Ow d (owedN d 56) : sProp 𝕄) from BI.Entails.refl _) $$ HO
  iapply (wp_lastP m K d _ (O := owedN d 56) ((above_owedN d 56).mono (Nat.zero_le _))) $$ [HO HW HF X7]
  · isplitr; · iexact HE
    isplitl [HO]; · iexact HO
    isplitl [HW]; · iexact HW
    isplitl [HF]; · iexact HF
    iexact X7
  iintro ⟨HO, HW, HX, HZ⟩
  have e1 : Ch8 (fun h c => iprop(crR (F := F) d 6 h c ∗ Af (F := F) d 6 h c ∗ anyO m d (fA h c)))
      = iprop(Ch8 (crR (F := F) d 6) ∗ Ch8 (Af (F := F) d 6) ∗ Ch8 (fun h c => anyO m d (fA h c))) := by
    rw [ch8_sep' (crR (F := F) d 6), ch8_sep']
  iapply (wp_accAll m K d k) $$ [HO HW HX HcR HA Hf]
  · isplitr; · iexact HE
    isplitl [HO HW HX]
    · isplitl [HO]; · iexact HO
      isplitl [HW]; · iexact HW
      iexact HX
    iapply (Entails.of_eq e1.symm)
    isplitl [HcR]; · iexact HcR
    isplitl [HA]; · iexact HA
    iexact Hf
  iintro ⟨⟨HO, HW, HX⟩, HA⟩
  ihave HA := (Entails.of_eq (ch8_sep' (Ac m d) (fun h c => vO m d (fA h c) fullShare (resR m d h c)))) $$ HA
  icases HA with ⟨HA, Hf⟩
  iapply Hk
  isplitl [HO]; · iexact HO
  isplitl [HW]; · iexact HW
  isplitl [HX]; · iexact HX
  isplitl [HZ]; · iexact HZ
  isplitl [HR]; · iexact HR
  isplitl [HA]; · iexact HA
  iexact Hf

/-! ## The opening barrier -/

def tkB (d : Dev nD) (j : Fin 2) : sProp 𝕄 := dutyTok ER (kcell (up j d) none) 0 j

theorem mem_bar (d : Dev nD) (j : Fin 2) : j ∈ (Rd (F := F) m).duties (kcell d none) 0 := by
  rw [duties_eq, duts_bar]; exact Finset.mem_univ j

theorem wp_knock {Φ : PUnit → sProp 𝕄} (d e : Dev nD) (j : Fin 2) (he : e = up j d) (k : PUnit → KP F) (O : CellTallies nD τ sig ℕ) :
    iprop(Env m K ∗ Ow d (O + dueB d j) ∗ tkB (F := F) d j ∗ barPay m (up j d) j)
      ⊢ iprop((Ow d O -∗ WP d (k ⟨⟩) Φ) -∗ WP d (.op (.semSignal (e, .tc) barS ((1 : ℕ) : ℤ)) k) Φ) := by
  subst he
  have hp : barPay m (up j d) j ⊢ (Rd (F := F) m).payload ((up j d : Thread nD τ), .reg barS) 0 j :=
    Entails.of_eq (payload_eq m (up j d) none 0 j).symm
  unfold Ow dueB tkB
  iintro ⟨#HE, ⟨%W, HO⟩, Ht, Hp⟩ Hk
  iapply (Rounds.wp_signal (defs := defs₀ (F := F)) (Γ := .empty) 𝒱₀ ER (Rd m) (d : Thread nD τ) none (dst := (up j d : Thread nD τ))
      (κ := K (up j d, none)) (r := 0) (d := j)
      (mem_bar m (up j d) j) (amount_eq m (up j d) none _ _) 1 O rfl (W := W)) $$ [HO Ht Hp]
  · isplitr; · iapply (env_inv m K (up j d) none); iexact HE
    isplitl [HO]; · iexact HO
    isplitl [Ht]; · iexact Ht
    isplitl [Hp]; · iapply hp $$ Hp
    iapply (env_reached m K (up j d) none); iexact HE
  iintro HO
  iapply Hk
  iexists W; iexact HO

theorem wp_answered {Φ : PUnit → sProp 𝕄} (d : Dev nD) (k : PUnit → KP F) {O : CellTallies nD τ sig ℕ} (hO : Above 1 O) :
    iprop(Env m K ∗ cred (tallyAt (kcell d none) 1 2) ∗ Ow d O ∗ atPos ER (kcell d none) 0 ∅ 0)
      ⊢ iprop(((Ow d O ∗ atPos ER (kcell d none) 1 ∅ 0 ∗ barPay m d 0 ∗ barPay m d 1) -∗ WP d (k ⟨⟩) Φ)
          -∗ WP d (.op (.semWait barS ((2 : ℕ) : ℤ)) k) Φ) := by
  have hrest : bigSep ((Rd (F := F) m).duties ((d : Thread nD τ), .reg barS) 0 \ ∅) (fun j => (Rd (F := F) m).payload ((d : Thread nD τ), .reg barS) 0 j)
      ⊢ iprop(barPay m d 0 ∗ barPay m d 1) := by
    rw [Finset.sdiff_empty, show (Rd (F := F) m).duties ((d : Thread nD τ), .reg barS) 0 = Finset.univ from (duties_eq m d none 0).trans (duts_bar d),
      bigSep_univ_eq_bigSepL [0, 1] (by decide) (by decide)]
    show iprop((Rd (F := F) m).payload (kcell d none) 0 0 ∗ (Rd (F := F) m).payload (kcell d none) 0 1) ⊢ _
    rw [payload_eq, payload_eq]
    exact BI.Entails.refl _
  unfold Ow
  iintro ⟨#HE, Hc, ⟨%W, HO⟩, Hat⟩ Hk
  iapply (Rounds.wp_wait_rest_token (defs := defs₀ (F := F)) 𝒱₀ ER (Rd m) (d : Thread nD τ) none (κ := K (d, none))
    (wpE_semWait_eq 𝒱₀ (d : Thread nD τ) none Set.univ) (Set.mem_univ _) 1
    (O := O) (W := W) (R := 0) (m := 0) (T := ∅) (by rw [Nat.zero_add]; exact (expect_bar m d).symm)) $$ [Hc HO Hat]
  · isplitr; · iapply (env_inv m K d none); iexact HE
    isplitl [Hc]; · iexact Hc
    isplitl [HO]; · iexact HO
    isplitr
    · iapply (mayWait d (.reg barS) (by decide) hO); iapply (env_lev m K); iexact HE
    iexact Hat
  iintro ⟨HO, Hat, -, Hp⟩
  iapply Hk
  isplitl [HO]; · iexists _; iexact HO
  isplitl [Hat]; · iexact Hat
  iapply hrest $$ Hp

theorem bar_pay0 (d : Dev nD) : C4 (fun c => anyO m d (cA 1 0 c)) ⊢ barPay m (up 0 d) 0 := by
  unfold barPay
  rw [dn_up, if_neg (by decide), ← c4_big]
  iintro H
  isplitl [H]; · iexact H
  iempintro
theorem bar_pay1 (d : Dev nD) : iprop(C4 (fun c => anyO m d (cA 1 1 c)) ∗ Rows m d 1) ⊢ barPay m (up 1 d) 1 := by
  unfold barPay
  rw [dn_up, if_pos rfl, ← c4_big, show bk (up 1 d) 1 = d from (bk_up d 0).trans (bk_zero d)]
theorem bar_got0 (d : Dev nD) : barPay m d 0 ⊢ C4 (fun c => anyO m (dn 0 d) (cA 1 0 c)) := by
  unfold barPay
  rw [if_neg (by decide), ← c4_big]
  iintro ⟨H, -⟩
  iexact H
theorem bar_got1 (d : Dev nD) : barPay m d 1 ⊢ iprop(C4 (fun c => anyO m (dn 1 d) (cA 1 1 c)) ∗ Rows m (bk d 1) 1) := by
  unfold barPay
  rw [if_pos rfl, ← c4_big]

theorem wp_open {Φ : PUnit → sProp 𝕄} (d : Dev nD) (k : KP F) :
    iprop(Env m K ∗ Ow d (O₀ d) ∗ tkB (F := F) d 0 ∗ tkB (F := F) d 1 ∗ Ch8 (fun h c => anyO m d (cA 1 h c)) ∗ Rows m d 1
        ∗ cred (tallyAt (kcell d none) 1 2) ∗ atPos ER (kcell d none) 0 ∅ 0)
      ⊢ iprop(((Ow d (owedN d 0) ∗ atPos ER (kcell d none) 1 ∅ 0 ∗ Ch8 (fun h c => anyO m (dn h d) (cA 1 h c)) ∗ Rw m d 1) -∗ WP d k Φ)
          -∗ WP d (Prog.op (.semSignal (⟨k0_dev1 d, k0_dev1_lt d⟩, .tc) barS ((1 : ℕ) : ℤ)) fun _ =>
  Prog.op (.semSignal (⟨k0_dev2 d, k0_dev2_lt d⟩, .tc) barS ((1 : ℕ) : ℤ)) fun _ =>
  Prog.op (.semWait barS ((2 : ℕ) : ℤ)) fun _ => k) Φ) := by
  rw [ch8_halves, ch8_halves]
  unfold O₀
  iintro ⟨#HE, HO, Ht0, Ht1, ⟨Hc0, Hc1⟩, HR, Hcr, Hat⟩ Hk
  iapply (wp_knock m K d ⟨k0_dev1 d, k0_dev1_lt d⟩ 0 (dev1_eq d) _ (owedN d 0 + dueB d 1)) $$ [HO Ht0 Hc0]
  · isplitr; · iexact HE
    isplitl [HO]; · iexact HO
    isplitl [Ht0]; · iexact Ht0
    iapply (bar_pay0 m d) $$ Hc0
  iintro HO
  iapply (wp_knock m K d ⟨k0_dev2 d, k0_dev2_lt d⟩ 1 (dev2_eq d) _ (owedN d 0)) $$ [HO Ht1 Hc1 HR]
  · isplitr; · iexact HE
    isplitl [HO]; · iexact HO
    isplitl [Ht1]; · iexact Ht1
    iapply (bar_pay1 m d)
    isplitl [Hc1]; · iexact Hc1
    iexact HR
  iintro HO
  iapply (wp_answered m K d _ ((above_owedN d 0).mono (by decide))) $$ [HO Hcr Hat]
  · isplitr; · iexact HE
    isplitl [Hcr]; · iexact Hcr
    isplitl [HO]; · iexact HO
    iexact Hat
  iintro ⟨HO, Hat, H0, H1⟩
  ihave H0 := (bar_got0 m d) $$ H0
  ihave H1 := (bar_got1 m d) $$ H1
  icases H1 with ⟨H1, HR⟩
  iapply Hk
  isplitl [HO]; · iexact HO
  isplitl [Hat]; · iexact Hat
  isplitl [H0 H1]
  · isplitl [H0]; · iexact H0
    iexact H1
  iapply (Rw_snoc m d 0 (by decide))
  isplitl [HR]; · iexact HR
  rw [Finset.Ico_self, bigSep_empty]
  iempintro

end Cert.RingProof

end
-- ==== Proof.Body.lean ====
/-
The whole body: from what a device is given at launch to what it ends with.
-/
module

public import proofs.«01_k».proof.Proof.Mid

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Key → ℕ)

omit [FloatOps F] in
theorem c4_sep (A B : Fin 4 → sProp 𝕄) : C4 (fun t => iprop(A t ∗ B t)) = iprop(C4 A ∗ C4 B) := by
  rw [c4_big, c4_big, c4_big]; exact bigSep_sep' _ _ _

/-! ## What a device starts and ends with -/

/-- Its memory at the start, in parts at any contents. -/
def Mem0 (d : Dev nD) : sProp 𝕄 :=
  iprop((Ch8 (fun h c => anyO m d (cA 0 h c)) ∗ Ch8 (fun h c => anyO m d (cA 1 h c)))
    ∗ ((anyO m d (bA 0 0) ∗ anyO m d (bA 0 1)) ∗ (anyO m d (bA 1 0) ∗ anyO m d (bA 1 1)))
    ∗ (anyO m d (pA 0) ∗ anyO m d (pA 1)) ∗ (anyO m d (aA d) ∗ Rows m d 1) ∗ Ch8 (fun h c => anyO m d (fA h c)) ∗ C4 (fun t => anyO m d (oV t).view))
/-- At the end: the table of maxima, and the result by tiles. -/
def Mem1 (d : Dev nD) : sProp 𝕄 :=
  iprop((Ch8 (fun h c => anyO m d (cA 0 h c)) ∗ Ch8 (fun h c => anyO m d (cA 1 h c)))
    ∗ ((anyO m d (bA 0 0) ∗ anyO m d (bA 0 1)) ∗ (anyO m d (bA 1 0) ∗ anyO m d (bA 1 1)))
    ∗ (anyO m d (pA 0) ∗ anyO m d (pA 1)) ∗ Tab m d ∗ C4 (osPay m d))
def tkO (d : Dev nD) (t : Fin 4) : sProp 𝕄 := dutyTok ER (kcell d (some (.os t))) 0 0
/-- Its tokens and credits. -/
def Tok0 (d : Dev nD) : sProp 𝕄 :=
  iprop((tkB (F := F) d 0 ∗ tkB (F := F) d 1) ∗ (Ch8 (tkS (F := F) d 0) ∗ Ch8 (tkR (F := F) d 0)) ∗ TX (F := F) d ∗ C6 (fun n => Ch8 (StTok (F := F) d n.val))
    ∗ Ch8 (crR (F := F) d 6) ∗ C4 (tkO (F := F) d) ∗ C7 (tkA (F := F) d) ∗ C7 (crA (F := F) d) ∗ cred (tallyAt (kcell d none) 1 2))
def Pos0 (d : Dev nD) (k : Key) : sProp 𝕄 := atPos ER (kcell d k) 0 ∅ 0
def Pos1 (d : Dev nD) (k : Key) : sProp 𝕄 := atPos ER (kcell d k) (finR d k) ∅ 0

def Init (d : Dev nD) : sProp 𝕄 :=
  iprop(Ow d (O₀ d) ∗ Wo m d ∗ (XA m d 0 ∗ XA m d 1) ∗ Mem0 m d ∗ Tok0 (F := F) d ∗ KS d (Pos0 (F := F) d))
def Done (d : Dev nD) : sProp 𝕄 :=
  iprop(Ow d 0 ∗ Wo m d ∗ (XA m d 0 ∗ XA m d 1) ∗ Mem1 m d ∗ KS d (Pos1 (F := F) d))

/-! ## Bundles of chunks -/

omit [FloatOps F] in
theorem pos_zero (d : Dev nD) : Ch8 (Pos (F := F) d 0)
    = iprop(Ch8 (fun h c => Pos0 (F := F) d (some (.snd 0 h c))) ∗ Ch8 (fun h c => Pos0 (F := F) d (some (.snd 1 h c)))
      ∗ Ch8 (fun h c => Pos0 (F := F) d (some (.rcv 1 h c))) ∗ Ch8 (fun h c => Pos0 (F := F) d (some (.rcv 0 h c)))
      ∗ Ch8 (fun h c => Pos0 (F := F) d (some (.crd 0 h c))) ∗ Ch8 (fun h c => Pos0 (F := F) d (some (.crd 1 h c)))) := by
  rw [← ch8_sep', ← ch8_sep', ← ch8_sep', ← ch8_sep', ← ch8_sep']
  rfl
theorem before_zero (d : Dev nD) : Ch8 (Bf m d)
    = iprop(Ch8 (Pos (F := F) d 0) ∗ Ch8 (fun h c => anyO m d (cA 0 h c)) ∗ Ch8 (fun h c => anyO m (dn h d) (cA 1 h c)) ∗ Ch8 (tkS (F := F) d 0) ∗ Ch8 (tkR (F := F) d 0)) := by
  rw [← ch8_sep', ← ch8_sep', ← ch8_sep', ← ch8_sep']
  rfl
theorem after_seven (d : Dev nD) : Ch8 (Ac m d)
    = iprop((Ch8 (fun h c => atPos ER (kcell d (some (.snd (sl 6) h c))) (6 / 2) ∅ 0) ∗ Ch8 (fun h c => Pos1 (F := F) d (some (.snd 1 h c)))
      ∗ Ch8 (fun h c => Pos1 (F := F) d (some (.rcv 1 h c))) ∗ Ch8 (fun h c => Pos1 (F := F) d (some (.rcv 0 h c)))
      ∗ Ch8 (fun h c => Pos1 (F := F) d (some (.crd 0 h c))) ∗ Ch8 (fun h c => Pos1 (F := F) d (some (.crd 1 h c))))
      ∗ Ch8 (fun h c => cred (tallyAt (kcell d (some (.snd (sl 6) h c))) 0 NC)) ∗ Ch8 (fun h c => anyO m d (cA 1 h c))) := by
  rw [← ch8_sep', ← ch8_sep', ← ch8_sep', ← ch8_sep', ← ch8_sep', ← ch8_sep', ← ch8_sep']
  rfl
omit [FloatOps F] in
theorem last_take (d : Dev nD) : Ch8 (LsA (F := F) d)
    = iprop(Ch8 (fun h c => cred (tallyAt (kcell d (some (.snd (sl 6) h c))) 0 NC)) ∗ Ch8 (fun h c => atPos ER (kcell d (some (.snd (sl 6) h c))) (6 / 2) ∅ 0)) := by
  rw [← ch8_sep']; rfl
theorem last_give (d : Dev nD) : Ch8 (LsB m d)
    = iprop(Ch8 (fun h c => Pos1 (F := F) d (some (.snd 0 h c))) ∗ Ch8 (fun h c => anyO m d (cA 0 h c))) := by
  rw [← ch8_sep']; rfl
theorem tiles_take (d : Dev nD) : C4 (TwA m d)
    = iprop((C4 (fun t => vO m d (fV t).view fullShare ((fV t).view.read (Elt F) (Yd m d))) ∗ C4 (fun t => anyO m d (oV t).view) ∗ C4 (tkO (F := F) d))
      ∗ C4 (fun t => Pos0 (F := F) d (some (.os t)))) := by
  rw [← c4_sep, ← c4_sep, ← c4_sep]; rfl
theorem tiles_give (d : Dev nD) : C4 (TwB m d) = iprop(C4 (fun t => Pos1 (F := F) d (some (.os t))) ∗ C4 (osPay m d)) := by
  rw [← c4_sep]; rfl
omit [FloatOps F] in
theorem posR_fin (d : Dev nD) : C7 (posR0 (F := F) d 1) = C7 (fun r => Pos1 (F := F) d (some (.axr (bk d (r.val + 1))))) := by
  congr 1
  funext r
  unfold posR0 Pos1
  simp only [finR, if_neg (bk_ne d r)]

theorem fx_zero (d : Dev nD) :
    iprop((XA m d 0 ∗ XA m d 1) ∗ ((anyO m d (bA 0 0) ∗ anyO m d (bA 0 1)) ∗ (anyO m d (bA 1 0) ∗ anyO m d (bA 1 1))) ∗ (anyO m d (pA 0) ∗ anyO m d (pA 1))
        ∗ Env m K ∗ ((Pos0 (F := F) d (some (.xs 0 0)) ∗ Pos0 (F := F) d (some (.xs 0 1))) ∗ (Pos0 (F := F) d (some (.xs 1 0)) ∗ Pos0 (F := F) d (some (.xs 1 1)))))
      ⊢ Fx m d 0 := by
  have hxp : ∀ h, iprop(Env m K ∗ Pos0 (F := F) d (some (.xs 0 h)) ∗ Pos0 (F := F) d (some (.xs 1 h))) ⊢ XP (F := F) d 0 h := by
    intro h
    show _ ⊢ iprop(Pos0 (F := F) d (some (.xs 0 h)) ∗ Pos0 (F := F) d (some (.xs 1 h)) ∗ reached ER (kcell d (some (.xs 0 h))) 0 ∗ reached ER (kcell d (some (.xs 1 h))) 0)
    iintro ⟨#HE, H0, H1⟩
    isplitl [H0]; · iexact H0
    isplitl [H1]; · iexact H1
    isplitr; · iapply (env_reached m K d (some (.xs 0 h))); iexact HE
    iapply (env_reached m K d (some (.xs 1 h))); iexact HE
  show _ ⊢ iprop((XA m d 0 ∗ XP (F := F) d 0 0 ∗ anyO m d (bA 1 0)) ∗ (XA m d 1 ∗ XP (F := F) d 0 1 ∗ anyO m d (bA 1 1))
    ∗ anyO m d (bA 0 0) ∗ anyO m d (bA 0 1) ∗ anyO m d (pA 0) ∗ anyO m d (pA 1))
  iintro ⟨⟨X0, X1⟩, ⟨⟨B00, B01⟩, ⟨B10, B11⟩⟩, ⟨P0, P1⟩, #HE, ⟨⟨A00, A01⟩, ⟨A10, A11⟩⟩⟩
  isplitl [X0 B10 A00 A10]
  · isplitl [X0]; · iexact X0
    isplitl [A00 A10]
    · iapply (hxp 0)
      isplitr; · iexact HE
      isplitl [A00]; · iexact A00
      iexact A10
    iexact B10
  isplitl [X1 B11 A01 A11]
  · isplitl [X1]; · iexact X1
    isplitl [A01 A11]
    · iapply (hxp 1)
      isplitr; · iexact HE
      isplitl [A01]; · iexact A01
      iexact A11
    iexact B11
  isplitl [B00]; · iexact B00
  isplitl [B01]; · iexact B01
  isplitl [P0]; · iexact P0
  iexact P1

theorem fz_done (d : Dev nD) :
    iprop(Fz m d ∗ PxB m d 7)
      ⊢ iprop((XA m d 0 ∗ XA m d 1) ∗ ((anyO m d (bA 0 0) ∗ anyO m d (bA 0 1)) ∗ (anyO m d (bA 1 0) ∗ anyO m d (bA 1 1))) ∗ (anyO m d (pA 0) ∗ anyO m d (pA 1))
        ∗ ((Pos1 (F := F) d (some (.xs 0 0)) ∗ Pos1 (F := F) d (some (.xs 0 1))) ∗ (Pos1 (F := F) d (some (.xs 1 0)) ∗ Pos1 (F := F) d (some (.xs 1 1))))) := by
  show iprop((XA m d 0 ∗ XA m d 1 ∗ (Pos1 (F := F) d (some (.xs 0 0)) ∗ Pos1 (F := F) d (some (.xs 1 0)) ∗ _) ∗ (Pos1 (F := F) d (some (.xs 1 1)) ∗ Pos1 (F := F) d (some (.xs 0 1)) ∗ _)
      ∗ anyO m d (bA 0 0) ∗ anyO m d (bA 0 1))
    ∗ ((vO m d (bA 1 0) fullShare (xbV m d 7 0) ∗ vO m d (pA 0) fullShare (stV (xbV m d 7 0) (wV m d 0 0)))
      ∗ (vO m d (bA 1 1) fullShare (xbV m d 7 1) ∗ vO m d (pA 1) fullShare (stV (xbV m d 7 1) (wV m d 1 0))))) ⊢ _
  iintro ⟨⟨X0, X1, ⟨A00, A10, -⟩, ⟨A11, A01, -⟩, B00, B01⟩, ⟨⟨B10, P0⟩, ⟨B11, P1⟩⟩⟩
  isplitl [X0 X1]
  · isplitl [X0]; · iexact X0
    iexact X1
  isplitl [B00 B01 B10 B11]
  · isplitl [B00 B01]
    · isplitl [B00]; · iexact B00
      iexact B01
    isplitl [B10]; · iapply (vO_any m d (bA 1 0) _) $$ B10
    iapply (vO_any m d (bA 1 1) _) $$ B11
  isplitl [P0 P1]
  · isplitl [P0]; · iapply (vO_any m d (pA 0) _) $$ P0
    iapply (vO_any m d (pA 1) _) $$ P1
  isplitl [A00 A01]
  · isplitl [A00]; · iexact A00
    iexact A01
  isplitl [A10]; · iexact A10
  iexact A11

/-! ## The whole body -/

theorem wp_progD {Φ : PUnit → sProp 𝕄} (d : Dev nD) :
    iprop(Env m K ∗ Init m d) ⊢ iprop((Done m d -∗ Φ ⟨⟩) -∗ WP d (progD d) Φ) := by
  unfold Init Done Mem0 Mem1 Tok0 KS progD
  iintro ⟨#HE, HO, HW, HX, ⟨⟨C0, C1⟩, HB, HP, ⟨Ha, HR⟩, Hf, Ho⟩,
    ⟨⟨B0, B1⟩, ⟨HS0, HR0⟩, HTX, HT, HcR, HtO, HtA, HcA, HcB⟩,
    ⟨A0, ⟨S0, S1⟩, ⟨R0, R1⟩, ⟨D0, D1⟩, Axs, Aos, ⟨As0, As⟩, ⟨Ar0, Ar⟩⟩⟩ Hk
  iapply (wp_open m K d _) $$ [HO B0 B1 C1 HR HcB A0]
  · isplitr; · iexact HE
    isplitl [HO]; · iexact HO
    isplitl [B0]; · iexact B0
    isplitl [B1]; · iexact B1
    isplitl [C1]; · iexact C1
    isplitl [HR]; · iexact HR
    isplitl [HcB]; · iexact HcB
    iapply (show Pos0 (F := F) d none ⊢ atPos ER (kcell d none) 0 ∅ 0 from BI.Entails.refl _) $$ A0
  iintro ⟨HO, A0, C1, HRw⟩
  ihave HFx := (fx_zero m K d) $$ [HX HB HP Axs]
  · isplitl [HX]; · iexact HX
    isplitl [HB]; · iexact HB
    isplitl [HP]; · iexact HP
    isplitr; · iexact HE
    iexact Axs
  iapply (wp_mid m K d (fun g => finP d g)) $$ [HO HW HFx HRw S0 S1 R0 R1 D0 D1 C0 C1 HS0 HR0 HTX HT HcR Hf]
  · isplitr; · iexact HE
    isplitl [HO HW HFx HRw S0 S1 R0 R1 D0 D1 C0 C1 HS0 HR0]
    · unfold Bg
      isplitl [HO]; · iexact HO
      isplitl [HW]; · iexact HW
      isplitl [HFx]; · iexact HFx
      isplitl [HRw]; · iexact HRw
      iapply (Entails.of_eq (before_zero m d).symm)
      isplitl [S0 S1 R0 R1 D0 D1]
      · iapply (Entails.of_eq (pos_zero (F := F) d).symm)
        isplitl [S0]; · iexact S0
        isplitl [S1]; · iexact S1
        isplitl [R1]; · iexact R1
        isplitl [R0]; · iexact R0
        isplitl [D0]; · iexact D0
        iexact D1
      isplitl [C0]; · iexact C0
      isplitl [C1]; · iexact C1
      isplitl [HS0]; · iexact HS0
      iexact HR0
    isplitl [HTX]; · iexact HTX
    isplitl [HT]; · iexact HT
    isplitl [HcR]; · iexact HcR
    iexact Hf
  iintro ⟨HO, HW, HPx, HFz, HRw, HAc, Hf⟩
  ihave HO := (Entails.of_eq (congrArg (Ow (F := F) d) (owedN_end d))) $$ HO
  ihave HAc := (Entails.of_eq (after_seven m d)) $$ HAc
  icases HAc with ⟨⟨L0, S1, R1, R0, D0, D1⟩, HcL, C1⟩
  ihave HF := (fz_done m d) $$ [HFz HPx]
  · isplitl [HFz]; · iexact HFz
    iexact HPx
  icases HF with ⟨HX, HB, HP, Axs⟩
  ihave HRw := (show Rw m d 7 ⊢ (bigSep (Finset.Ico 1 8) fun j => anyO m (bk d j) (aA d)) from by
    unfold Rw; iintro ⟨-, H⟩; iexact H) $$ HRw
  ihave Hf := (Entails.of_eq ((chunks_tiles m d).trans (c4_big _).symm)) $$ Hf
  iapply (wp_finP m K d) $$ [HO Ha HRw HtA HcA Ar As HcL L0 Hf Ho HtO Aos]
  · isplitr; · iexact HE
    isplitl [HO]; · iexact HO
    isplitl [Ha]; · iexact Ha
    isplitl [HRw]; · iexact HRw
    isplitl [HtA]; · iexact HtA
    isplitl [HcA]; · iexact HcA
    isplitl [Ar]; · iexact Ar
    isplitl [As]; · iexact As
    isplitl [HcL L0]
    · iapply (Entails.of_eq (last_take (F := F) d).symm)
      isplitl [HcL]; · iexact HcL
      iexact L0
    iapply (Entails.of_eq (tiles_take m d).symm)
    isplitr [Aos]
    · isplitl [Hf]; · iexact Hf
      isplitl [Ho]; · iexact Ho
      iexact HtO
    iexact Aos
  iintro ⟨HO, HTab, Ar, As, HL, Ht⟩
  ihave HL := (Entails.of_eq (last_give m d)) $$ HL
  icases HL with ⟨S0, C0⟩
  ihave Ht := (Entails.of_eq (tiles_give m d)) $$ Ht
  icases Ht with ⟨Aos, Hout⟩
  ihave Ar := (Entails.of_eq (posR_fin (F := F) d)) $$ Ar
  have hr0 : Pos0 (F := F) d (some (.axr d)) ⊢ Pos1 (F := F) d (some (.axr d)) := by
    unfold Pos0 Pos1; simp only [finR, if_true]; exact BI.Entails.refl _
  iapply Hk
  isplitl [HO]; · iexact HO
  isplitl [HW]; · iexact HW
  isplitl [HX]; · iexact HX
  isplitl [C0 C1 HB HP HTab Hout]
  · isplitl [C0 C1]
    · isplitl [C0]; · iexact C0
      iexact C1
    isplitl [HB]; · iexact HB
    isplitl [HP]; · iexact HP
    isplitl [HTab]; · iexact HTab
    iexact Hout
  isplitl [A0]; · iapply (show atPos ER (kcell d none) 1 ∅ 0 ⊢ Pos1 (F := F) d none from BI.Entails.refl _) $$ A0
  isplitl [S0 S1]
  · isplitl [S0]; · iexact S0
    iexact S1
  isplitl [R0 R1]
  · isplitl [R0]; · iexact R0
    iexact R1
  isplitl [D0 D1]
  · isplitl [D0]; · iexact D0
    iexact D1
  isplitl [Axs]; · iexact Axs
  isplitl [Aos]; · iexact Aos
  isplitl [As0 As]
  · isplitl [As0]; · iapply (show Pos0 (F := F) d (some (.axs 0)) ⊢ Pos1 (F := F) d (some (.axs 0)) from BI.Entails.refl _) $$ As0
    iexact As
  isplitl [Ar0]; · iapply hr0 $$ Ar0
  iexact Ar

theorem wp_dev {Φ : PUnit → sProp 𝕄} (d : Dev nD) (k : Dev nD → Prog (TpuEff nD τ sig (Elt F) Λ₀ .tc) PUnit) :
    WP d (.op .deviceId k) Φ = WP d (k d) Φ := wp_deviceId (defs := defs₀ (F := F)) 𝒱₀ (d : Thread nD τ) none Set.univ
theorem wp_prog {Φ : PUnit → sProp 𝕄} (d : Dev nD) :
    iprop(Env m K ∗ Init m d) ⊢ iprop((Done m d -∗ Φ ⟨⟩) -∗ WP d prog Φ) := by
  have h := wp_progD (Φ := Φ) m K d
  unfold prog
  rw [wp_dev]
  exact h

end Cert.RingProof

end
-- ==== Proof.Toks.lean ====
/-
The duty tokens and the credits: as they come at launch, and as the devices spend them.
-/
module

public import proofs.«01_k».proof.Proof.Body

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
/-! ## Tokens as minted, and as dealt out -/

/-- The duty tokens of a cell that are used. -/
def T5 (d : Dev nD) (k : Key) : sProp 𝕄 :=
  iprop(dutyTok ER (kcell d k) 0 0 ∗ dutyTok ER (kcell d k) 1 0 ∗ dutyTok ER (kcell d k) 2 0 ∗ dutyTok ER (kcell d k) 3 0 ∗ dutyTok ER (kcell d k) 0 1)
def rcvT (e : Dev nD) (s : ℕ) (h : Fin 2) (c : Fin 4) : sProp 𝕄 := dutyTok ER (kcell e (some (.rcv (sl (s + 1)) h c))) (s / 2) 0
def crdT (e : Dev nD) (s : ℕ) (h : Fin 2) (c : Fin 4) : sProp 𝕄 := dutyTok ER (kcell e (some (.crd (sl (s + 1)) h c))) ((s - 1) / 2) 0
def barT (e : Dev nD) (j : Fin 2) : sProp 𝕄 := dutyTok ER (kcell e none) 0 j
def axrT (e f : Dev nD) : sProp 𝕄 := dutyTok ER (kcell e (some (.axr f))) 0 0
def axsT (d : Dev nD) (o : Fin 7) : sProp 𝕄 := dutyTok ER (kcell d (some (.axs o.succ))) 0 0

abbrev S7 (P : ℕ → sProp 𝕄) : sProp 𝕄 := iprop(P 0 ∗ P 1 ∗ P 2 ∗ P 3 ∗ P 4 ∗ P 5 ∗ P 6)
abbrev S6 (P : ℕ → sProp 𝕄) : sProp 𝕄 := iprop(P 1 ∗ P 2 ∗ P 3 ∗ P 4 ∗ P 5 ∗ P 6)

/-- The tokens of a device's own cells it keeps, -/
def Stay (d : Dev nD) : sProp 𝕄 := iprop(S7 (fun s => Ch8 (tkS (F := F) d s)) ∗ TX (F := F) d ∗ C4 (tkO (F := F) d) ∗ C7 (axsT (F := F) d))
/-- those other devices spend, -/
def Move (e : Dev nD) : sProp 𝕄 :=
  iprop(S7 (fun s => Ch8 (rcvT (F := F) e s)) ∗ S6 (fun s => Ch8 (crdT (F := F) e s)) ∗ (barT (F := F) e 0 ∗ barT (F := F) e 1) ∗ bigSep Finset.univ (axrT (F := F) e))
/-- and those it spends on other devices' cells. -/
def Moved (d : Dev nD) : sProp 𝕄 :=
  iprop(S7 (fun s => Ch8 (tkR (F := F) d s)) ∗ S6 (fun s => Ch8 (tkC (F := F) d s)) ∗ (tkB (F := F) d 0 ∗ tkB (F := F) d 1) ∗ bigSep Finset.univ (fun e => axrT (F := F) e d))

omit [FloatOps F] in
theorem t5_ch8 (d : Dev nD) (k : Fin 2 → Fin 4 → Key) : Ch8 (fun h c => T5 (F := F) d (k h c))
    = iprop(Ch8 (fun h c => dutyTok ER (kcell d (k h c)) 0 0) ∗ Ch8 (fun h c => dutyTok ER (kcell d (k h c)) 1 0) ∗ Ch8 (fun h c => dutyTok ER (kcell d (k h c)) 2 0)
      ∗ Ch8 (fun h c => dutyTok ER (kcell d (k h c)) 3 0) ∗ Ch8 (fun h c => dutyTok ER (kcell d (k h c)) 0 1)) := by
  rw [← ch8_sep', ← ch8_sep', ← ch8_sep', ← ch8_sep']; rfl
omit [FloatOps F] in
theorem t5_zero (d : Dev nD) (k : Key) : T5 (F := F) d k ⊢ dutyTok ER (kcell d k) 0 0 := by
  unfold T5; iintro ⟨H, -⟩; iexact H
omit [FloatOps F] in
theorem c4_mono {A B : Fin 4 → sProp 𝕄} (h : ∀ t, A t ⊢ B t) : C4 A ⊢ C4 B := by
  rw [c4_big, c4_big]; exact bigSep_mono fun t _ => h t
omit [FloatOps F] in
theorem c7_mono {A B : Fin 7 → sProp 𝕄} (h : ∀ t, A t ⊢ B t) : C7 A ⊢ C7 B := by
  rw [c7_big, c7_big]; exact bigSep_mono fun t _ => h t

omit [FloatOps F] in
theorem snd_toks (d : Dev nD) : iprop(Ch8 (fun h c => T5 (F := F) d (some (.snd 0 h c))) ∗ Ch8 (fun h c => T5 (F := F) d (some (.snd 1 h c))))
    ⊢ S7 (fun s => Ch8 (tkS (F := F) d s)) := by
  rw [t5_ch8, t5_ch8]
  show iprop((Ch8 (tkS (F := F) d 0) ∗ Ch8 (tkS (F := F) d 2) ∗ Ch8 (tkS (F := F) d 4) ∗ Ch8 (tkS (F := F) d 6) ∗ _)
    ∗ (Ch8 (tkS (F := F) d 1) ∗ Ch8 (tkS (F := F) d 3) ∗ Ch8 (tkS (F := F) d 5) ∗ _ ∗ _)) ⊢ _
  iintro ⟨⟨H0, H2, H4, H6, -⟩, ⟨H1, H3, H5, -, -⟩⟩
  isplitl [H0]; · iexact H0
  isplitl [H1]; · iexact H1
  isplitl [H2]; · iexact H2
  isplitl [H3]; · iexact H3
  isplitl [H4]; · iexact H4
  isplitl [H5]; · iexact H5
  iexact H6
omit [FloatOps F] in
theorem rcv_toks (d : Dev nD) : iprop(Ch8 (fun h c => T5 (F := F) d (some (.rcv 0 h c))) ∗ Ch8 (fun h c => T5 (F := F) d (some (.rcv 1 h c))))
    ⊢ S7 (fun s => Ch8 (rcvT (F := F) d s)) := by
  rw [t5_ch8, t5_ch8]
  show iprop((Ch8 (rcvT (F := F) d 1) ∗ Ch8 (rcvT (F := F) d 3) ∗ Ch8 (rcvT (F := F) d 5) ∗ _ ∗ _)
    ∗ (Ch8 (rcvT (F := F) d 0) ∗ Ch8 (rcvT (F := F) d 2) ∗ Ch8 (rcvT (F := F) d 4) ∗ Ch8 (rcvT (F := F) d 6) ∗ _)) ⊢ _
  iintro ⟨⟨H1, H3, H5, -, -⟩, ⟨H0, H2, H4, H6, -⟩⟩
  isplitl [H0]; · iexact H0
  isplitl [H1]; · iexact H1
  isplitl [H2]; · iexact H2
  isplitl [H3]; · iexact H3
  isplitl [H4]; · iexact H4
  isplitl [H5]; · iexact H5
  iexact H6
omit [FloatOps F] in
theorem crd_toks (d : Dev nD) : iprop(Ch8 (fun h c => T5 (F := F) d (some (.crd 0 h c))) ∗ Ch8 (fun h c => T5 (F := F) d (some (.crd 1 h c))))
    ⊢ S6 (fun s => Ch8 (crdT (F := F) d s)) := by
  rw [t5_ch8, t5_ch8]
  show iprop((Ch8 (crdT (F := F) d 1) ∗ Ch8 (crdT (F := F) d 3) ∗ Ch8 (crdT (F := F) d 5) ∗ _ ∗ _)
    ∗ (Ch8 (crdT (F := F) d 2) ∗ Ch8 (crdT (F := F) d 4) ∗ Ch8 (crdT (F := F) d 6) ∗ _ ∗ _)) ⊢ _
  iintro ⟨⟨H1, H3, H5, -, -⟩, ⟨H2, H4, H6, -, -⟩⟩
  isplitl [H1]; · iexact H1
  isplitl [H2]; · iexact H2
  isplitl [H3]; · iexact H3
  isplitl [H4]; · iexact H4
  isplitl [H5]; · iexact H5
  iexact H6
omit [FloatOps F] in
theorem xs_toks (d : Dev nD) :
    iprop((T5 (F := F) d (some (.xs 0 0)) ∗ T5 (F := F) d (some (.xs 0 1))) ∗ (T5 (F := F) d (some (.xs 1 0)) ∗ T5 (F := F) d (some (.xs 1 1)))) ⊢ TX (F := F) d := by
  show iprop(((tkX (F := F) d 0 0 ∗ tkX (F := F) d 2 0 ∗ tkX (F := F) d 4 0 ∗ tkX (F := F) d 6 0 ∗ _) ∗ (tkX (F := F) d 0 1 ∗ tkX (F := F) d 2 1 ∗ tkX (F := F) d 4 1 ∗ tkX (F := F) d 6 1 ∗ _))
    ∗ ((tkX (F := F) d 1 0 ∗ tkX (F := F) d 3 0 ∗ tkX (F := F) d 5 0 ∗ tkX (F := F) d 7 0 ∗ _) ∗ (tkX (F := F) d 1 1 ∗ tkX (F := F) d 3 1 ∗ tkX (F := F) d 5 1 ∗ tkX (F := F) d 7 1 ∗ _)))
    ⊢ iprop(((tkX (F := F) d 0 0 ∗ tkX (F := F) d 0 1) ∗ (tkX (F := F) d 1 0 ∗ tkX (F := F) d 1 1) ∗ (tkX (F := F) d 2 0 ∗ tkX (F := F) d 2 1) ∗ (tkX (F := F) d 3 0 ∗ tkX (F := F) d 3 1)
      ∗ (tkX (F := F) d 4 0 ∗ tkX (F := F) d 4 1) ∗ (tkX (F := F) d 5 0 ∗ tkX (F := F) d 5 1) ∗ (tkX (F := F) d 6 0 ∗ tkX (F := F) d 6 1)) ∗ tkX (F := F) d 7 0)
  iintro ⟨⟨⟨A0, A2, A4, A6, -⟩, ⟨B0, B2, B4, B6, -⟩⟩, ⟨⟨A1, A3, A5, A7, -⟩, ⟨B1, B3, B5, -, -⟩⟩⟩
  isplitr [A7]
  · isplitl [A0 B0]
    · isplitl [A0]; · iexact A0
      iexact B0
    isplitl [A1 B1]
    · isplitl [A1]; · iexact A1
      iexact B1
    isplitl [A2 B2]
    · isplitl [A2]; · iexact A2
      iexact B2
    isplitl [A3 B3]
    · isplitl [A3]; · iexact A3
      iexact B3
    isplitl [A4 B4]
    · isplitl [A4]; · iexact A4
      iexact B4
    isplitl [A5 B5]
    · isplitl [A5]; · iexact A5
      iexact B5
    isplitl [A6]; · iexact A6
    iexact B6
  iexact A7
omit [FloatOps F] in
theorem bar_toks (d : Dev nD) : T5 (F := F) d none ⊢ iprop(barT (F := F) d 0 ∗ barT (F := F) d 1) := by
  show iprop(barT (F := F) d 0 ∗ _ ∗ _ ∗ _ ∗ barT (F := F) d 1) ⊢ _
  iintro ⟨H0, -, -, -, H1⟩
  isplitl [H0]; · iexact H0
  iexact H1

omit [FloatOps F] in
theorem toks_sort (d : Dev nD) : KS d (T5 (F := F) d) ⊢ iprop(Stay (F := F) d ∗ Move (F := F) d) := by
  unfold KS Stay Move
  have ho : C4 (fun t => T5 (F := F) d (some (.os t))) ⊢ C4 (tkO (F := F) d) := c4_mono fun t => t5_zero d _
  have hs : C7 (fun o : Fin 7 => T5 (F := F) d (some (.axs o.succ))) ⊢ C7 (axsT (F := F) d) := c7_mono fun t => t5_zero d _
  have hr : iprop(T5 (F := F) d (some (.axr d)) ∗ C7 (fun r => T5 (F := F) d (some (.axr (bk d (r.val + 1)))))) ⊢ bigSep Finset.univ (axrT (F := F) d) := by
    rw [← rows_bk d (fun e => T5 (F := F) d (some (.axr e)))]
    exact bigSep_mono fun e _ => t5_zero d _
  iintro ⟨A0, HS, HR, HD, Hx, Ho, ⟨-, Hs⟩, Hr⟩
  isplitl [HS Hx Ho Hs]
  · isplitl [HS]; · iapply (snd_toks d) $$ HS
    isplitl [Hx]; · iapply (xs_toks d) $$ Hx
    isplitl [Ho]; · iapply ho $$ Ho
    iapply hs $$ Hs
  isplitl [HR]; · iapply (rcv_toks d) $$ HR
  isplitl [HD]; · iapply (crd_toks d) $$ HD
  isplitl [A0]; · iapply (bar_toks d) $$ A0
  iapply hr $$ Hr

/-! ## Dealing -/

def dnEquiv (h : Fin 2) : Dev nD ≃ Dev nD := ⟨dn h, up h, up_dn h, dn_up h⟩

omit [FloatOps F] in
theorem around_dn (A : Dev nD → Fin 2 → Fin 4 → sProp 𝕄) :
    (bigSep Finset.univ fun d => Ch8 (A d)) = bigSep Finset.univ fun d => Ch8 (fun h c => A (dn h d) h c) := by
  unfold Ch8
  simp only [bigSep_sep']
  have e : ∀ h c, (bigSep Finset.univ fun d => A d h c) = bigSep Finset.univ fun d => A (dn h d) h c := fun h c => bigSep_univ_equiv (dnEquiv h) (fun d => A d h c)
  simp only [e]
omit [FloatOps F] in
theorem around_up (A : Dev nD → Fin 2 → Fin 4 → sProp 𝕄) :
    (bigSep Finset.univ fun d => Ch8 (A d)) = bigSep Finset.univ fun d => Ch8 (fun h c => A (up h d) h c) := by
  unfold Ch8
  simp only [bigSep_sep']
  have e : ∀ h c, (bigSep Finset.univ fun d => A d h c) = bigSep Finset.univ fun d => A (up h d) h c := fun h c => bigSep_univ_equiv (dnEquiv h).symm (fun d => A d h c)
  simp only [e]
omit [FloatOps F] in
theorem deal_rcv (s : ℕ) : (bigSep Finset.univ fun d => Ch8 (rcvT (F := F) d s)) = bigSep Finset.univ fun d => Ch8 (tkR (F := F) d s) := around_dn fun d => rcvT (F := F) d s
omit [FloatOps F] in
theorem deal_crd (s : ℕ) : (bigSep Finset.univ fun d => Ch8 (crdT (F := F) d s)) = bigSep Finset.univ fun d => Ch8 (tkC (F := F) d s) := around_up fun d => crdT (F := F) d s
omit [FloatOps F] in
theorem deal_bar (j : Fin 2) : (bigSep Finset.univ fun d => barT (F := F) d j) = bigSep Finset.univ fun d => tkB (F := F) d j :=
  bigSep_univ_equiv (dnEquiv j).symm (fun d => barT (F := F) d j)
omit [FloatOps F] in
theorem deal_axr : (bigSep Finset.univ fun e : Dev nD => bigSep Finset.univ fun f : Dev nD => axrT (F := F) e f)
    = bigSep Finset.univ fun d : Dev nD => bigSep Finset.univ fun e : Dev nD => axrT (F := F) e d := by
  rw [← bigSep_univ_prod (fun x : Dev nD × Dev nD => axrT (F := F) x.1 x.2), bigSep_univ_equiv (Equiv.prodComm (Dev nD) (Dev nD)), bigSep_univ_prod]
  rfl
omit [FloatOps F] in
theorem deal : bigSep Finset.univ (Move (F := F)) = bigSep Finset.univ (Moved (F := F)) := by
  show (bigSep Finset.univ fun e => Move (F := F) e) = bigSep Finset.univ fun d => Moved (F := F) d
  unfold Move Moved S7 S6
  simp only [bigSep_sep', deal_rcv, deal_crd, deal_bar, deal_axr]

/-! ## A device's tokens put together -/

/-- The credits it starts with. -/
def Creds (d : Dev nD) : sProp 𝕄 :=
  iprop(S7 (fun s => Ch8 (crR (F := F) d s)) ∗ S6 (fun s => Ch8 (crC (F := F) d s)) ∗ C7 (crA (F := F) d) ∗ cred (tallyAt (kcell d none) 1 2))

theorem far_bij (d : Dev nD) : Function.Bijective (fun j : Fin 8 => (far j d : Fin 8)) := by revert d; decide +kernel
omit [FloatOps F] in
theorem far_all (d : Dev nD) (A : Fin 8 → sProp 𝕄) : bigSep Finset.univ A = iprop(A (far 0 d) ∗ C7 (fun o => A (far o.succ d))) := by
  rw [bigSep_univ_equiv (Equiv.ofBijective _ (far_bij d)) A, bigSep_univ_eq_bigSepL [0, 1, 2, 3, 4, 5, 6, 7] (by decide) (by decide)]
  rfl

omit [FloatOps F] in
theorem stage_toks (d : Dev nD) (n : ℕ) :
    iprop(Ch8 (crR (F := F) d n) ∗ Ch8 (crC (F := F) d (n + 1)) ∗ Ch8 (tkC (F := F) d (n + 1)) ∗ Ch8 (tkS (F := F) d (n + 1)) ∗ Ch8 (tkR (F := F) d (n + 1)))
      ⊢ Ch8 (StTok (F := F) d n) := by
  rw [← ch8_sep', ← ch8_sep', ← ch8_sep', ← ch8_sep']; exact BI.Entails.refl _

omit [FloatOps F] in
theorem tok0_intro (d : Dev nD) : iprop(Stay (F := F) d ∗ Moved (F := F) d ∗ Creds (F := F) d) ⊢ Tok0 (F := F) d := by
  have ha : iprop(C7 (axsT (F := F) d) ∗ bigSep Finset.univ (fun e => axrT (F := F) e d)) ⊢ C7 (tkA (F := F) d) := by
    rw [far_all d, show C7 (tkA (F := F) d) = iprop(C7 (axsT (F := F) d) ∗ C7 (fun o => axrT (F := F) (far o.succ d) d)) from c7_sep _ _]
    iintro ⟨H, -, H'⟩
    isplitl [H]; · iexact H
    iexact H'
  unfold Stay Moved Creds Tok0 S7 S6
  iintro ⟨⟨⟨S0, S1, S2, S3, S4, S5, S6⟩, HX, HO, Hs⟩, ⟨⟨R0, R1, R2, R3, R4, R5, R6⟩, ⟨C1, C2, C3, C4, C5, C6⟩, HB, Hr⟩,
    ⟨⟨r0, r1, r2, r3, r4, r5, r6⟩, ⟨c1, c2, c3, c4, c5, c6⟩, HA, Hb⟩⟩
  isplitl [HB]; · iexact HB
  isplitl [S0 R0]
  · isplitl [S0]; · iexact S0
    iexact R0
  isplitl [HX]; · iexact HX
  isplitl [S1 S2 S3 S4 S5 S6 R1 R2 R3 R4 R5 R6 C1 C2 C3 C4 C5 C6 r0 r1 r2 r3 r4 r5 c1 c2 c3 c4 c5 c6]
  · iapply (show iprop(Ch8 (StTok (F := F) d 0) ∗ Ch8 (StTok (F := F) d 1) ∗ Ch8 (StTok (F := F) d 2) ∗ Ch8 (StTok (F := F) d 3) ∗ Ch8 (StTok (F := F) d 4) ∗ Ch8 (StTok (F := F) d 5))
      ⊢ C6 (fun n => Ch8 (StTok (F := F) d n.val)) from BI.Entails.refl _)
    isplitl [r0 c1 C1 S1 R1]
    · iapply (stage_toks d 0)
      isplitl [r0]; · iexact r0
      isplitl [c1]; · iexact c1
      isplitl [C1]; · iexact C1
      isplitl [S1]; · iexact S1
      iexact R1
    isplitl [r1 c2 C2 S2 R2]
    · iapply (stage_toks d 1)
      isplitl [r1]; · iexact r1
      isplitl [c2]; · iexact c2
      isplitl [C2]; · iexact C2
      isplitl [S2]; · iexact S2
      iexact R2
    isplitl [r2 c3 C3 S3 R3]
    · iapply (stage_toks d 2)
      isplitl [r2]; · iexact r2
      isplitl [c3]; · iexact c3
      isplitl [C3]; · iexact C3
      isplitl [S3]; · iexact S3
      iexact R3
    isplitl [r3 c4 C4 S4 R4]
    · iapply (stage_toks d 3)
      isplitl [r3]; · iexact r3
      isplitl [c4]; · iexact c4
      isplitl [C4]; · iexact C4
      isplitl [S4]; · iexact S4
      iexact R4
    isplitl [r4 c5 C5 S5 R5]
    · iapply (stage_toks d 4)
      isplitl [r4]; · iexact r4
      isplitl [c5]; · iexact c5
      isplitl [C5]; · iexact C5
      isplitl [S5]; · iexact S5
      iexact R5
    iapply (stage_toks d 5)
    isplitl [r5]; · iexact r5
    isplitl [c6]; · iexact c6
    isplitl [C6]; · iexact C6
    isplitl [S6]; · iexact S6
    iexact R6
  isplitl [r6]; · iexact r6
  isplitl [HO]; · iexact HO
  isplitl [Hs Hr]
  · iapply ha
    isplitl [Hs]; · iexact Hs
    iexact Hr
  isplitl [HA]; · iexact HA
  iexact Hb

/-! ## The credits -/

omit [FloatOps F] in
theorem cred_rcv (s : ℕ) (h : Fin 2) (c : Fin 4) (d : Dev nD) : (Pipeline.launchCred (fun d => dueR d s h c) d : sProp 𝕄) ⊢ crR (F := F) d s h c :=
  Pipeline.launchCred_tallyAt (semOf (some (.rcv (sl (s + 1)) h c))) (dn h) (up h) (dn_up h) (up_dn h) _ _ d
omit [FloatOps F] in
theorem cred_crd (s : ℕ) (h : Fin 2) (c : Fin 4) (d : Dev nD) :
    (Pipeline.launchCred (fun d => tallyAt (kcell (up h d) (some (.crd (sl (s + 1)) h c))) (2 * num s h c + 2) 1) d : sProp 𝕄) ⊢ crC (F := F) d s h c :=
  Pipeline.launchCred_tallyAt (semOf (some (.crd (sl (s + 1)) h c))) (up h) (dn h) (up_dn h) (dn_up h) _ _ d
omit [FloatOps F] in
theorem cred_bar (j : Fin 2) (d : Dev nD) : (Pipeline.launchCred (fun d => dueB d j) d : sProp 𝕄) ⊢ cred (tallyAt (kcell d none) 1 1) :=
  Pipeline.launchCred_tallyAt (semOf none) (up j) (dn j) (up_dn j) (dn_up j) _ _ d

theorem bk_far (d : Dev nD) (o : Fin 7) : bk (far o.succ d) (o.val + 1) = d := by revert d o; decide +kernel
theorem far_bk' (d : Dev nD) (o : Fin 7) : far o.succ (bk d (o.val + 1)) = d := by revert d o; decide +kernel
def bkEquiv (o : Fin 7) : Dev nD ≃ Dev nD := ⟨fun d => bk d (o.val + 1), far o.succ, fun d => far_bk' d o, fun d => bk_far d o⟩

omit [FloatOps F] in
theorem cred_axr (o : Fin 7) (d : Dev nD) : (Pipeline.launchCred (fun d => dueA d o) d : sProp 𝕄) ⊢ crA (F := F) d o := by
  refine Entails.of_eq (Pipeline.launchCred_of_sum (fun d => dueA d o) (fun d => tallyAt (kcell d (some (.axr (bk d (o.val + 1))))) 1000 NA) ?_ ?_ d)
  · refine Fintype.sum_equiv (bkEquiv o).symm _ _ fun e => ?_
    show tallyAt (kcell (far o.succ e) (some (.axr e))) 1000 NA = tallyAt (kcell (far o.succ e) (some (.axr (bk (far o.succ e) (o.val + 1))))) 1000 NA
    rw [bk_far]
  · intro e g hg
    by_contra hne
    exact hg (tallyAt_ne_cell (fun h => hne (congrArg Prod.fst h)) _ _)

/-- What comes for one stage. -/
def crN (d : Dev nD) (n : ℕ) : sProp 𝕄 :=
  iprop(crR (F := F) d (n / 8) (hOf n) (cOf n) ∗ (if n / 8 = 0 then iprop(emp) else crC (F := F) d (n / 8) (hOf n) (cOf n)))
omit [FloatOps F] in
theorem cred_stage (n : ℕ) (d : Dev nD) : (Pipeline.launchCred (fun d => dueN d n) d : sProp 𝕄) ⊢ crN (F := F) d n := by
  unfold dueN crN
  rw [Pipeline.launchCred_add]
  have h2 : (Pipeline.launchCred (fun d => dueC d (n / 8) (hOf n) (cOf n)) d : sProp 𝕄) ⊢ (if n / 8 = 0 then iprop(emp) else crC (F := F) d (n / 8) (hOf n) (cOf n)) := by
    unfold dueC
    by_cases h0 : n / 8 = 0
    · simp only [if_pos h0]; exact Entails.of_eq (Pipeline.launchCred_zero d)
    · simp only [if_neg h0]; exact cred_crd _ _ _ d
  exact BIClass.sep_mono (cred_rcv _ _ _ d) h2

theorem num_inj : Function.Injective (fun t : Fin 7 × Fin 2 × Fin 4 => num t.1.val t.2.1 t.2.2) := by decide +kernel
omit [FloatOps F] in
theorem stages_all (A : ℕ → sProp 𝕄) : bigSep (Finset.Ico 0 56) A = S7 (fun s => Ch8 (fun h c => A (num s h c))) := by
  calc bigSep (Finset.Ico 0 56) A = bigSep Finset.univ (fun t : Fin 7 × Fin 2 × Fin 4 => A (num t.1.val t.2.1 t.2.2)) := by
        rw [show Finset.Ico 0 56 = Finset.univ.map ⟨_, num_inj⟩ from by decide +kernel, bigSep_map]; rfl
    _ = bigSep Finset.univ (fun s : Fin 7 => bigSep Finset.univ fun t : Fin 2 × Fin 4 => A (num s.val t.1 t.2)) :=
        bigSep_univ_prod (fun t : Fin 7 × Fin 2 × Fin 4 => A (num t.1.val t.2.1 t.2.2))
    _ = C7 (fun s => Ch8 (fun h c => A (num s.val h c))) := by
        rw [c7_big]
        exact congrArg (bigSep Finset.univ) (funext fun s => (ch8_big (fun h c => A (num s.val h c))).symm)
    _ = _ := rfl

omit [FloatOps F] in
theorem crN_one (d : Dev nD) (s : ℕ) (h : Fin 2) (c : Fin 4) : crN (F := F) d (num s h c)
    = iprop(crR (F := F) d s h c ∗ (if s = 0 then iprop(emp) else crC (F := F) d s h c)) := by
  unfold crN
  rw [hOf_num, cOf_num, num_div]
omit [FloatOps F] in
theorem crN_num (d : Dev nD) (s : ℕ) : Ch8 (fun h c => crN (F := F) d (num s h c))
    = iprop(Ch8 (crR (F := F) d s) ∗ Ch8 (fun h c => if s = 0 then iprop(emp) else crC (F := F) d s h c)) := by
  rw [← ch8_sep', show (fun h c => crN (F := F) d (num s h c)) = fun h c => iprop(crR (F := F) d s h c ∗ (if s = 0 then iprop(emp) else crC (F := F) d s h c))
    from funext fun h => funext fun c => crN_one d s h c]

omit [FloatOps F] in
theorem creds (d : Dev nD) : (Pipeline.launchCred O₀ d : sProp 𝕄) ⊢ Creds (F := F) d := by
  have hN : (Pipeline.launchCred (fun d => ∑ i ∈ Finset.Ico 0 56, dueN d i) d : sProp 𝕄)
      ⊢ iprop(S7 (fun s => Ch8 (crR (F := F) d s)) ∗ S6 (fun s => Ch8 (crC (F := F) d s))) := by
    rw [Pipeline.launchCred_sum (Finset.Ico 0 56) (fun i d => dueN d i)]
    refine (bigSep_mono fun i _ => cred_stage i d).trans ?_
    rw [stages_all]
    unfold S7 S6
    simp only [crN_num]
    show iprop((Ch8 (crR (F := F) d 0) ∗ _) ∗ (Ch8 (crR (F := F) d 1) ∗ Ch8 (crC (F := F) d 1)) ∗ (Ch8 (crR (F := F) d 2) ∗ Ch8 (crC (F := F) d 2))
      ∗ (Ch8 (crR (F := F) d 3) ∗ Ch8 (crC (F := F) d 3)) ∗ (Ch8 (crR (F := F) d 4) ∗ Ch8 (crC (F := F) d 4)) ∗ (Ch8 (crR (F := F) d 5) ∗ Ch8 (crC (F := F) d 5))
      ∗ (Ch8 (crR (F := F) d 6) ∗ Ch8 (crC (F := F) d 6))) ⊢ _
    iintro ⟨⟨r0, -⟩, ⟨r1, c1⟩, ⟨r2, c2⟩, ⟨r3, c3⟩, ⟨r4, c4⟩, ⟨r5, c5⟩, ⟨r6, c6⟩⟩
    isplitl [r0 r1 r2 r3 r4 r5 r6]
    · isplitl [r0]; · iexact r0
      isplitl [r1]; · iexact r1
      isplitl [r2]; · iexact r2
      isplitl [r3]; · iexact r3
      isplitl [r4]; · iexact r4
      isplitl [r5]; · iexact r5
      iexact r6
    isplitl [c1]; · iexact c1
    isplitl [c2]; · iexact c2
    isplitl [c3]; · iexact c3
    isplitl [c4]; · iexact c4
    isplitl [c5]; · iexact c5
    iexact c6
  have hA : (Pipeline.launchCred (fun d => owedA d 0) d : sProp 𝕄) ⊢ C7 (crA (F := F) d) := by
    unfold owedA
    rw [Pipeline.launchCred_sum _ (fun o d => dueA d o), show (Finset.univ.filter fun o : Fin 7 => 0 ≤ o.val) = Finset.univ from by decide, c7_big]
    exact bigSep_mono fun o _ => cred_axr o d
  have hB : iprop(cred (tallyAt (kcell d none) 1 1) ∗ cred (tallyAt (kcell d none) 1 1)) ⊢ (cred (tallyAt (kcell d none) 1 2) : sProp 𝕄) := by
    refine (cred_add _ _).2.trans (Entails.of_eq (congrArg cred ?_))
    rw [tallyAt_add]
  have e : (Pipeline.launchCred O₀ d : sProp 𝕄)
      = iprop(((Pipeline.launchCred (fun d => ∑ i ∈ Finset.Ico 0 56, dueN d i) d ∗ Pipeline.launchCred (fun d => owedA d 0) d) ∗ Pipeline.launchCred (fun d => dueB d 1) d)
        ∗ Pipeline.launchCred (fun d => dueB d 0) d) := by
    rw [← Pipeline.launchCred_add, ← Pipeline.launchCred_add, ← Pipeline.launchCred_add]
    rfl
  rw [e]
  unfold Creds
  iintro ⟨⟨⟨HN, HA⟩, H1⟩, H0⟩
  ihave HN := hN $$ HN
  icases HN with ⟨HR, HC⟩
  isplitl [HR]; · iexact HR
  isplitl [HC]; · iexact HC
  isplitl [HA]; · iapply hA $$ HA
  iapply hB
  isplitl [H1]; · iapply (cred_bar 1 d) $$ H1
  iapply (cred_bar 0 d) $$ H0

end Cert.RingProof

end
-- ==== Proof.Mem.lean ====
/-
A device's buffers cut up at the start and put back at the end, and its cells closed.
-/
module

public import proofs.«01_k».proof.Proof.Toks

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
variable (K : Dev nD × Key → ℕ)

/-! ## A device's buffers, cut up and put back -/

/-- The kernel's own buffers at some contents. -/
def Scr (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f)
    ∗ (∃ f : Buf (Elt F) ((d : Thread nD τ).loc cc0_scratch2), ((d : Thread nD τ).loc cc0_scratch2) ↦{fullShare} f)
    ∗ (∃ f : Buf (Elt F) ((d : Thread nD τ).loc cc0_scratch3), ((d : Thread nD τ).loc cc0_scratch3) ↦{fullShare} f)
    ∗ (∃ f : Buf (Elt F) ((d : Thread nD τ).loc cc0_scratch4), ((d : Thread nD τ).loc cc0_scratch4) ↦{fullShare} f))
/-- The result array at contents that hold the tiles. -/
def Res (d : Dev nD) : sProp 𝕄 :=
  iprop(∃ f : Buf (Elt F) ((d : Thread nD τ).loc main_v1), ⌜∀ t, (oV t).view.read (Elt F) f = outT m d t⌝ ∗ ((d : Thread nD τ).loc main_v1) ↦{fullShare} f)

omit [FloatOps F] in
theorem pair_big (A : Fin 2 → sProp 𝕄) : bigSep Finset.univ A = iprop(A 0 ∗ A 1) := by
  rw [bigSep_univ_eq_bigSepL [0, 1] (by decide) (by decide)]; rfl

theorem rowOf_bij (d : Dev nD) : Function.Bijective (fun j : Fin 8 => rowOf d j.val) := by revert d; decide +kernel
theorem rowOf_zero (d : Dev nD) : rowOf d 0 = d := by revert d; decide +kernel
omit [FloatOps F] in
theorem rows_own (d : Dev nD) : (bigSep Finset.univ fun e : Fin 8 => anyO m d (aA e)) = iprop(anyO m d (aA d) ∗ Rows m d 1) := by
  unfold Rows
  rw [bigSep_univ_equiv (Equiv.ofBijective _ (rowOf_bij d)) (fun e : Fin 8 => anyO m d (aA e)), bigSep_univ_eq_bigSepL [0, 1, 2, 3, 4, 5, 6, 7] (by decide) (by decide),
    bigSep_eq_bigSepL_of_eq [1, 2, 3, 4, 5, 6, 7] (by decide) (by decide)]
  have h : anyO m d (aA d) = anyO m d (aA (rowOf d 0)) := by rw [rowOf_zero]
  rw [h]
  rfl

omit [FloatOps F] in
theorem slots_eq (d : Dev nD) : (bigSep Finset.univ fun t : Fin 2 × Fin 2 × Fin 4 => anyO m d ((View.whole cc0_scratch0).slice (cR t.1 t.2.1 t.2.2)))
    = iprop(Ch8 (fun h c => anyO m d (cA 0 h c)) ∗ Ch8 (fun h c => anyO m d (cA 1 h c))) := big_phc fun p h c => anyO m d (cA p h c)
omit [FloatOps F] in
theorem blocks_eq (d : Dev nD) : (bigSep Finset.univ fun t : Fin 2 × Fin 2 => anyO m d ((View.whole cc0_scratch2).slice (bR t.1 t.2)))
    = iprop((anyO m d (bA 0 0) ∗ anyO m d (bA 0 1)) ∗ (anyO m d (bA 1 0) ∗ anyO m d (bA 1 1))) := big_ph fun p h => anyO m d (bA p h)
omit [FloatOps F] in
theorem halves_eq (d : Dev nD) : (bigSep Finset.univ fun t : Fin 2 => anyO m d ((View.whole cc0_scratch3).slice (pR t)))
    = iprop(anyO m d (pA 0) ∗ anyO m d (pA 1)) := pair_big fun h => anyO m d (pA h)
omit [FloatOps F] in
theorem chunks_eq (d : Dev nD) : (bigSep Finset.univ fun t : Fin 2 × Fin 4 => anyO m d ((View.whole cc0_scratch1).slice (wR t.1 t.2)))
    = Ch8 (fun h c => anyO m d (fA h c)) := (ch8_big fun h c => anyO m d (fA h c)).symm
omit [FloatOps F] in
theorem tiles_eq (d : Dev nD) : (bigSep Finset.univ fun t : Fin 4 => anyO m d ((View.whole main_v1).slice (tR t)))
    = C4 (fun t => anyO m d (oV t).view) := (c4_big fun t => anyO m d (oV t).view).symm

omit [FloatOps F] in
theorem table_any (d : Dev nD) : iprop(∃ f : Buf (Elt F) ((d : Thread nD τ).loc cc0_scratch4), ((d : Thread nD τ).loc cc0_scratch4) ↦{fullShare} f)
    ⊢ (bigSep Finset.univ fun e : Fin 8 => anyO m d (aA e)) := parts_any m d cc0_scratch4 (fun e : Fin 8 => aR ![e.val, 0, 0] (row_inb e)) aR_disj aR_cover

theorem mem_in (d : Dev nD) : iprop(Scr d ∗ ((d : Thread nD τ).loc main_v1) ↦{fullShare} m ((d : Thread nD τ).loc main_v1)) ⊢ Mem0 m d := by
  have hv : ((d : Thread nD τ).loc main_v1 ↦{fullShare} m ((d : Thread nD τ).loc main_v1))
      ⊢ (bigSep Finset.univ fun t : Fin 4 => anyO m d ((View.whole main_v1).slice (tR t))) :=
    BIBase.Entails.trans (by iintro H; iexists _; iexact H) (parts_any m d main_v1 tR tR_disj tR_cover)
  unfold Scr Mem0
  rw [← slots_eq, ← blocks_eq, ← halves_eq, ← chunks_eq, ← tiles_eq, ← rows_own]
  iintro ⟨⟨H0, H1, H2, H3, H4⟩, Hv⟩
  isplitl [H0]; · iapply (parts_any m d cc0_scratch0 (fun t : Fin 2 × Fin 2 × Fin 4 => cR t.1 t.2.1 t.2.2) cR_disj cR_cover) $$ H0
  isplitl [H2]; · iapply (parts_any m d cc0_scratch2 (fun t : Fin 2 × Fin 2 => bR t.1 t.2) bR_disj bR_cover) $$ H2
  isplitl [H3]; · iapply (parts_any m d cc0_scratch3 pR pR_disj pR_cover) $$ H3
  isplitl [H4]; · iapply (table_any m d) $$ H4
  isplitl [H1]; · iapply (parts_any m d cc0_scratch1 (fun t : Fin 2 × Fin 4 => wR t.1 t.2) wR_disj wR_cover) $$ H1
  iapply hv $$ Hv

theorem res_join (d : Dev nD) : C4 (osPay m d)
    ⊢ iprop(Res m d ∗ (∃ f : Buf (Elt F) ((d : Thread nD τ).loc cc0_scratch1), ((d : Thread nD τ).loc cc0_scratch1) ↦{fullShare} f)) := by
  have e : C4 (osPay m d) = iprop(C4 (fun t => vO m d (oV t).view fullShare (outT m d t)) ∗ C4 (fun t => vO m d (fV t).view fullShare (outT m d t))) := c4_sep _ _
  have ho : C4 (fun t => vO m d (oV t).view fullShare (outT m d t)) ⊢ Res m d := by
    rw [c4_big]; exact parts_join m d main_v1 tR tR_disj tR_cover (outT m d)
  have hf : C4 (fun t => vO m d (fV t).view fullShare (outT m d t))
      ⊢ iprop(∃ f : Buf (Elt F) ((d : Thread nD τ).loc cc0_scratch1), ((d : Thread nD τ).loc cc0_scratch1) ↦{fullShare} f) := by
    rw [c4_big]
    refine BIBase.Entails.trans (parts_join m d cc0_scratch1 tR tR_disj tR_cover (outT m d)) ?_
    iintro ⟨%f, -, H⟩
    iexists f; iexact H
  rw [e]
  iintro ⟨H, H'⟩
  isplitl [H]; · iapply ho $$ H
  iapply hf $$ H'

theorem mem_out [∀ e, Nonempty (Elt F e)] (d : Dev nD) : Mem1 m d ⊢ iprop(Scr (F := F) d ∗ Res m d) := by
  unfold Mem1 Scr Tab
  rw [← slots_eq, ← blocks_eq, ← halves_eq]
  iintro ⟨H0, H2, H3, H4, Ho⟩
  ihave Ho := (res_join m d) $$ Ho
  icases Ho with ⟨HR, H1⟩
  isplitr [HR]
  · isplitl [H0]; · iapply (parts_join_any m d cc0_scratch0 (fun t : Fin 2 × Fin 2 × Fin 4 => cR t.1 t.2.1 t.2.2) cR_disj cR_cover) $$ H0
    isplitl [H1]; · iexact H1
    isplitl [H2]; · iapply (parts_join_any m d cc0_scratch2 (fun t : Fin 2 × Fin 2 => bR t.1 t.2) bR_disj bR_cover) $$ H2
    isplitl [H3]; · iapply (parts_join_any m d cc0_scratch3 pR pR_disj pR_cover) $$ H3
    iexists _; iexact H4
  iexact HR

/-! ## The array `x`, in two halves -/

theorem arg_split (d : Dev nD) : (((d : Thread nD τ).loc main_arg0) ↦{fullShare} m ((d : Thread nD τ).loc main_arg0) : sProp 𝕄) ⊢ iprop(XA m d 0 ∗ XA m d 1) :=
  (pointsTo_share (PosShare.mem_left_op_right _)).1
theorem arg_join (d : Dev nD) : iprop(XA m d 0 ∗ XA m d 1) ⊢ (((d : Thread nD τ).loc main_arg0) ↦{fullShare} m ((d : Thread nD τ).loc main_arg0) : sProp 𝕄) :=
  (pointsTo_share (PosShare.mem_left_op_right _)).2

/-! ## Closing the cells -/

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (d : Dev nD) (k : Key) : iprop(Env m K ∗ Pos1 (F := F) d k) ⊢ |={Set.univ}=> (semVal (kcell d k) 0 : sProp 𝕄) := by
  unfold Pos1
  iintro ⟨#HE, Hp⟩
  iapply (Rounds.cell_close ER (Rd m) (κ := K (d, k)) (Set.mem_univ _) (fun h => h) (R := finR d k) (duties_fin m d k))
  isplitr; · iapply (env_inv m K d k); iexact HE
  iexact Hp
theorem close_all (d : Dev nD) : iprop(Env m K ∗ KS d (Pos1 (F := F) d)) ⊢ |={Set.univ}=> (bigSep Finset.univ fun k : Key => semVal (kcell d k) 0 : sProp 𝕄) := by
  rw [← keys_split]
  exact (with_persistent fun k _ => close_one m K d k).trans (bigSep_fupd _ _)

end Cert.RingProof

end
-- ==== Proof.Ghost.lean ====
/-
The ghost state at launch: cells, tokens and invariants, dealt out to the devices.
-/
module

public import proofs.«01_k».proof.Proof.Mem

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
/-! ## The cells and tokens minted at launch -/

def cellAt (x : Dev nD × Key) : GSem nD τ sig := kcell x.1 x.2
theorem cellAt_inj : Function.Injective cellAt := by
  rintro ⟨d, k⟩ ⟨d', k'⟩ h
  obtain ⟨h1, h2⟩ := kcell_inj (d := d) (d' := d') (k := k) (k' := k') h
  rw [h1, h2]
def ringCells : Finset (GSem nD τ sig) := Finset.univ.map ⟨cellAt, cellAt_inj⟩

/-- A token of a cell: its round and its duty. -/
def tokAt (x : (Dev nD × Key) × Fin 4 × Fin 2) : GSem nD τ sig × ℕ × Fin 2 := (cellAt x.1, x.2.1.val, x.2.2)
theorem tokAt_inj : Function.Injective tokAt := by
  rintro ⟨x, r, j⟩ ⟨x', r', j'⟩ h
  have h1 : x = x' := cellAt_inj (congrArg (fun y : GSem nD τ sig × ℕ × Fin 2 => y.1) h)
  have h2 : r = r' := Fin.ext (congrArg (fun y : GSem nD τ sig × ℕ × Fin 2 => y.2.1) h)
  have h3 : j = j' := congrArg (fun y : GSem nD τ sig × ℕ × Fin 2 => y.2.2) h
  rw [h1, h2, h3]
def ringToks : Finset (GSem nD τ sig × ℕ × Fin 2) := Finset.univ.map ⟨tokAt, tokAt_inj⟩

def u₀ : UU := (initOf (Pipeline.cells cfgs cellOf_inj) (Pipeline.launchToks cfgs cellOf_inj), initOf ringCells ringToks)

def G (d : Dev nD) : sProp 𝕄 :=
  iprop((bigSep Finset.univ fun k : Key => roundState ER (Rd m) (kcell d k) 0)
    ∗ (bigSep Finset.univ fun k : Key => iprop(atPos ER (kcell d k) 0 ∅ 0 ∗ reached ER (kcell d k) 0)) ∗ KS d (T5 (F := F) d))

omit [FloatOps F] in
theorem toks_key (d : Dev nD) (k : Key) : (bigSep Finset.univ fun y : Fin 4 × Fin 2 => (dutyTok ER (kcell d k) y.1.val y.2 : sProp 𝕄)) ⊢ T5 (F := F) d k := by
  rw [bigSep_univ_eq_bigSepL [(0, 0), (1, 0), (2, 0), (3, 0), (0, 1), (1, 1), (2, 1), (3, 1)] (by decide) (by decide)]
  show iprop(dutyTok ER (kcell d k) 0 0 ∗ dutyTok ER (kcell d k) 1 0 ∗ dutyTok ER (kcell d k) 2 0 ∗ dutyTok ER (kcell d k) 3 0 ∗ dutyTok ER (kcell d k) 0 1 ∗ _) ⊢ T5 (F := F) d k
  unfold T5
  iintro ⟨H0, H1, H2, H3, H4, -⟩
  isplitl [H0]; · iexact H0
  isplitl [H1]; · iexact H1
  isplitl [H2]; · iexact H2
  isplitl [H3]; · iexact H3
  iexact H4

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun d : Dev nD => bigSep Finset.univ fun k : Key => Φ (kcell d k) := by
    unfold ringCells; rw [bigSep_map, bigSep_univ_prod]; rfl
  have hT : bigSep ringToks (fun x => (dutyTok ER x.1 x.2.1 x.2.2 : sProp 𝕄)) ⊢ bigSep Finset.univ fun d : Dev nD => KS d (T5 (F := F) d) := by
    unfold ringToks; rw [bigSep_map, bigSep_univ_prod, bigSep_univ_prod]
    exact bigSep_mono fun d _ => (bigSep_mono fun k _ => toks_key d k).trans (Entails.of_eq (keys_split d _))
  have e : bigSep Finset.univ (G m) = iprop((bigSep Finset.univ fun d : Dev nD => bigSep Finset.univ fun k : Key => roundState ER (Rd m) (kcell d k) 0)
      ∗ ((bigSep Finset.univ fun d : Dev nD => bigSep Finset.univ fun k : Key => (atPos ER (kcell d k) 0 ∅ 0 : sProp 𝕄)) ∗ bigSep Finset.univ fun d : Dev nD => bigSep Finset.univ fun k : Key => reached ER (kcell d k) 0)
      ∗ bigSep Finset.univ fun d : Dev nD => KS d (T5 (F := F) d)) := by
    show (bigSep Finset.univ fun d => G m d) = _
    unfold G; simp only [bigSep_sep']
  rw [e]
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  isplitl [Hst']; · iexact Hst'
  isplitl [Hat' Hr']
  · isplitl [Hat'] <;> iassumption
  iexact Htok'

/-! ## The invariants of the cells -/

omit [FloatOps F] in
theorem unscopedSems0_eq (d : Dev nD) : (unscopedSems0 d : sProp 𝕄) = semVal (kcell d none) 0 := by
  unfold unscopedSems0; rw [bigSep_eq_bigSepL_of_eq [SemLoc.reg barS] (by decide) (by decide)]; rfl
omit [FloatOps F] in
theorem sems0_eq (d : Dev nD) : iprop(unscopedSems0 d ∗ Pipeline.ownSems0 (Ix := ℕ) (Name := ℕ) (U := UU) (Lvl := ℕ) (Val := Elt F) (τ := τ) osem d)
    = (bigSep Finset.univ fun k : Key => semVal (kcell d k) 0 : sProp 𝕄) := by
  rw [big_option, unscopedSems0_eq]; rfl

theorem core_alloc (d : Dev nD) : iprop(Pipeline.ownSems0 (Ix := ℕ) (Name := ℕ) (U := UU) (Lvl := ℕ) (Val := Elt F) (τ := τ) osem d ∗ unscopedSems0 d ∗ G m d)
    ⊢ |={Set.univ}=> iprop((bigSep Finset.univ fun k : Key => iprop(∃ κ : ℕ, cellInv ER (Rd m) κ (kcell d k)))
        ∗ (bigSep Finset.univ fun k : Key => iprop(atPos ER (kcell d k) 0 ∅ 0 ∗ reached ER (kcell d k) 0)) ∗ KS d (T5 (F := F) d)) := by
  unfold G
  iintro ⟨Hos, Hus, Hst, Hat, Htok⟩
  ihave Hv := (Entails.of_eq (sems0_eq (F := F) d)) $$ [Hos Hus]
  · isplitl [Hus] <;> iassumption
  imod (show iprop((bigSep Finset.univ fun k : Key => semVal (kcell d k) 0) ∗ bigSep Finset.univ fun k : Key => roundState ER (Rd m) (kcell d k) 0)
      ⊢ (|={Set.univ}=> bigSep Finset.univ fun k : Key => iprop(∃ κ : ℕ, cellInv ER (Rd m) κ (kcell d k)) : sProp 𝕄) from by
        rw [← bigSep_sep']
        exact (bigSep_mono fun k _ => (Rounds.body_intro ER (Rd m) (kcell d k)).trans inv_alloc).trans (bigSep_fupd _ _)) $$ [Hv Hst] with Hinv
  · isplitl [Hv] <;> iassumption
  imodintro
  isplitl [Hinv]; · iexact Hinv
  isplitl [Hat]; · iexact Hat
  iexact Htok

/-- What every device knows of the cells. -/
def records (K : Dev nD × Key → ℕ) : sProp 𝕄 :=
  iprop((bigSep Finset.univ fun x : Dev nD × Key => cellInv ER (Rd m) (K x) (kcell x.1 x.2))
    ∗ bigSep Finset.univ fun x : Dev nD × Key => reached ER (kcell x.1 x.2) 0)
instance records_persistent (K : Dev nD × Key → ℕ) : BI.Persistent (records m K) := by unfold records; infer_instance

/-- What the launch gives a device: the records, its positions, the tokens it spends. -/
def G' (d : Dev nD) : sProp 𝕄 := iprop(∃ K, records m K ∗ (bigSep Finset.univ fun k : Key => Pos0 (F := F) d k) ∗ Stay (F := F) d ∗ Moved (F := F) d)

omit [FloatOps F] in
theorem toks_all : (bigSep Finset.univ fun d : Dev nD => KS d (T5 (F := F) d)) ⊢ bigSep Finset.univ fun d : Dev nD => iprop(Stay (F := F) d ∗ Moved (F := F) d) := by
  refine (bigSep_mono fun d _ => toks_sort d).trans ?_
  rw [bigSep_sep', bigSep_sep']
  have h := deal (F := F)
  exact sep_mono_right (Entails.of_eq h)

theorem regroup :
    (bigSep Finset.univ fun d : Dev nD => iprop((bigSep Finset.univ fun k : Key => iprop(∃ κ : ℕ, cellInv ER (Rd m) κ (kcell d k)))
        ∗ (bigSep Finset.univ fun k : Key => iprop(atPos ER (kcell d k) 0 ∅ 0 ∗ reached ER (kcell d k) 0)) ∗ KS d (T5 (F := F) d)) : sProp 𝕄)
      ⊢ bigSep Finset.univ (G' m) := by
  rw [bigSep_sep', bigSep_sep', ← bigSep_univ_prod (fun x : Dev nD × Key => iprop(∃ κ : ℕ, cellInv ER (Rd m) κ (kcell x.1 x.2))),
    bigSep_congr (s := Finset.univ) (fun (d : Dev nD) _ => bigSep_sep' Finset.univ (fun k : Key => (atPos ER (kcell d k) 0 ∅ 0 : sProp 𝕄)) (fun k => reached ER (kcell d k) 0)),
    bigSep_sep', ← bigSep_univ_prod (fun x : Dev nD × Key => (reached ER (kcell x.1 x.2) 0 : sProp 𝕄))]
  have hw (K : Dev nD × Key → ℕ) : iprop(records m K ∗ bigSep Finset.univ fun d : Dev nD => iprop((bigSep Finset.univ fun k : Key => Pos0 (F := F) d k) ∗ Stay (F := F) d ∗ Moved (F := F) d))
      ⊢ bigSep Finset.univ (G' m) := with_persistent fun d _ => by
    unfold G'
    iintro H
    iexists K
    iexact H
  iintro ⟨HI, ⟨Hat, #HR⟩, Htok⟩
  ihave HK := (BI.bigSep_exists_pi Finset.univ (fun (x : Dev nD × Key) (κ : ℕ) => (cellInv ER (Rd m) κ (kcell x.1 x.2) : sProp 𝕄))) $$ HI
  icases HK with ⟨%K, #HI⟩
  ihave Htk := (toks_all (F := F)) $$ Htok
  iapply (hw K)
  isplitr
  · unfold records; isplitl; · iexact HI
    iexact HR
  · iapply (Entails.of_eq (bigSep_sep' Finset.univ (fun d : Dev nD => bigSep Finset.univ fun k : Key => Pos0 (F := F) d k) (fun d => iprop(Stay (F := F) d ∗ Moved (F := F) d))).symm)
    isplitl [Hat]; · iexact Hat
    iexact Htk

theorem glob : (bigSep Finset.univ fun d => iprop(Pipeline.ownSems0 (Ix := ℕ) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

end Cert.RingProof

end
-- ==== Proof.Launch.lean ====
/-
One device's obligation at launch: the body between what the launch gives it and what it gives back.
-/
module

public import proofs.«01_k».proof.Proof.Ghost
public import Idealize.ShloMosaic.Lib.Pipeline.CollectiveSegs

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
/-! ## One device -/

/-- What a device holds besides its buffers when its kernel starts, -/
def start (d : Dev nD) : sProp 𝕄 :=
  iprop(∃ K, Env m K ∗ Tok0 (F := F) d ∗ KS d (Pos0 (F := F) d)
    ∗ (((d : Thread nD τ).loc main_arg0) ↦{fullShare} m ((d : Thread nD τ).loc main_arg0)) ∗ (((d : Thread nD τ).loc main_v1) ↦{fullShare} m ((d : Thread nD τ).loc main_v1)))
def Φ₀ (d : Dev nD) : sProp 𝕄 := iprop(start m d ∗ Scr (F := F) d)
/-- and when it ends. -/
def fin (d : Dev nD) : sProp 𝕄 :=
  iprop(unscopedSems0 d ∗ (((d : Thread nD τ).loc main_arg0) ↦{fullShare} m ((d : Thread nD τ).loc main_arg0)) ∗ Res m d)
def Φ₁ (d : Dev nD) : sProp 𝕄 := iprop(fin m d ∗ Pipeline.ownSems0 osem d ∗ Scr (F := F) d)

def dats (_ : Fin 1) (d : Dev nD) : Dat τ (Elt F) ℕ ℕ UU ℕ cfg0 d where
  A w := (s₀ m ρ).mem ((cfg0.win w).arr.view.loc (d : Thread nD τ))
  after w _ := match w with
    | ⟨0, _⟩ => Wd m d
  Φ t := match t with
    | ⟨0, _⟩ => Φ₀ m d
    | ⟨_ + 1, _⟩ => Φ₁ m d
  q _ := fullShare
  owed t := match t with
    | ⟨0, _⟩ => O₀ d
    | ⟨_ + 1, _⟩ => 0

def stg (d : Dev nD) : sProp 𝕄 :=
  iprop(∃ f : Buf (Elt F) ((d : Thread nD τ).loc cc0_stg0_0), ⌜f = Wd m d⌝ ∗ (((d : Thread nD τ).loc cc0_stg0_0) ↦{fullShare} f))

def bodyPre (d : Dev nD) : sProp 𝕄 := iprop(Φ₀ m d ∗ (dats m ρ 0 d).owesAt 0 t0_0.castSucc ∗ stg m d)
def bodyPost (d : Dev nD) : sProp 𝕄 := iprop(Φ₁ m d ∗ (dats m ρ 0 d).owesAt 0 t0_0.succ ∗ stg m d)

theorem done_post [∀ e, Nonempty (Elt F e)] (K : Dev nD × Key → ℕ) (d : Dev nD) : iprop(Env m K ∗ Done m d) ⊢ |={Set.univ}=> bodyPost m ρ d := by
  unfold Done
  iintro ⟨#HE, HO, HW, HX, HM, HP⟩
  imod (close_all m K d) $$ [HP] with Hs
  · isplitr; · iexact HE
    iexact HP
  imodintro
  ihave Hs := (Entails.of_eq (sems0_eq (F := F) d).symm) $$ Hs
  icases Hs with ⟨Hu, Hs⟩
  ihave HM := (mem_out m d) $$ HM
  icases HM with ⟨HS, HR⟩
  ihave HX := (arg_join m d) $$ HX
  unfold bodyPost Φ₁ fin stg Dat.owesAt Pipeline.owesWithin
  rw [show (dats m ρ 0 d).owed t0_0.succ = 0 from rfl]
  isplitl [Hu HX HR Hs HS]
  · isplitl [Hu HX HR]
    · isplitl [Hu]; · iexact Hu
      isplitl [HX]; · iexact HX
      iexact HR
    isplitl [Hs]; · iexact Hs
    iexact HS
  isplitl [HO]
  · unfold Ow
    icases HO with ⟨%W, HO⟩
    iexists W
    isplitr; · ipureintro; exact fun _ _ => Or.inl trivial
    iexact HO
  iexists _
  isplitr; · (ipureintro; rfl)
  unfold Wo
  iexact HW

theorem body_sound [∀ e, Nonempty (Elt F e)] (d : Dev nD) : bodyPre m ρ d ⊢ WP d prog (fun _ => bodyPost m ρ d) := by
  unfold bodyPre Φ₀ start stg Dat.owesAt Pipeline.owesWithin
  rw [show (dats m ρ 0 d).owed t0_0.castSucc = O₀ d from rfl]
  iintro ⟨⟨⟨%K, #HE, HT, HP, HA, HV⟩, HS⟩, ⟨%W, %hW, HO⟩, ⟨%f, %hf, HW⟩⟩
  subst hf
  iapply (wp_fupd)
  iapply (wp_prog (Φ := fun _ => iprop(|={Set.univ}=> bodyPost m ρ d)) m K d) $$ [HT HP HA HV HS HO HW]
  · isplitr; · iexact HE
    unfold Init
    isplitl [HO]
    · unfold Ow; iexists W; iexact HO
    isplitl [HW]
    · unfold Wo; iexact HW
    isplitl [HA]; · iapply (arg_split m d) $$ HA
    isplitl [HS HV]
    · iapply (mem_in m d)
      isplitl [HS]; · iexact HS
      iexact HV
    isplitl [HT]; · iexact HT
    iexact HP
  iintro HD
  iapply (done_post m ρ K d)
  isplitr; · iexact HE
  iexact HD

theorem before_eq (d : Dev nD) (x) : (dats m ρ 0 d).before (0 : Fin 1) t0_0 x = Wd m d := by
  unfold Dat.before; rw [if_pos (fetch0_0 t0_0)]; rfl

omit m in
theorem called_eq : defs₀ (F := F) Proc.tc 0 (t0_0, cfg0.slots t0_0) = bodyAt0 t0_0 := by
  unfold defs₀ Defs.onTc
  with_reducible rfl

theorem body_called [∀ e, Nonempty (Elt F e)] (d : Dev nD) (p : KP F) (hp : p = prog) : bodyPre m ρ d ⊢ WP d p (fun _ => bodyPost m ρ d) := by
  rw [hp]; exact body_sound m ρ d

set_option maxRecDepth 4000 in
theorem body_obligation [∀ e, Nonempty (Elt F e)] (d : Dev nD) : BodyObligation (dats (F := F) m ρ 0 d) (defs₀ (F := F)) 𝒱₀ 0 Set.univ := fun t => by
  rw [fin_N0 t]
  rw [bigSep_W0, bigSep_W0]
  simp only [owns_whole_eq]
  have h1 : (dats m ρ 0 d).Φ t0_0.castSucc = Φ₀ m d := rfl
  have h2 : (dats m ρ 0 d).Φ t0_0.succ = Φ₁ m d := rfl
  have h3 : (dats m ρ 0 d).after 0 t0_0 = Wd m d := rfl
  rw [h1, h2, h3]
  have h4 := body_called m ρ d _ ((called_eq (F := F)).trans (body_eq t0_0))
  unfold bodyPost WP bodyPre at h4
  simp only [before_eq]
  generalize defs₀ (F := F) Proc.tc 0 (t0_0, cfg0.slots t0_0) = p at h4
  refine BIBase.Entails.trans ?_ h4
  unfold stg
  iintro ⟨H, Ho, ⟨%x, Hx⟩⟩
  isplitl [H]; · iexact H
  isplitl [Ho]; · iexact Ho
  iexact Hx

end Cert.RingProof

end
-- ==== Proof.Run.lean ====
/-
The run of the kernel on the eight devices.
-/
module

public import proofs.«01_k».proof.Proof.Launch

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
/-! ## The launch theorem's side conditions -/

theorem ownSemFacts : Pipeline.OwnSemFacts cfg0.spec osem :=
  ⟨by decide +kernel, fun a b h => Option.some.inj (semOf_inj (a₁ := some a) (a₂ := some b) h), by decide +kernel⟩

theorem share_eq (d : Dev nD) (w : Fin cfg0.W) : (dats m ρ 0 d).share w = fullShare := by unfold Dat.share; split <;> rfl

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ emp) := by
  rw [show Pipeline.unscopedRestP (Ix := ℕ) (Name := ℕ) (U := UU) (Lvl := ℕ) Pipeline.Prefetch.none cfg0.spec d (fun b => m ((d : Thread nD τ).loc b))
    = Pipeline.unscopedRest (Ix := ℕ) (Name := ℕ) (U := UU) (Lvl := ℕ) spec0 d (fun b => m ((d : Thread nD τ).loc b)) from Pipeline.unscopedRestP_none _ _ _, unscopedRest0_eq]
  unfold G' records
  iintro ⟨⟨HA, HV⟩, Hlev, Hcr, -, ⟨%K, ⟨HI, HR⟩, HP, HS, HM⟩⟩
  ihave Hc := (creds (F := F) d) $$ Hcr
  imodintro
  isplitl
  · unfold start Env
    iexists K
    isplitl [HI HR Hlev]
    · isplitl [HI]; · iexact HI
      isplitl [Hlev]; · iexact Hlev
      iexact HR
    isplitl [HS HM Hc]
    · iapply (tok0_intro d)
      isplitl [HS]; · iexact HS
      isplitl [HM]; · iexact HM
      iexact Hc
    isplitl [HP]
    · iapply (Entails.of_eq (keys_split d (Pos0 (F := F) d))); iexact HP
    isplitl [HA]; · iexact HA
    iexact HV
  · iempintro

theorem phi0_intro (d : Dev nD) :
    iprop(start m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, scopedRest0_eq]
  unfold Φ₀ Scr
  iintro ⟨Hs, -, Hr⟩
  isplitl [Hs]; · iexact Hs
  iexact Hr

theorem phi1_exit (d : Dev nD) :
    (dats m ρ 0 d).Φ (Fin.last cfg0.N) ⊢ iprop(fin m d ∗ Pipeline.ownSems0 osem d ∗ Pipeline.scopedRest cfg0.spec d) := by
  rw [show (dats m ρ 0 d).Φ (Fin.last cfg0.N) = Φ₁ m d from rfl, scopedRest0_eq]
  unfold Φ₁ Scr
  iintro H
  iexact H

theorem above_O₀ (d : Dev nD) : Above 0 (O₀ d) := by
  unfold O₀
  have h (j : Fin 2) : Above 0 (dueB d j) := by unfold dueB; exact above_tally _ _ (by decide) (by decide)
  exact above_add (above_add ((above_owedN d 0).mono (by decide)) (h 1)) (h 0)

theorem waits (d : Dev nD) : (levAts L lv : sProp 𝕄) ⊢ Pipeline.cellsWaits cfgs (dats m ρ) 0 0 d :=
  Pipeline.cellsWaits_intro cfgs (dats m ρ) 0 0 d fun w s t => mayWait d _ (by decide) (by
    rcases t with ⟨_ | _, ht⟩
    · exact above_O₀ d
    · exact above_zero 0)

/-! ## The run -/

/-- What a device ends with: its arguments unchanged, its result array holding the tiles, its unscoped semaphores at zero. -/
def Fine (d : Dev nD) (s : MemSt nD τ sig (Elt F)) : Prop :=
  s.mem ((d : Thread nD τ).loc main_arg0) = m ((d : Thread nD τ).loc main_arg0)
    ∧ (∀ t, (oV t).view.read (Elt F) (s.mem ((d : Thread nD τ).loc main_v1)) = outT m d t)
    ∧ ∀ sm : SemLoc sig, sm.isScoped .tc = false → s.sem ((d.tc : Thread nD τ), sm) = 0

theorem fin_read (d : Dev nD) (s' : Phys nD τ sig (Elt F)) : iprop(fin m d ∗ emp ∗ SI s') ⊢ |={Set.univ}=> (iprop(⌜Fine m d s'.mem⌝ ∗ SI s') : sProp 𝕄) := by
  unfold fin Res
  iintro ⟨⟨Hu, HA, ⟨%f, %hf, HV⟩⟩, -, HSI⟩
  icombine HSI HA gives %h1
  icombine HSI HV gives %h2
  imod (Pipeline.unscopedSems0_read (X := (unscopedSems0 d : sProp 𝕄)) (c := d) fupd_intro s') $$ [Hu HSI] with ⟨%h3, HSI⟩
  · isplitl [Hu] <;> iassumption
  imodintro
  isplitr
  · ipureintro
    have e1 := Buf.eq_of_forall_mem_univ h1
    have e2 := Buf.eq_of_forall_mem_univ h2
    exact ⟨e1, by rw [e2]; exact hf, h3⟩
  iexact HSI

set_option maxRecDepth 100000 in
/-- From any memory with zero counters every weakly fair execution on the eight devices terminates, and in every final
    state each device's arguments are unchanged, its result holds the quantised tiles and every counter is zero. -/
theorem run_main [∀ e, Nonempty (Elt F e)] : θ_run defs (onTc (τ := τ) (main (F := F))) (s₀ m ρ) (fun r =>
    (∀ d : Dev nD, r.2.mem ((d : Thread nD τ).loc main_arg0) = m ((d : Thread nD τ).loc main_arg0)
      ∧ r.2.mem ((d : Thread nD τ).loc main_arg1) = m ((d : Thread nD τ).loc main_arg1)
      ∧ ∀ t, (oV t).view.read (Elt F) (r.2.mem ((d : Thread nD τ).loc main_v1)) = outT m d t) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := Fine m) (hY := fin_read m)
    (hQ := fun s h hs => ⟨fun d => ⟨(h d).2.2.1, ((h d).1 0).trans ((dats (F := F) m ρ 0 d).arrAt_in (0 : Fin 1) rfl _), (h d).2.2.2.1⟩, sem_eq_zero hs fun d => (h d).2.2.2.2⟩)

end Cert.RingProof

end
-- ==== Proof.Same.lean ====
/-
The kernel as printed and its idealized printing are one program, so the run holds of both.
-/
module

public import proofs.«01_k».proof.Proof.Run
public import proofs.«01_k».proof.Proof.Gen.Kernel

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)
/-! ## The two printings of the kernel -/

theorem body_same : Cert.Kernel.cc0_body (F := F) = Cert.KernelIdeal.cc0_body (F := F) := rfl
theorem calls_same : Cert.Kernel.defs₀ (F := F) = Cert.KernelIdeal.defs₀ (F := F) := by
  funext p l a
  match p with
  | .tc =>
    match l, a with
    | 0, (t, s) =>
      unfold Cert.Kernel.defs₀ Cert.KernelIdeal.defs₀ Defs.onTc
      dsimp only
      rw [body_same]
    | ⟨n + 1, h⟩, _ => exact absurd h (Nat.not_lt.2 (Nat.le_add_left _ _))
  | .scScalar _ => rfl
  | .scVector _ _ => rfl
theorem defs_same : Cert.Kernel.defs (F := F) = Cert.KernelIdeal.defs (F := F) :=
  congrArg (Pipeline.defs (Cert.KernelIdeal.pcfgs (F := F))) calls_same

omit m in
/-- The run read as the frame claim of the idealized printing, -/
theorem run_ideal [∀ e, Nonempty (Elt F e)] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run (Cert.KernelIdeal.defs (F := F)) (onTc (τ := Cert.KernelIdeal.τ) (Cert.KernelIdeal.main (F := F))) _).mono (fun r h => ⟨fun c => ⟨(h.1 c).1, (h.1 c).2.1⟩, h.2⟩) (run_main (F := F) m g)

omit m in
/-- and as that of the kernel as printed. -/
theorem run_kernel [∀ e, Nonempty (Elt F e)] (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same]
  exact run_ideal (F := F) m g

end Cert.RingProof

end
-- ==== Proof.Parts.lean ====
/-
The kernel's partial products over the extended reals, by rows and columns of the whole arrays.
-/
module

public import proofs.«01_k».proof.Proof.Vals
public import Idealize.ShloMosaic.Lib.Pointwise

@[expose] public section

noncomputable section

namespace Cert.RingProof

open Cert.KernelIdeal Cert.KernelIdeal.Gen
open Idealize.ShloMosaic Idealize.ShloMosaic.TcCoe Idealize.SL.Sem

variable (m : (ℓ : Loc nD τ sig) → Buf (Elt Ideal) ℓ)

/-! ## The arrays of a device, and the products it forms -/

/-- Device `e`'s columns of `x`, and its rows of `w`. -/
def xOf (e : Dev nD) : S4096x512.Idx → EReal := m ((e.tc : Thread nD τ).loc main_arg0)
def wOf (e : Dev nD) : S512x8192.Idx → EReal := m ((e.tc : Thread nD τ).loc main_arg1)
/-- Row `R` of device `e`'s part of `x` times column `J` of its part of `w`. -/
def prodE (e : Dev nD) (R : Fin 4096) (J : Fin 8192) : EReal := ∑ k : Fin 512, xOf m e (ix2 R k) * wOf m e (ix2 k J)

/-- The row of the whole array numbered `i` in block `b`, and the column numbered `j` in chunk `c` of half `h`. -/
def rowAt (b : ℕ) (hb : b < 8) (i : Fin 512) : Fin 4096 := ⟨512 * b + i.val, by have := i.isLt; omega⟩
def colAt (h : Fin 2) (c : Fin 4) (j : Fin 1024) : Fin 8192 := ⟨4096 * h.val + 1024 * c.val + j.val, by have := h.isLt; have := c.isLt; have := j.isLt; omega⟩

theorem wV_apply (d : Dev nD) (h : Fin 2) (c : Fin 4) (k : Fin 512) (j : Fin 1024) :
    wV m d h c (ix2 k j) = wOf m d (ix2 k (colAt h c j)) := by
  unfold wV Wd wOf
  rw [View.read_apply, View.read_apply]
  show m ((d : Thread nD τ).loc main_arg1) _ = m ((d : Thread nD τ).loc main_arg1) _
  congr 1
  funext a
  apply Fin.ext
  match a with
  | ⟨0, _⟩ => show 0 * 512 + 1 * (0 + 1 * k.val) = k.val; omega
  | ⟨1, _⟩ => show 0 * 8192 + 1 * ((4096 * h.val + 1024 * c.val) + 1 * j.val) = 4096 * h.val + 1024 * c.val + j.val; omega

theorem xbV_apply (d : Dev nD) (s : ℕ) (h : Fin 2) (i k : Fin 512) :
    shapeCast S512x512 (xbV m d s h) shapeCasts_S1x1x512x512_S512x512 (ix2 i k) = xOf m d (ix2 (rowAt (blkN d s h) (blkN_lt d s h) i) k) := by
  have : shapeCast S512x512 (xbV m d s h) shapeCasts_S1x1x512x512_S512x512 = (xSrc d s h).view.read (Elt Ideal) (Xd m d) := by
    funext j
    unfold shapeCast xbV
    exact congrArg _ (Equiv.symm_apply_apply _ _)
  rw [this, View.read_apply]
  unfold xOf Xd
  show m ((d : Thread nD τ).loc main_arg0) _ = m ((d : Thread nD τ).loc main_arg0) _
  congr 1
  funext a
  apply Fin.ext
  match a with
  | ⟨0, _⟩ => show 512 * blkN d s h + 1 * i.val = 512 * blkN d s h + i.val; omega
  | ⟨1, _⟩ => show 0 + 1 * k.val = k.val; omega

theorem dotV_apply (x : Vec Ideal S1x1x512x512 .f32) (w : Vec Ideal S512x1024 .f32) (i : Fin 512) (j : Fin 1024) :
    dotV x w (ix2 i j) = ∑ k : Fin 512, shapeCast S512x512 x shapeCasts_S1x1x512x512_S512x512 (ix2 i k) * w (ix2 k j) := by
  generalize hX : shapeCast S512x512 x shapeCasts_S1x1x512x512_S512x512 = X
  unfold dotV
  rw [hX]
  pointwise

/-- A partial product, by its coordinates. -/
theorem partV_apply (d : Dev nD) (s : ℕ) (h : Fin 2) (c : Fin 4) (i : Fin 512) (j : Fin 1024) :
    partV m d s h c (ix2 i j) = prodE m d (rowAt (blkN d s h) (blkN_lt d s h) i) (colAt h c j) := by
  unfold partV prodE
  rw [dotV_apply]
  exact Finset.sum_congr rfl fun k _ => by rw [xbV_apply, wV_apply]

theorem rndV_apply (p : FVec Ideal S512x1024 .f32) (i : Fin 512) (j : Fin 1024) : rndV p (ix3 0 i j) = p (ix2 i j) := by
  unfold rndV; pointwise

theorem sumV_apply (p : FVec Ideal S512x1024 .f32) (o : Vec Ideal S1x512x1024 .bf16) (i : Fin 512) (j : Fin 1024) :
    sumV p o (ix2 i j) = o (ix3 0 i j) + p (ix2 i j) := by
  unfold sumV; pointwise

end Cert.RingProof

end
-- ==== Proof.RingSum.lean ====
/-
Once around the ring every device holds the sum of all devices' products for its rows.
-/
module

public import proofs.«01_k».proof.Proof.Parts

@[expose] public section

noncomputable section

namespace Cert.RingProof

open Cert.KernelIdeal Cert.KernelIdeal.Gen
open Idealize.ShloMosaic Idealize.ShloMosaic.TcCoe Idealize.SL.Sem

variable (m : (ℓ : Loc nD τ sig) → Buf (Elt Ideal) ℓ)

/-! ## What travels, and what is left at the end -/

theorem rowAt_congr {b b' : ℕ} (e : b = b') (hb : b < 8) (hb' : b' < 8) (i : Fin 512) : rowAt b hb i = rowAt b' hb' i := by
  subst e; rfl

theorem blkN_up (d : Dev nD) (s : ℕ) (hs : s < 7) (h : Fin 2) : blkN (up h d) s h = blkN d (s + 1) h := by
  have hu := up_val h d
  have hd : d.val < 8 := d.isLt
  unfold blkN
  split_ifs at hu ⊢ <;> omega

theorem blkN_last (d : Dev nD) (h : Fin 2) : blkN d 7 h = d.val := by
  have hd : d.val < 8 := d.isLt
  unfold blkN
  split_ifs <;> omega

/-- What device `d` sends at step `s`: the products of the devices behind it, as far as `s` steps back, for the row block
that it serves then. -/
theorem vS_apply (h : Fin 2) (c : Fin 4) (i : Fin 512) (j : Fin 1024) : ∀ (s : ℕ) (hs : s < 8) (d : Dev nD),
    vS m s d h c (ix3 0 i j) = ∑ t ∈ Finset.range (s + 1), prodE m ((up h)^[t] d) (rowAt (blkN d s h) (blkN_lt d s h) i) (colAt h c j)
  | 0, _, d => by
    rw [Finset.sum_range_one]
    show rndV (partV m d 0 h c) (ix3 0 i j) = _
    rw [rndV_apply, partV_apply]; rfl
  | s + 1, hs, d => by
    show rndV (sumV (partV m d (s + 1) h c) (vS m s (up h d) h c)) (ix3 0 i j) = _
    rw [rndV_apply, sumV_apply, partV_apply, vS_apply h c i j s (by omega) (up h d),
      Finset.sum_range_succ' _ (s + 1)]
    refine congrArg₂ (fun S T : EReal => S + T) (Finset.sum_congr rfl fun t _ => ?_) rfl
    rw [Function.iterate_succ_apply, rowAt_congr (blkN_up d s (by omega) h)]

theorem up_turn (d : Dev nD) (h : Fin 2) : Function.Bijective fun t : Fin 8 => (up h)^[t.val] d :=
  (Finite.injective_iff_bijective (α := Fin 8)).1 (by revert d h; decide +kernel)

/-- The whole product: every device's share added up. -/
def yE (R : Fin 4096) (J : Fin 8192) : EReal := ∑ e : Dev nD, prodE m e R J

/-- What a device ends with is its row block of the whole product. -/
theorem resR_apply (d : Dev nD) (h : Fin 2) (c : Fin 4) (i : Fin 512) (j : Fin 1024) :
    resR m d h c (ix2 i j) = yE m (rowAt d.val d.isLt i) (colAt h c j) := by
  unfold resR
  rw [sumV_apply, partV_apply, vS_apply m h c i j 6 (by decide) (up h d)]
  unfold yE
  rw [← (up_turn d h).sum_comp, ← Finset.sum_range (fun t => prodE m ((up h)^[t] d) (rowAt d.val d.isLt i) (colAt h c j)),
    Finset.sum_range_succ' _ 7]
  refine congrArg₂ (fun S T : EReal => S + T) (Finset.sum_congr rfl fun t _ => ?_) ?_
  · rw [Function.iterate_succ_apply, rowAt_congr ((blkN_up d 6 (by decide) h).trans (blkN_last d h))]
  · rw [rowAt_congr (blkN_last d h)]; rfl

/-- The array of all chunks, by its coordinates. -/
theorem Yd_apply (d : Dev nD) (i : Fin 512) (J : Fin 8192) : Yd m d (ix2 i J) = yE m (rowAt d.val d.isLt i) J := by
  have hJ := J.isLt
  have : Yd m d (ix2 i J) = resR m d ⟨J.val / 4096 % 2, Nat.mod_lt _ (by decide)⟩ ⟨J.val / 1024 % 4, Nat.mod_lt _ (by decide)⟩
      (ix2 i ⟨J.val % 1024, Nat.mod_lt _ (by decide)⟩) := by
    unfold Yd
    congr 1
    funext a
    match a with
    | ⟨0, _⟩ => rfl
    | ⟨1, _⟩ => rfl
  rw [this, resR_apply]
  congr 1
  apply Fin.ext
  show 4096 * (J.val / 4096 % 2) + 1024 * (J.val / 1024 % 4) + J.val % 1024 = J.val
  omega

end Cert.RingProof

end
-- ==== Proof.Largest.lean ====
/-
The largest magnitude: the kernel's, taken chunk by chunk and device by device, and a reduction over a whole array.
-/
module

public import proofs.«01_k».proof.Proof.RingSum
public import proofs.«01_k».proof.Proof.Gen.ReferenceIdeal
public import Idealize.ShloMosaic.PureOps.Ideal.Laws

@[expose] public section

noncomputable section

namespace Cert.RingProof

open Cert.KernelIdeal Cert.KernelIdeal.Gen
open Idealize.ShloMosaic Idealize.ShloMosaic.TcCoe Idealize.SL.Sem

variable (m : (ℓ : Loc nD τ sig) → Buf (Elt Ideal) ℓ)

/-! ## The words the programs name -/

theorem word_bot : Ideal.ofBits .f32 0xFF800000#32 = ⊥ := by simp [Ideal.ofBits, Ideal.ieee]
theorem word_127 : Ideal.ofBits .f32 0x42FE0000#32 = ((127 : ℝ) : EReal) := by
  simp [Ideal.ofBits, Ideal.ieee, -EReal.coe_mul]; norm_num
theorem word_neg127 : Ideal.ofBits .f32 0xC2FE0000#32 = ((-127 : ℝ) : EReal) := by
  simp [Ideal.ofBits, Ideal.ieee, -EReal.coe_mul, -EReal.coe_neg]; norm_num

/-! ## Maxima, by what bounds them -/

/-- The magnitude of an extended real, as the programs take it. -/
abbrev mag (x : EReal) : EReal := max x (-x)
theorem mag_nonneg (x : EReal) : 0 ≤ mag x := by
  rcases le_total 0 x with h | h
  · exact le_trans h (le_max_left _ _)
  · exact le_trans (EReal.neg_nonneg.2 h) (le_max_right _ _)

/-- A maximum taken over all of an array, to one element, is bounded by what bounds every element. -/
theorem reduction_le {s : Shape} {axes : List (Fin s.rank)} (src : FVec Ideal s .f32) (h : s.Reduces axes S1)
    (hφ : FKind.Formats .f32) (hacc : (0xFF800000#32 : BitVec 32) = FKind.maximumf.neutral .f32 hφ) (j : S1.Idx) (b : EReal) :
    multiReduction .maximumf axes S1 src 0xFF800000#32 h hφ hacc j ≤ b ↔ ∀ i, src i ≤ b := by
  rw [multiReduction_maximumf_eq_fold]
  refine (Finset.fold_max_le (β := EReal) b).trans ?_
  constructor
  · intro H i
    refine H.2 i (Finset.mem_filter.2 ⟨Finset.mem_univ _, ?_⟩)
    funext a
    match a with
    | ⟨0, _⟩ => exact Subsingleton.elim (α := Fin 1) _ _
  · intro H
    exact ⟨by rw [Ideal.ofBits_def, word_bot]; exact bot_le, fun i _ => H i⟩

theorem hostReduction_le (y : FVec Ideal Cert.ReferenceIdeal.S4096x8192 .f32) (v : FVec Ideal Cert.ReferenceIdeal.S_ .f32) (hv : ∀ i, v i = ⊥)
    {axes : List (Fin Cert.ReferenceIdeal.S4096x8192.rank)} (h : Cert.ReferenceIdeal.S4096x8192.ReducesTo axes Cert.ReferenceIdeal.S_) (hu : 0 < Cert.ReferenceIdeal.S_.numel) (j : Cert.ReferenceIdeal.S_.Idx) (b : EReal) :
    Host.reduce FloatOps.maximumf y v h hu j ≤ b ↔ ∀ i, y i ≤ b := by
  rw [Host.reduce_eq_fold]
  refine (Finset.fold_max_le (β := EReal) b).trans ?_
  constructor
  · intro H i
    exact H.2 i (Finset.mem_filter.2 ⟨Finset.mem_univ _, funext fun a => a.elim0⟩)
  · intro H
    exact ⟨by rw [hv]; exact bot_le, fun i _ => H i⟩

theorem maxV_le (M : Ideal .f32) (r : FVec Ideal S512x1024 .f32) (b : EReal) :
    maxV M r ≤ b ↔ M ≤ b ∧ ∀ i j, mag (r (ix2 i j)) ≤ b := by
  unfold maxV
  refine (max_le_iff (α := EReal)).trans (and_congr Iff.rfl ?_)
  refine (reduction_le _ _ (.inl rfl) rfl _ b).trans ?_
  constructor
  · intro H i j
    have := H (ix3 0 i j)
    pointwise at this
    exact this
  · intro H i
    rw [eq_ix3 i]
    pointwise
    exact H _ _

theorem gmaxV_le (v : Vec Ideal S8x8x128 .f32) (b : EReal) : gmaxV v ≤ b ↔ ∀ i, v i ≤ b := by
  unfold gmaxV
  refine (reduction_le _ _ (.inl rfl) rfl _ b).trans ?_
  constructor
  · intro H i
    have := H (ix4 0 (i 0) (i 1) (i 2))
    pointwise at this
    exact this
  · intro H i
    exact H _

theorem amx_le (d : Dev nD) (b : EReal) : ∀ n, amx m d n ≤ b ↔ 0 ≤ b ∧ ∀ k < n, ∀ i j, mag (resR m d (hOf k) (cOf k) (ix2 i j)) ≤ b
  | 0 => by
    constructor
    · intro H; exact ⟨le_trans (le_of_eq Ideal.ofBits_zero_f32.symm) H, fun k hk => absurd hk (Nat.not_lt_zero _)⟩
    · intro H; exact le_trans (le_of_eq Ideal.ofBits_zero_f32) H.1
  | n + 1 => by
    show maxV (amx m d n) _ ≤ b ↔ _
    rw [maxV_le, amx_le d b n]
    constructor
    · rintro ⟨⟨h0, H⟩, Hn⟩
      refine ⟨h0, fun k hk => ?_⟩
      rcases Nat.lt_succ_iff_lt_or_eq.1 hk with h | rfl
      · exact H k h
      · exact Hn
    · rintro ⟨h0, H⟩
      exact ⟨⟨h0, fun k hk => H k (Nat.lt_succ_of_lt hk)⟩, H n (Nat.lt_succ_self n)⟩

/-- The largest magnitude that all devices agree on is bounded by exactly what bounds the whole product's magnitudes. -/
theorem gmax_le (b : EReal) : gmaxV (aAll m) ≤ b ↔ ∀ R J, mag (yE m R J) ≤ b := by
  rw [gmaxV_le]
  constructor
  · intro H R J
    have hR := R.isLt
    have hJ := J.isLt
    have e1 := H (ix3 ⟨R.val / 512, by omega⟩ 0 0)
    have e2 : amx m (⟨R.val / 512, by show R.val / 512 < 8; omega⟩ : Dev nD) 8 ≤ b := by
      refine le_trans (le_of_eq ?_) e1
      show _ = amx m _ 8
      congr 1
      apply Fin.ext
      show R.val / 512 = R.val / 512 % 8
      omega
    have e3 := ((amx_le m _ b 8).1 e2).2 (2 * (J.val / 1024 % 4) + J.val / 4096) (by omega)
      ⟨R.val % 512, by omega⟩ ⟨J.val % 1024, by omega⟩
    rw [resR_apply] at e3
    refine le_trans (le_of_eq ?_) e3
    refine congrArg mag (congrArg₂ (yE m) (Fin.ext ?_) (Fin.ext ?_))
    · show R.val = 512 * (R.val / 512) + R.val % 512
      omega
    · show J.val = 4096 * ((2 * (J.val / 1024 % 4) + J.val / 4096) % 2) + 1024 * ((2 * (J.val / 1024 % 4) + J.val / 4096) / 2 % 4) + J.val % 1024
      have e4 : J.val / 4096 = J.val / 1024 / 4 := by omega
      have e5 : (2 * (J.val / 1024 % 4) + J.val / 4096) % 2 = J.val / 4096 := by omega
      have e6 : (2 * (J.val / 1024 % 4) + J.val / 4096) / 2 % 4 = J.val / 1024 % 4 := by omega
      rw [e5, e6]
      omega
  · intro H i
    refine (amx_le m _ b 8).2 ⟨le_trans (mag_nonneg _) (H ⟨0, by decide⟩ ⟨0, by decide⟩), fun k hk i j => ?_⟩
    rw [resR_apply]
    exact H _ _

end Cert.RingProof

end
-- ==== Proof.Quant.lean ====
/-
The quantiser, as the kernel and as the reference write it, and the kernel's result by its coordinates.
-/
module

public import proofs.«01_k».proof.Proof.Largest

@[expose] public section

noncomputable section

namespace Cert.RingProof

open Cert.KernelIdeal Cert.KernelIdeal.Gen
open Idealize.ShloMosaic Idealize.ShloMosaic.TcCoe Idealize.SL.Sem

variable (m : (ℓ : Loc nD τ sig) → Buf (Elt Ideal) ℓ)

/-! ## The quantiser -/

/-- Quantised with a step's reciprocal: a multiplication by 127 / g, as the kernel does it. -/
def quantK (g y : EReal) : EReal :=
  min ((127 : ℝ) : EReal) (max ((-127 : ℝ) : EReal) (Ideal.liftRound Ideal.roundHalfEven (y * Ideal.div ((127 : ℝ) : EReal) g))) * Ideal.div g ((127 : ℝ) : EReal)
/-- Quantised with the step: a division by g / 127, as the reference does it. -/
def quantR (g y : EReal) : EReal :=
  min ((127 : ℝ) : EReal) (max ((-127 : ℝ) : EReal) (Ideal.liftRound Ideal.roundHalfEven (Ideal.div y (Ideal.div g ((127 : ℝ) : EReal))))) * Ideal.div g ((127 : ℝ) : EReal)

theorem c127_ne : ((127 : ℝ) : EReal) ≠ 0 := by exact_mod_cast (by norm_num : (127 : ℝ) ≠ 0)

/-- The two agree for every extended real: where the step is 0 both results are 0, and elsewhere dividing by g / 127 is
multiplying by 127 / g. -/
theorem quant_eq (g y : EReal) : quantK g y = quantR g y := by
  unfold quantK quantR
  have hs : Ideal.div g ((127 : ℝ) : EReal) = g * (((127 : ℝ) : EReal))⁻¹ := if_neg c127_ne
  by_cases hg : g = 0
  · rw [hs, hg, zero_mul, mul_zero, mul_zero]
  · have hi : (((127 : ℝ) : EReal))⁻¹ ≠ 0 := by
      rw [← EReal.coe_inv]
      exact_mod_cast (by norm_num : ((127 : ℝ))⁻¹ ≠ 0)
    have hii : ((((127 : ℝ) : EReal))⁻¹)⁻¹ = ((127 : ℝ) : EReal) := by rw [← EReal.coe_inv, ← EReal.coe_inv, inv_inv]
    have hn : g * (((127 : ℝ) : EReal))⁻¹ ≠ 0 := mul_ne_zero hg hi
    have hd : Ideal.div y (g * (((127 : ℝ) : EReal))⁻¹) = y * (g * (((127 : ℝ) : EReal))⁻¹)⁻¹ := if_neg hn
    have hk : Ideal.div ((127 : ℝ) : EReal) g = ((127 : ℝ) : EReal) * g⁻¹ := if_neg hg
    rw [hs, hd, hk, EReal.mul_inv, hii, mul_comm g⁻¹]

theorem quantV_apply (g : Ideal .f32) (v : Vec Ideal S512x2048 .f32) (i : Fin 512) (j : Fin 2048) :
    quantV g v (ix2 i j) = quantK g (v (ix2 i j)) := by
  unfold quantV quantK
  rw [← word_127, ← word_neg127]
  pointwise

/-- A tile of the result, by its coordinates. -/
theorem outT_apply (d : Dev nD) (t : Fin 4) (i : Fin 512) (j : Fin 2048) :
    outT m d t (ix2 i j)
      = quantK (gmaxV (aAll m)) (yE m (rowAt d.val d.isLt i) ⟨2048 * t.val + j.val, by have := t.isLt; have := j.isLt; omega⟩) := by
  unfold outT
  rw [quantV_apply, ← Yd_apply]
  refine congrArg (quantK (gmaxV (aAll m))) ?_
  rw [View.read_apply]
  show Yd m d _ = Yd m d _
  congr 1
  funext a
  apply Fin.ext
  match a with
  | ⟨0, _⟩ => show 0 + 1 * i.val = i.val; omega
  | ⟨1, _⟩ => show 2048 * t.val + 1 * j.val = 2048 * t.val + j.val; omega

/-- The result array that holds these tiles, by its coordinates. -/
theorem result_apply (d : Dev nD) (f : Buf (Elt Ideal) ((d : Thread nD τ).loc main_v1)) (hf : ∀ t, (oV t).view.read (Elt Ideal) f = outT m d t)
    (i : Fin 512) (J : Fin 8192) :
    (f : S512x8192.Idx → EReal) (ix2 i J) = quantK (gmaxV (aAll m)) (yE m (rowAt d.val d.isLt i) J) := by
  have hJ := J.isLt
  have h := congrFun (hf ⟨J.val / 2048, by omega⟩) (ix2 i ⟨J.val % 2048, Nat.mod_lt _ (by decide)⟩)
  rw [outT_apply, View.read_apply] at h
  have e : (⟨2048 * (J.val / 2048) + J.val % 2048, by omega⟩ : Fin 8192) = J := Fin.ext (Nat.div_add_mod _ _)
  rw [e] at h
  rw [← h]
  show f _ = f _
  congr 1
  funext a
  apply Fin.ext
  match a with
  | ⟨0, _⟩ => show i.val = 0 + 1 * i.val; omega
  | ⟨1, _⟩ => show J.val = 2048 * (J.val / 2048) + 1 * (J.val % 2048); omega

end Cert.RingProof

end
-- ==== Proof.Whole.lean ====
/-
The reference's result by its coordinates, each device's result as its row block of it, and the value claim.
-/
module

public import proofs.«01_k».proof.Defs
public import proofs.«01_k».proof.Proof.Same
public import proofs.«01_k».proof.Proof.Gen.ReferenceIdeal.Run
public import proofs.«01_k».proof.Proof.Quant

@[expose] public section

noncomputable section

namespace Cert.RingProof

open Cert.KernelIdeal Cert.KernelIdeal.Gen
open Idealize.ShloMosaic Idealize.ShloMosaic.TcCoe Idealize.SL.Sem

variable (m : (ℓ : Loc nD τ sig) → Buf (Elt Ideal) ℓ)

/-! ## The reference's arrays -/

/-- The reference's product, its largest magnitude and its step, as arrays. -/
def refY (x : FVec Ideal Cert.ReferenceIdeal.S4096x4096 .f32) (w : FVec Ideal Cert.ReferenceIdeal.S4096x8192 .f32) :
    FVec Ideal Cert.ReferenceIdeal.S4096x8192 .f32 :=
  Host.dotGeneral Cert.ReferenceIdeal.dot_S4096x4096_S4096x8192_S4096x8192_1_0_0_1_n_n none x w
def refA (Y : FVec Ideal Cert.ReferenceIdeal.S4096x8192 .f32) : FVec Ideal Cert.ReferenceIdeal.S_ .f32 :=
  Host.reduce FloatOps.maximumf (Host.absf Y) (constant Cert.ReferenceIdeal.S_ .f32 0xFF800000#32)
    Cert.ReferenceIdeal.Facts₀.reducesTo_S4096x8192_S_d0_1 Cert.ReferenceIdeal.Facts₀.h_S_
def refB (A : FVec Ideal Cert.ReferenceIdeal.S_ .f32) : FVec Ideal Cert.ReferenceIdeal.S4096x8192 .f32 :=
  broadcastInDim Cert.ReferenceIdeal.S4096x8192 ![] Cert.ReferenceIdeal.Facts₀.bcast_S_S4096x8192 A
/-- The reference's result from its product and its largest magnitude. -/
def refQ (Y : FVec Ideal Cert.ReferenceIdeal.S4096x8192 .f32) (A : FVec Ideal Cert.ReferenceIdeal.S_ .f32) :
    FVec Ideal Cert.ReferenceIdeal.S4096x8192 .f32 :=
  mulf (minimumf (refB (id (constant Cert.ReferenceIdeal.S_ .f32 0x42FE0000#32)))
    (maximumf (refB (id (constant Cert.ReferenceIdeal.S_ .f32 0xC2FE0000#32)))
      (Host.roundeven (Host.divf Y (refB (Host.divf A (constant Cert.ReferenceIdeal.S_ .f32 0x42FE0000#32)))))))
    (refB (Host.divf A (constant Cert.ReferenceIdeal.S_ .f32 0x42FE0000#32)))

theorem refY_apply (x : FVec Ideal Cert.ReferenceIdeal.S4096x4096 .f32) (w : FVec Ideal Cert.ReferenceIdeal.S4096x8192 .f32) (R : Fin 4096) (J : Fin 8192) :
    refY x w (ix2 R J) = ∑ k : Fin 4096, x (ix2 R k) * w (ix2 k J) := by
  unfold refY
  pointwise

theorem refA_le (Y : FVec Ideal Cert.ReferenceIdeal.S4096x8192 .f32) (j : Cert.ReferenceIdeal.S_.Idx) (b : EReal) :
    refA Y j ≤ b ↔ ∀ R J, mag (Y (ix2 R J)) ≤ b := by
  unfold refA
  refine (hostReduction_le _ _ (fun _ => word_bot) _ _ j b).trans ?_
  constructor
  · intro H R J
    exact H (ix2 R J)
  · intro H i
    rw [eq_ix2 i]
    exact H _ _

theorem refQ_apply (Y : FVec Ideal Cert.ReferenceIdeal.S4096x8192 .f32) (A : FVec Ideal Cert.ReferenceIdeal.S_ .f32) (R : Fin 4096) (J : Fin 8192) :
    refQ Y A (ix2 R J) = quantR (A ix0) (Y (ix2 R J)) := by
  unfold refQ refB quantR
  rw [← word_127, ← word_neg127]
  pointwise
  rfl

/-! ## The two sides meet -/

variable (x : FVec Ideal Cert.ReferenceIdeal.S4096x4096 .f32) (w : FVec Ideal Cert.ReferenceIdeal.S4096x8192 .f32)

/-- Where every device holds its columns of `x` and its rows of `w`, the sum of the devices' products is the product of the
whole arrays: the sum over 4096 positions in eight blocks of 512. -/
theorem yE_eq (hx : ∀ e : Dev nD, xOf m e = Layout.block ⟨2, ![4096, 512]⟩ ⟨2, ![4096, 4096]⟩ 1 8 e x)
    (hw : ∀ e : Dev nD, wOf m e = Layout.block ⟨2, ![512, 8192]⟩ ⟨2, ![4096, 8192]⟩ 0 8 e w) (R : Fin 4096) (J : Fin 8192) :
    yE m R J = refY x w (ix2 R J) := by
  rw [refY_apply]
  have hs : ∑ k : Fin 4096, x (ix2 R k) * w (ix2 k J)
      = ∑ p : Fin 8 × Fin 512, x (ix2 R (finProdFinEquiv p : Fin (8 * 512))) * w (ix2 (finProdFinEquiv p : Fin (8 * 512)) J) :=
    (Equiv.sum_comp (finProdFinEquiv (m := 8) (n := 512)) fun k : Fin (8 * 512) => x (ix2 R k) * w (ix2 k J)).symm
  rw [hs, Fintype.sum_prod_type]
  unfold yE prodE
  refine Finset.sum_congr rfl fun e _ => Finset.sum_congr rfl fun k _ => ?_
  rw [hx, hw, Layout.block_apply, Layout.block_apply]
  refine congrArg₂ (fun S T : EReal => S * T) (congrArg x ?_) (congrArg w ?_)
  · funext a
    apply Fin.ext
    match a with
    | ⟨0, _⟩ => rfl
    | ⟨1, _⟩ => show e.val * 512 + k.val = k.val + 512 * e.val; omega
  · funext a
    apply Fin.ext
    match a with
    | ⟨0, _⟩ => show e.val * 512 + k.val = k.val + 512 * e.val; omega
    | ⟨1, _⟩ => rfl

/-- Both sides' largest magnitudes are one number, -/
theorem gmax_eq (hx : ∀ e : Dev nD, xOf m e = Layout.block ⟨2, ![4096, 512]⟩ ⟨2, ![4096, 4096]⟩ 1 8 e x)
    (hw : ∀ e : Dev nD, wOf m e = Layout.block ⟨2, ![512, 8192]⟩ ⟨2, ![4096, 8192]⟩ 0 8 e w) :
    gmaxV (aAll m) = refA (refY x w) ix0 :=
  eq_of_forall_ge_iff (α := EReal) fun b => by
    rw [gmax_le, refA_le]
    exact forall_congr' fun R => forall_congr' fun J => by rw [yE_eq m x w hx hw]

/-- and device `d`'s result is its row block of the reference's. -/
theorem result_eq (hx : ∀ e : Dev nD, xOf m e = Layout.block ⟨2, ![4096, 512]⟩ ⟨2, ![4096, 4096]⟩ 1 8 e x)
    (hw : ∀ e : Dev nD, wOf m e = Layout.block ⟨2, ![512, 8192]⟩ ⟨2, ![4096, 8192]⟩ 0 8 e w)
    (d : Dev nD) (f : Buf (Elt Ideal) ((d : Thread nD τ).loc main_v1)) (hf : ∀ t, (oV t).view.read (Elt Ideal) f = outT m d t) :
    (f : S512x8192.Idx → EReal) = Layout.block ⟨2, ![512, 8192]⟩ ⟨2, ![4096, 8192]⟩ 0 8 d (refQ (refY x w) (refA (refY x w))) := by
  refine funext fun (i : S512x8192.Idx) => ?_
  obtain ⟨I, J, rfl⟩ : ∃ (I : Fin 512) (J : Fin 8192), i = ix2 I J := ⟨_, _, eq_ix2 i⟩
  refine (result_apply m d f hf I J).trans ?_
  rw [gmax_eq m x w hx hw, yE_eq m x w hx hw, quant_eq, ← refQ_apply, Layout.block_apply]
  refine congrArg (refQ (refY x w) (refA (refY x w))) ?_
  funext a
  apply Fin.ext
  match a with
  | ⟨0, _⟩ => show 512 * d.val + I.val = d.val * 512 + I.val; omega
  | ⟨1, _⟩ => rfl

/-! ## The value claim -/

omit m x w in
/-- From blocks of the same whole arrays, every device's result is its row block of what the reference computes. -/
theorem values : Cert.algebraic_KernelIdeal_ReferenceIdeal (hKernelIdeal := Cert.KernelIdeal.Gen.facts) (hReferenceIdeal := Cert.ReferenceIdeal.Gen.facts) := by
  intro m g m' g' _ h
  refine ⟨refQ (refY (m' ((0 : Dev Cert.ReferenceIdeal.nD).tc.loc Cert.ReferenceIdeal.main_arg0)) (m' ((0 : Dev Cert.ReferenceIdeal.nD).tc.loc Cert.ReferenceIdeal.main_arg1)))
    (refA (refY (m' ((0 : Dev Cert.ReferenceIdeal.nD).tc.loc Cert.ReferenceIdeal.main_arg0)) (m' ((0 : Dev Cert.ReferenceIdeal.nD).tc.loc Cert.ReferenceIdeal.main_arg1)))), ?_, ?_⟩
  · exact (θ_run _ _ _).mono (fun r hr c =>
      ⟨result_eq m _ _ (fun e => (h e).1) (fun e => (h e).2) c _ (hr.1 c).2.2, (hr.1 c).1, (hr.1 c).2.1⟩) (run_main (F := Ideal) m g)
  · exact (θ_run _ _ _).mono (fun r hr => hr 0) (Cert.ReferenceIdeal.Value.run (F := Ideal) m' g')

end Cert.RingProof

end
-- ==== Proof.lean ====
/- The claims about the kernel and its reference, assembled from the modules under proof/Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent
public import proofs.«01_k».proof.Proof.Same
public import proofs.«01_k».proof.Proof.Whole
public import Idealize.ShloMosaic.Adequacy
public import Idealize.ShloMosaic.Init

@[expose] public section

noncomputable section

namespace Cert.Proof

open Idealize.ShloMosaic Idealize.SL.Sem Cert.Kernel

/-- The reference keeps its arguments, and it has no semaphore at all. -/
theorem frame_r : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  fun m g _ => Cert.RingProof.run_kernel (F := Bits) m g,
  fun m g _ => Cert.RingProof.run_ideal (F := Ideal) m g,
  frame_r, trivial, Cert.RingProof.values⟩

end Cert.Proof

end
